-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "bn" .f32 0x3F800000#32 (((Real.sqrt (2097173 / 2097152))⁻¹ : ℝ) : EReal)
  ∧ IdealRules.named_const.Statement Cert.KernelIdeal.κ "mask" .f32 0xF149F2CA#32 ⊥
  ∧ IdealRules.named_const.Statement Cert.KernelIdeal.κ "bn" .f32 0x3F7FFFAC#32 (((Real.sqrt (2097173 / 2097152))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1024 : Shape := ⟨3, ![8, 4096, 1024]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x2 : Shape := ⟨2, ![256, 2]⟩
abbrev S2 : Shape := ⟨1, ![2]⟩
abbrev S_ : Shape := ⟨0, ![]⟩

class Facts : Prop where
  bcast_S_S8x4096x1024 : S_.BroadcastsInDim S8x4096x1024 (![] : Fin 0 → Fin S8x4096x1024.rank)
  bcast_S_S1024x256 : S_.BroadcastsInDim S1024x256 (![] : Fin 0 → Fin S1024x256.rank)
  bcast_S_S256 : S_.BroadcastsInDim S256 (![] : Fin 0 → Fin S256.rank)

variable [Facts]

def fn {F : FTy → Type} [FloatOps F] (main_arg0 : FVec F S8x4096x1024 .f32) (main_arg1 : FVec F S1024x256 .f32) (main_arg2 : FVec F S256 .f32) (main_arg3 : FVec F S256x256 .f32) (main_arg4 : FVec F S256 .f32) (main_arg5 : FVec F S256x1 .f32) (main_arg6 : FVec F S1 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256x1 .f32) (main_arg14 : FVec F S1 .f32) (main_arg15 : FVec F S256 .f32) (main_arg16 : FVec F S256 .f32) (main_arg17 : FVec F S256x2 .f32) (main_arg18 : FVec F S2 .f32) : IVec S8x4096x1024 1 × IVec S1024x256 1 × IVec S256 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  (main_v2, main_v5, main_v8)
-- ==== Kernel.lean ====
abbrev S8x4096x1024 : Shape := ⟨3, ![8, 4096, 1024]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x2 : Shape := ⟨2, ![256, 2]⟩
abbrev S2 : Shape := ⟨1, ![2]⟩
abbrev S_ : Shape := ⟨0, ![]⟩
abbrev S256x128 : Shape := ⟨2, ![256, 128]⟩
abbrev S1x128 : Shape := ⟨2, ![1, 128]⟩
abbrev S1x2 : Shape := ⟨2, ![1, 2]⟩
abbrev S1x256 : Shape := ⟨2, ![1, 256]⟩
abbrev S1x1 : Shape := ⟨2, ![1, 1]⟩
abbrev S8x1x128 : Shape := ⟨3, ![8, 1, 128]⟩
abbrev S1x1024x1024 : Shape := ⟨3, ![1, 1024, 1024]⟩
abbrev S32768x256 : Shape := ⟨2, ![32768, 256]⟩
abbrev S1x32768 : Shape := ⟨2, ![1, 32768]⟩
abbrev S1024x1024 : Shape := ⟨2, ![1024, 1024]⟩
abbrev S1x1024 : Shape := ⟨2, ![1, 1024]⟩
abbrev S10x4096 : Shape := ⟨2, ![10, 4096]⟩
abbrev S4096x256 : Shape := ⟨2, ![4096, 256]⟩
abbrev S10x256 : Shape := ⟨2, ![10, 256]⟩
abbrev S10 : Shape := ⟨1, ![10]⟩
abbrev S10x1 : Shape := ⟨2, ![10, 1]⟩
abbrev S4096 : Shape := ⟨1, ![4096]⟩
abbrev S1x4096 : Shape := ⟨2, ![1, 4096]⟩
abbrev S1x10x1 : Shape := ⟨3, ![1, 10, 1]⟩
abbrev S1x1x1 : Shape := ⟨3, ![1, 1, 1]⟩
abbrev S1x1x128 : Shape := ⟨3, ![1, 1, 128]⟩
abbrev S8x1x2 : Shape := ⟨3, ![8, 1, 2]⟩
abbrev S8x2 : Shape := ⟨2, ![8, 2]⟩

abbrev nBuf : Space → Nat
  | .hbm => 43
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1024x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S256, .f32⟩
  | .hbm, ⟨16, _⟩ => ⟨S256, .f32⟩
  | .hbm, ⟨17, _⟩ => ⟨S256x2, .f32⟩
  | .hbm, ⟨18, _⟩ => ⟨S2, .f32⟩
  | .hbm, ⟨19, _⟩ => ⟨S_, .f32⟩
  | .hbm, ⟨20, _⟩ => ⟨S256x128, .f32⟩
  | .hbm, ⟨21, _⟩ => ⟨S_, .i32⟩
  | .hbm, ⟨22, _⟩ => ⟨S1, .i32⟩
  | .hbm, ⟨23, _⟩ => ⟨S256x128, .f32⟩
  | .hbm, ⟨24, _⟩ => ⟨S_, .f32⟩
  | .hbm, ⟨25, _⟩ => ⟨S1x128, .f32⟩
  | .hbm, ⟨26, _⟩ => ⟨S1x2, .f32⟩
  | .hbm, ⟨27, _⟩ => ⟨S_, .i32⟩
  | .hbm, ⟨28, _⟩ => ⟨S1, .i32⟩
  | .hbm, ⟨29, _⟩ => ⟨S1x128, .f32⟩
  | .hbm, ⟨30, _⟩ => ⟨S1x256, .f32⟩
  | .hbm, ⟨31, _⟩ => ⟨S1x256, .f32⟩
  | .hbm, ⟨32, _⟩ => ⟨S1x1, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x1, .f32⟩
  | .hbm, ⟨38, _⟩ => ⟨S1x256, .f32⟩
  | .hbm, ⟨39, _⟩ => ⟨S1x256, .f32⟩
  | .hbm, ⟨40, _⟩ => ⟨S8x1x128, .f32⟩
  | .hbm, ⟨41, _⟩ => ⟨S8x1x2, .f32⟩
  | .hbm, ⟨42, _⟩ => ⟨S8x2, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x1, .f32⟩
  | .local _ .vmem, ⟨15, _⟩ => ⟨S1x1, .f32⟩
  | .local _ .vmem, ⟨16, _⟩ => ⟨S1x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S8x1x128, .f32⟩
  | .local _ .vmem, ⟨21, _⟩ => ⟨S32768x256, .bf16⟩
  | .local _ .vmem, ⟨22, _⟩ => ⟨S32768x256, .bf16⟩
  | .local _ .vmem, ⟨23, _⟩ => ⟨S1x32768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let c4096_i32 : BitVec 32 := 4096#32
  let v27 : BitVec 32 := Scalar.muli arg0 c4096_i32
  let arg1 : BitVec 32 := BitVec.ofNat 32 (i 1).val
  let c1024_i32 : BitVec 32 := 1024#32
  let v28 : BitVec 32 := Scalar.muli arg1 c1024_i32
  let v29 : BitVec 32 := Scalar.addi v27 v28
  let v30 : Index := Scalar.indexCast v29
  let c0_17 : Index := 0#32
  ![v30.toNat, 0]
def k0_off2 (i : grid0.Coords) : Fin 2 → Nat :=
  let c0_19 : Index := 0#32
  let arg0 : BitVec 32 := BitVec.ofNat 32 (i 0).val
  let c4096_i32 : BitVec 32 := 4096#32
  let v27 : BitVec 32 := Scalar.muli arg0 c4096_i32
  let arg1 : BitVec 32 := BitVec.ofNat 32 (i 1).val
  let c1024_i32 : BitVec 32 := 1024#32
  let v28 : BitVec 32 := Scalar.muli arg1 c1024_i32
  let v29 : BitVec 32 := Scalar.addi v27 v28
  let v38 : Index := Scalar.indexCast v29
  ![0, v38.toNat]
def k0_cond1 (i : grid0.Coords) : BitVec 1 :=
  let arg0 : BitVec 32 := BitVec.ofNat 32 (i 0).val
  let c7_i32 : BitVec 32 := 7#32
  let v42 : BitVec 1 := Scalar.cmpi .eq arg0 c7_i32
  let arg1 : BitVec 32 := BitVec.ofNat 32 (i 1).val
  let c3_i32 : BitVec 32 := 3#32
  let v43 : BitVec 1 := Scalar.cmpi .eq arg1 c3_i32
  let v44 : BitVec 1 := Scalar.andi v42 v43
  let v45 : BitVec 32 := Scalar.extui v44
  let c0_i32 : BitVec 32 := 0#32
  let v46 : BitVec 1 := Scalar.cmpi .ne v45 c0_i32
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== KernelIdeal.lean ====
variable {F : FTy → Type} [FloatOps F] [Named F]
def κ : String → Option EReal := fun
  | "bn" => some (((Real.sqrt (2097173 / 2097152))⁻¹ : ℝ) : EReal)
  | "mask" => some ⊥
  | _ => none
-- ==== ReferenceIdeal.lean ====
abbrev S8x4096x1024 : Shape := ⟨3, ![8, 4096, 1024]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x2 : Shape := ⟨2, ![256, 2]⟩
abbrev S2 : Shape := ⟨1, ![2]⟩
abbrev S10 : Shape := ⟨1, ![10]⟩
abbrev S8x4096x256 : Shape := ⟨3, ![8, 4096, 256]⟩
abbrev S1x256 : Shape := ⟨2, ![1, 256]⟩
abbrev S1x1x256 : Shape := ⟨3, ![1, 1, 256]⟩
abbrev S_ : Shape := ⟨0, ![]⟩
abbrev S10x1 : Shape := ⟨2, ![10, 1]⟩
abbrev S8x10x256 : Shape := ⟨3, ![8, 10, 256]⟩
abbrev S8x4096x1x256 : Shape := ⟨4, ![8, 4096, 1, 256]⟩
abbrev S8x1x10x256 : Shape := ⟨4, ![8, 1, 10, 256]⟩
abbrev S8x4096x10x256 : Shape := ⟨4, ![8, 4096, 10, 256]⟩
abbrev S8x4096x10 : Shape := ⟨3, ![8, 4096, 10]⟩
abbrev S8x4096 : Shape := ⟨2, ![8, 4096]⟩
abbrev S8x4096x1 : Shape := ⟨3, ![8, 4096, 1]⟩
abbrev S1x10 : Shape := ⟨2, ![1, 10]⟩
abbrev S1x1x10 : Shape := ⟨3, ![1, 1, 10]⟩
abbrev S8x4096x10x1 : Shape := ⟨4, ![8, 4096, 10, 1]⟩
abbrev S4096x10x256 : Shape := ⟨3, ![4096, 10, 256]⟩
abbrev S4096x1 : Shape := ⟨2, ![4096, 1]⟩
abbrev S4096x1x1 : Shape := ⟨3, ![4096, 1, 1]⟩
abbrev S4096x10x1 : Shape := ⟨3, ![4096, 10, 1]⟩
abbrev S8x10x1 : Shape := ⟨3, ![8, 10, 1]⟩
abbrev S1x1 : Shape := ⟨2, ![1, 1]⟩
abbrev S1x1x1 : Shape := ⟨3, ![1, 1, 1]⟩
abbrev S4096x10 : Shape := ⟨2, ![4096, 10]⟩
abbrev S8x10 : Shape := ⟨2, ![8, 10]⟩
abbrev S8x4096x1x1 : Shape := ⟨4, ![8, 4096, 1, 1]⟩
abbrev S8x1 : Shape := ⟨2, ![8, 1]⟩
abbrev S8x1x1 : Shape := ⟨3, ![8, 1, 1]⟩
abbrev S8x256 : Shape := ⟨2, ![8, 256]⟩
abbrev S8x2 : Shape := ⟨2, ![8, 2]⟩
abbrev S1x2 : Shape := ⟨2, ![1, 2]⟩

abbrev nBuf : Space → Nat
  | .hbm => 480
  | .vmem => 0
  | .smem => 0
  | _ => 0

abbrev hbmTy0_0 (i : Nat) : BufTy := match i % 128 with
  | 0 => ⟨S8x4096x1024, .f32⟩
  | 1 => ⟨S1024x256, .f32⟩
  | 2 => ⟨S256, .f32⟩
  | 3 => ⟨S256x256, .f32⟩
  | 4 => ⟨S256, .f32⟩
  | 5 => ⟨S256x1, .f32⟩
  | 6 => ⟨S1, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x1, .f32⟩
  | 14 => ⟨S1, .f32⟩
  | 15 => ⟨S256, .f32⟩
  | 16 => ⟨S256, .f32⟩
  | 17 => ⟨S256x2, .f32⟩
  | 18 => ⟨S2, .f32⟩
  | 19 => ⟨S10, .i32⟩
  | 20 => ⟨S10, .i1⟩
  | 21 => ⟨S8x4096x256, .f32⟩
  | 22 => ⟨S1x256, .f32⟩
  | 23 => ⟨S1x1x256, .f32⟩
  | 24 => ⟨S8x4096x256, .f32⟩
  | 25 => ⟨S8x4096x256, .f32⟩
  | 26 => ⟨S_, .f32⟩
  | 27 => ⟨S8x4096x256, .f32⟩
  | 28 => ⟨S8x4096x256, .f32⟩
  | 29 => ⟨S_, .i32⟩
  | 30 => ⟨S10, .i32⟩
  | 31 => ⟨S10, .i32⟩
  | 32 => ⟨S10, .i32⟩
  | 33 => ⟨S10x1, .i32⟩
  | 34 => ⟨S8x10x256, .f32⟩
  | 35 => ⟨S8x4096x1x256, .f32⟩
  | 36 => ⟨S8x1x10x256, .f32⟩
  | 37 => ⟨S8x4096x10x256, .f32⟩
  | 38 => ⟨S8x4096x10x256, .f32⟩
  | 39 => ⟨S8x4096x10x256, .f32⟩
  | 40 => ⟨S8x4096x10x256, .f32⟩
  | 41 => ⟨S_, .f32⟩
  | 42 => ⟨S8x4096x10, .f32⟩
  | 43 => ⟨S8x4096x10, .i32⟩
  | 44 => ⟨S_, .f32⟩
  | 45 => ⟨S_, .i32⟩
  | 46 => ⟨S8x4096, .f32⟩
  | 47 => ⟨S8x4096, .i32⟩
  | 48 => ⟨S8x4096x1, .i32⟩
  | 49 => ⟨S10, .i32⟩
  | 50 => ⟨S1x10, .i32⟩
  | 51 => ⟨S1x1x10, .i32⟩
  | 52 => ⟨S8x4096x10, .i32⟩
  | 53 => ⟨S8x4096x10, .i32⟩
  | 54 => ⟨S8x4096x10, .i1⟩
  | 55 => ⟨S8x4096x10x1, .i1⟩
  | 56 => ⟨S8x4096x1x256, .f32⟩
  | 57 => ⟨S_, .f32⟩
  | 58 => ⟨S_, .f32⟩
  | 59 => ⟨S8x4096x10x256, .i1⟩
  | 60 => ⟨S8x4096x10x256, .f32⟩
  | 61 => ⟨S4096x10x256, .f32⟩
  | 62 => ⟨S8x4096x10x256, .f32⟩
  | 63 => ⟨S8x4096x10x256, .f32⟩
  | 64 => ⟨S_, .f32⟩
  | 65 => ⟨S8x10x256, .f32⟩
  | 66 => ⟨S_, .f32⟩
  | 67 => ⟨S4096x1, .f32⟩
  | 68 => ⟨S8x4096x1, .i32⟩
  | 69 => ⟨S10, .i32⟩
  | 70 => ⟨S1x10, .i32⟩
  | 71 => ⟨S1x1x10, .i32⟩
  | 72 => ⟨S8x4096x10, .i32⟩
  | 73 => ⟨S8x4096x10, .i32⟩
  | 74 => ⟨S8x4096x10, .i1⟩
  | 75 => ⟨S8x4096x10x1, .i1⟩
  | 76 => ⟨S4096x1x1, .f32⟩
  | 77 => ⟨S_, .f32⟩
  | 78 => ⟨S_, .f32⟩
  | 79 => ⟨S4096x10x1, .f32⟩
  | 80 => ⟨S4096x10x1, .f32⟩
  | 81 => ⟨S8x4096x10x1, .f32⟩
  | 82 => ⟨S8x4096x10x1, .f32⟩
  | 83 => ⟨S8x4096x10x1, .f32⟩
  | 84 => ⟨S_, .f32⟩
  | 85 => ⟨S8x10x1, .f32⟩
  | 86 => ⟨S_, .f32⟩
  | 87 => ⟨S8x10x1, .f32⟩
  | 88 => ⟨S8x10x1, .f32⟩
  | 89 => ⟨S8x10x256, .f32⟩
  | 90 => ⟨S8x10x256, .f32⟩
  | 91 => ⟨S8x4096x1x256, .f32⟩
  | 92 => ⟨S8x1x10x256, .f32⟩
  | 93 => ⟨S8x4096x10x256, .f32⟩
  | 94 => ⟨S8x4096x10x256, .f32⟩
  | 95 => ⟨S8x4096x10x256, .f32⟩
  | 96 => ⟨S8x4096x10x256, .f32⟩
  | 97 => ⟨S_, .f32⟩
  | 98 => ⟨S8x4096x10, .f32⟩
  | 99 => ⟨S8x4096x10, .i32⟩
  | 100 => ⟨S_, .f32⟩
  | 101 => ⟨S_, .i32⟩
  | 102 => ⟨S8x4096, .f32⟩
  | 103 => ⟨S8x4096, .i32⟩
  | 104 => ⟨S8x4096x1, .i32⟩
  | 105 => ⟨S10, .i32⟩
  | 106 => ⟨S1x10, .i32⟩
  | 107 => ⟨S1x1x10, .i32⟩
  | 108 => ⟨S8x4096x10, .i32⟩
  | 109 => ⟨S8x4096x10, .i32⟩
  | 110 => ⟨S8x4096x10, .i1⟩
  | 111 => ⟨S8x4096x10x1, .i1⟩
  | 112 => ⟨S8x4096x1x256, .f32⟩
  | 113 => ⟨S_, .f32⟩
  | 114 => ⟨S_, .f32⟩
  | 115 => ⟨S8x4096x10x256, .i1⟩
  | 116 => ⟨S8x4096x10x256, .f32⟩
  | 117 => ⟨S4096x10x256, .f32⟩
  | 118 => ⟨S8x4096x10x256, .f32⟩
  | 119 => ⟨S8x4096x10x256, .f32⟩
  | 120 => ⟨S_, .f32⟩
  | 121 => ⟨S8x10x256, .f32⟩
  | 122 => ⟨S_, .f32⟩
  | 123 => ⟨S4096x1, .f32⟩
  | 124 => ⟨S8x4096x1, .i32⟩
  | 125 => ⟨S10, .i32⟩
  | 126 => ⟨S1x10, .i32⟩
  | 127 => ⟨S1x1x10, .i32⟩
  | _ => ⟨S8x4096x1024, .f32⟩

abbrev hbmTy0_1 (i : Nat) : BufTy := match i % 128 with
  | 0 => ⟨S8x4096x10, .i32⟩
  | 1 => ⟨S8x4096x10, .i32⟩
  | 2 => ⟨S8x4096x10, .i1⟩
  | 3 => ⟨S8x4096x10x1, .i1⟩
  | 4 => ⟨S4096x1x1, .f32⟩
  | 5 => ⟨S_, .f32⟩
  | 6 => ⟨S_, .f32⟩
  | 7 => ⟨S4096x10x1, .f32⟩
  | 8 => ⟨S4096x10x1, .f32⟩
  | 9 => ⟨S8x4096x10x1, .f32⟩
  | 10 => ⟨S8x4096x10x1, .f32⟩
  | 11 => ⟨S8x4096x10x1, .f32⟩
  | 12 => ⟨S_, .f32⟩
  | 13 => ⟨S8x10x1, .f32⟩
  | 14 => ⟨S_, .f32⟩
  | 15 => ⟨S8x10x1, .f32⟩
  | 16 => ⟨S8x10x1, .f32⟩
  | 17 => ⟨S8x10x256, .f32⟩
  | 18 => ⟨S8x10x256, .f32⟩
  | 19 => ⟨S8x4096x1x256, .f32⟩
  | 20 => ⟨S8x1x10x256, .f32⟩
  | 21 => ⟨S8x4096x10x256, .f32⟩
  | 22 => ⟨S8x4096x10x256, .f32⟩
  | 23 => ⟨S8x4096x10x256, .f32⟩
  | 24 => ⟨S8x4096x10x256, .f32⟩
  | 25 => ⟨S_, .f32⟩
  | 26 => ⟨S8x4096x10, .f32⟩
  | 27 => ⟨S8x4096x10, .i32⟩
  | 28 => ⟨S_, .f32⟩
  | 29 => ⟨S_, .i32⟩
  | 30 => ⟨S8x4096, .f32⟩
  | 31 => ⟨S8x4096, .i32⟩
  | 32 => ⟨S8x4096x1, .i32⟩
  | 33 => ⟨S10, .i32⟩
  | 34 => ⟨S1x10, .i32⟩
  | 35 => ⟨S1x1x10, .i32⟩
  | 36 => ⟨S8x4096x10, .i32⟩
  | 37 => ⟨S8x4096x10, .i32⟩
  | 38 => ⟨S8x4096x10, .i1⟩
  | 39 => ⟨S8x4096x10x1, .i1⟩
  | 40 => ⟨S8x4096x1x256, .f32⟩
  | 41 => ⟨S_, .f32⟩
  | 42 => ⟨S_, .f32⟩
  | 43 => ⟨S8x4096x10x256, .i1⟩
  | 44 => ⟨S8x4096x10x256, .f32⟩
  | 45 => ⟨S4096x10x256, .f32⟩
  | 46 => ⟨S8x4096x10x256, .f32⟩
  | 47 => ⟨S8x4096x10x256, .f32⟩
  | 48 => ⟨S_, .f32⟩
  | 49 => ⟨S8x10x256, .f32⟩
  | 50 => ⟨S_, .f32⟩
  | 51 => ⟨S4096x1, .f32⟩
  | 52 => ⟨S8x4096x1, .i32⟩
  | 53 => ⟨S10, .i32⟩
  | 54 => ⟨S1x10, .i32⟩
  | 55 => ⟨S1x1x10, .i32⟩
  | 56 => ⟨S8x4096x10, .i32⟩
  | 57 => ⟨S8x4096x10, .i32⟩
  | 58 => ⟨S8x4096x10, .i1⟩
  | 59 => ⟨S8x4096x10x1, .i1⟩
  | 60 => ⟨S4096x1x1, .f32⟩
  | 61 => ⟨S_, .f32⟩
  | 62 => ⟨S_, .f32⟩
  | 63 => ⟨S4096x10x1, .f32⟩
  | 64 => ⟨S4096x10x1, .f32⟩
  | 65 => ⟨S8x4096x10x1, .f32⟩
  | 66 => ⟨S8x4096x10x1, .f32⟩
  | 67 => ⟨S8x4096x10x1, .f32⟩
  | 68 => ⟨S_, .f32⟩
  | 69 => ⟨S8x10x1, .f32⟩
  | 70 => ⟨S_, .f32⟩
  | 71 => ⟨S8x10x1, .f32⟩
  | 72 => ⟨S8x10x1, .f32⟩
  | 73 => ⟨S8x10x256, .f32⟩
  | 74 => ⟨S8x10x256, .f32⟩
  | 75 => ⟨S8x4096x1x256, .f32⟩
  | 76 => ⟨S8x1x10x256, .f32⟩
  | 77 => ⟨S8x4096x10x256, .f32⟩
  | 78 => ⟨S8x4096x10x256, .f32⟩
  | 79 => ⟨S8x4096x10x256, .f32⟩
  | 80 => ⟨S8x4096x10x256, .f32⟩
  | 81 => ⟨S_, .f32⟩
  | 82 => ⟨S8x4096x10, .f32⟩
  | 83 => ⟨S8x4096x10, .i32⟩
  | 84 => ⟨S_, .f32⟩
  | 85 => ⟨S_, .i32⟩
  | 86 => ⟨S8x4096, .f32⟩
  | 87 => ⟨S8x4096, .i32⟩
  | 88 => ⟨S8x4096x1, .i32⟩
  | 89 => ⟨S10, .i32⟩
  | 90 => ⟨S1x10, .i32⟩
  | 91 => ⟨S1x1x10, .i32⟩
  | 92 => ⟨S8x4096x10, .i32⟩
  | 93 => ⟨S8x4096x10, .i32⟩
  | 94 => ⟨S8x4096x10, .i1⟩
  | 95 => ⟨S8x4096x10x1, .i1⟩
  | 96 => ⟨S8x4096x1x256, .f32⟩
  | 97 => ⟨S_, .f32⟩
  | 98 => ⟨S_, .f32⟩
  | 99 => ⟨S8x4096x10x256, .i1⟩
  | 100 => ⟨S8x4096x10x256, .f32⟩
  | 101 => ⟨S4096x10x256, .f32⟩
  | 102 => ⟨S8x4096x10x256, .f32⟩
  | 103 => ⟨S8x4096x10x256, .f32⟩
  | 104 => ⟨S_, .f32⟩
  | 105 => ⟨S8x10x256, .f32⟩
  | 106 => ⟨S_, .f32⟩
  | 107 => ⟨S4096x1, .f32⟩
  | 108 => ⟨S8x4096x1, .i32⟩
  | 109 => ⟨S10, .i32⟩
  | 110 => ⟨S1x10, .i32⟩
  | 111 => ⟨S1x1x10, .i32⟩
  | 112 => ⟨S8x4096x10, .i32⟩
  | 113 => ⟨S8x4096x10, .i32⟩
  | 114 => ⟨S8x4096x10, .i1⟩
  | 115 => ⟨S8x4096x10x1, .i1⟩
  | 116 => ⟨S4096x1x1, .f32⟩
  | 117 => ⟨S_, .f32⟩
  | 118 => ⟨S_, .f32⟩
  | 119 => ⟨S4096x10x1, .f32⟩
  | 120 => ⟨S4096x10x1, .f32⟩
  | 121 => ⟨S8x4096x10x1, .f32⟩
  | 122 => ⟨S8x4096x10x1, .f32⟩
  | 123 => ⟨S8x4096x10x1, .f32⟩
  | 124 => ⟨S_, .f32⟩
  | 125 => ⟨S8x10x1, .f32⟩
  | 126 => ⟨S_, .f32⟩
  | 127 => ⟨S8x10x1, .f32⟩
  | _ => ⟨S8x4096x1024, .f32⟩

abbrev hbmTy0_2 (i : Nat) : BufTy := match i % 128 with
  | 0 => ⟨S8x10x1, .f32⟩
  | 1 => ⟨S8x10x256, .f32⟩
  | 2 => ⟨S8x10x256, .f32⟩
  | 3 => ⟨S8x4096x1x256, .f32⟩
  | 4 => ⟨S8x1x10x256, .f32⟩
  | 5 => ⟨S8x4096x10x256, .f32⟩
  | 6 => ⟨S8x4096x10x256, .f32⟩
  | 7 => ⟨S8x4096x10x256, .f32⟩
  | 8 => ⟨S8x4096x10x256, .f32⟩
  | 9 => ⟨S_, .f32⟩
  | 10 => ⟨S8x4096x10, .f32⟩
  | 11 => ⟨S8x4096x10, .i32⟩
  | 12 => ⟨S_, .f32⟩
  | 13 => ⟨S_, .i32⟩
  | 14 => ⟨S8x4096, .f32⟩
  | 15 => ⟨S8x4096, .i32⟩
  | 16 => ⟨S8x4096x1, .i32⟩
  | 17 => ⟨S10, .i32⟩
  | 18 => ⟨S1x10, .i32⟩
  | 19 => ⟨S1x1x10, .i32⟩
  | 20 => ⟨S8x4096x10, .i32⟩
  | 21 => ⟨S8x4096x10, .i32⟩
  | 22 => ⟨S8x4096x10, .i1⟩
  | 23 => ⟨S8x4096x10x1, .i1⟩
  | 24 => ⟨S8x4096x1x256, .f32⟩
  | 25 => ⟨S_, .f32⟩
  | 26 => ⟨S_, .f32⟩
  | 27 => ⟨S8x4096x10x256, .i1⟩
  | 28 => ⟨S8x4096x10x256, .f32⟩
  | 29 => ⟨S4096x10x256, .f32⟩
  | 30 => ⟨S8x4096x10x256, .f32⟩
  | 31 => ⟨S8x4096x10x256, .f32⟩
  | 32 => ⟨S_, .f32⟩
  | 33 => ⟨S8x10x256, .f32⟩
  | 34 => ⟨S_, .f32⟩
  | 35 => ⟨S4096x1, .f32⟩
  | 36 => ⟨S8x4096x1, .i32⟩
  | 37 => ⟨S10, .i32⟩
  | 38 => ⟨S1x10, .i32⟩
  | 39 => ⟨S1x1x10, .i32⟩
  | 40 => ⟨S8x4096x10, .i32⟩
  | 41 => ⟨S8x4096x10, .i32⟩
  | 42 => ⟨S8x4096x10, .i1⟩
  | 43 => ⟨S8x4096x10x1, .i1⟩
  | 44 => ⟨S4096x1x1, .f32⟩
  | 45 => ⟨S_, .f32⟩
  | 46 => ⟨S_, .f32⟩
  | 47 => ⟨S4096x10x1, .f32⟩
  | 48 => ⟨S4096x10x1, .f32⟩
  | 49 => ⟨S8x4096x10x1, .f32⟩
  | 50 => ⟨S8x4096x10x1, .f32⟩
  | 51 => ⟨S8x4096x10x1, .f32⟩
  | 52 => ⟨S_, .f32⟩
  | 53 => ⟨S8x10x1, .f32⟩
  | 54 => ⟨S_, .f32⟩
  | 55 => ⟨S8x10x1, .f32⟩
  | 56 => ⟨S8x10x1, .f32⟩
  | 57 => ⟨S8x10x256, .f32⟩
  | 58 => ⟨S8x10x256, .f32⟩
  | 59 => ⟨S8x4096x1x256, .f32⟩
  | 60 => ⟨S8x1x10x256, .f32⟩
  | 61 => ⟨S8x4096x10x256, .f32⟩
  | 62 => ⟨S8x4096x10x256, .f32⟩
  | 63 => ⟨S8x4096x10x256, .f32⟩
  | 64 => ⟨S8x4096x10x256, .f32⟩
  | 65 => ⟨S_, .f32⟩
  | 66 => ⟨S8x4096x10, .f32⟩
  | 67 => ⟨S8x4096x10, .i32⟩
  | 68 => ⟨S_, .f32⟩
  | 69 => ⟨S_, .i32⟩
  | 70 => ⟨S8x4096, .f32⟩
  | 71 => ⟨S8x4096, .i32⟩
  | 72 => ⟨S8x4096x256, .f32⟩
  | 73 => ⟨S1x256, .f32⟩
  | 74 => ⟨S1x1x256, .f32⟩
  | 75 => ⟨S8x4096x256, .f32⟩
  | 76 => ⟨S8x4096x256, .f32⟩
  | 77 => ⟨S8x4096x256, .f32⟩
  | 78 => ⟨S8x4096x1, .f32⟩
  | 79 => ⟨S1x1, .f32⟩
  | 80 => ⟨S1x1x1, .f32⟩
  | 81 => ⟨S8x4096x1, .f32⟩
  | 82 => ⟨S8x4096x1, .f32⟩
  | 83 => ⟨S8x4096, .f32⟩
  | 84 => ⟨S8x4096x1, .i32⟩
  | 85 => ⟨S10, .i32⟩
  | 86 => ⟨S1x10, .i32⟩
  | 87 => ⟨S1x1x10, .i32⟩
  | 88 => ⟨S8x4096x10, .i32⟩
  | 89 => ⟨S8x4096x10, .i32⟩
  | 90 => ⟨S8x4096x10, .i1⟩
  | 91 => ⟨S8x4096x1, .f32⟩
  | 92 => ⟨S_, .f32⟩
  | 93 => ⟨S_, .f32⟩
  | 94 => ⟨S8x4096x10, .f32⟩
  | 95 => ⟨S4096x10, .f32⟩
  | 96 => ⟨S8x4096x10, .f32⟩
  | 97 => ⟨S8x4096x10, .f32⟩
  | 98 => ⟨S_, .f32⟩
  | 99 => ⟨S8x10, .f32⟩
  | 100 => ⟨S_, .i32⟩
  | 101 => ⟨S8x4096, .i32⟩
  | 102 => ⟨S8x4096, .i1⟩
  | 103 => ⟨S_, .i32⟩
  | 104 => ⟨S8x4096, .i32⟩
  | 105 => ⟨S8x4096, .i32⟩
  | 106 => ⟨S8x4096, .i32⟩
  | 107 => ⟨S8x4096x1, .i32⟩
  | 108 => ⟨S8x4096, .f32⟩
  | 109 => ⟨S8x4096, .f32⟩
  | 110 => ⟨S8x4096, .f32⟩
  | 111 => ⟨S8x4096x1, .f32⟩
  | 112 => ⟨S8x4096x1, .i32⟩
  | 113 => ⟨S10, .i32⟩
  | 114 => ⟨S1x10, .i32⟩
  | 115 => ⟨S1x1x10, .i32⟩
  | 116 => ⟨S8x4096x10, .i32⟩
  | 117 => ⟨S8x4096x10, .i32⟩
  | 118 => ⟨S8x4096x10, .i1⟩
  | 119 => ⟨S8x4096x10x1, .i1⟩
  | 120 => ⟨S8x4096x1x1, .f32⟩
  | 121 => ⟨S_, .f32⟩
  | 122 => ⟨S_, .f32⟩
  | 123 => ⟨S8x4096x10x1, .f32⟩
  | 124 => ⟨S4096x10x1, .f32⟩
  | 125 => ⟨S8x4096x10x1, .f32⟩
  | 126 => ⟨S8x4096x10x1, .f32⟩
  | 127 => ⟨S_, .f32⟩
  | _ => ⟨S8x4096x1024, .f32⟩

abbrev hbmTy0_3 (i : Nat) : BufTy := match i % 128 with
  | 0 => ⟨S8x10x1, .f32⟩
  | 1 => ⟨S8x10, .f32⟩
  | 2 => ⟨S_, .i32⟩
  | 3 => ⟨S8x4096, .i32⟩
  | 4 => ⟨S8x4096, .i1⟩
  | 5 => ⟨S_, .i32⟩
  | 6 => ⟨S8x4096, .i32⟩
  | 7 => ⟨S8x4096, .i32⟩
  | 8 => ⟨S8x4096, .i32⟩
  | 9 => ⟨S8x4096x1, .i32⟩
  | 10 => ⟨S8x4096, .f32⟩
  | 11 => ⟨S_, .f32⟩
  | 12 => ⟨S8x4096, .f32⟩
  | 13 => ⟨S8x4096, .f32⟩
  | 14 => ⟨S8x4096, .f32⟩
  | 15 => ⟨S8x4096x1, .f32⟩
  | 16 => ⟨S8x4096x256, .f32⟩
  | 17 => ⟨S8x4096x256, .f32⟩
  | 18 => ⟨S8x4096x1, .i32⟩
  | 19 => ⟨S10, .i32⟩
  | 20 => ⟨S1x10, .i32⟩
  | 21 => ⟨S1x1x10, .i32⟩
  | 22 => ⟨S8x4096x10, .i32⟩
  | 23 => ⟨S8x4096x10, .i32⟩
  | 24 => ⟨S8x4096x10, .i1⟩
  | 25 => ⟨S8x4096x10x1, .i1⟩
  | 26 => ⟨S8x4096x1x256, .f32⟩
  | 27 => ⟨S_, .f32⟩
  | 28 => ⟨S_, .f32⟩
  | 29 => ⟨S8x4096x10x256, .i1⟩
  | 30 => ⟨S8x4096x10x256, .f32⟩
  | 31 => ⟨S4096x10x256, .f32⟩
  | 32 => ⟨S8x4096x10x256, .f32⟩
  | 33 => ⟨S8x4096x10x256, .f32⟩
  | 34 => ⟨S_, .f32⟩
  | 35 => ⟨S8x10x256, .f32⟩
  | 36 => ⟨S_, .f32⟩
  | 37 => ⟨S_, .f32⟩
  | 38 => ⟨S_, .f32⟩
  | 39 => ⟨S8x10x256, .f32⟩
  | 40 => ⟨S8x10x256, .f32⟩
  | 41 => ⟨S1x256, .f32⟩
  | 42 => ⟨S1x1x256, .f32⟩
  | 43 => ⟨S8x10x256, .f32⟩
  | 44 => ⟨S8x10x256, .f32⟩
  | 45 => ⟨S1x256, .f32⟩
  | 46 => ⟨S1x1x256, .f32⟩
  | 47 => ⟨S8x10x256, .f32⟩
  | 48 => ⟨S8x10x256, .f32⟩
  | 49 => ⟨S8x10x256, .f32⟩
  | 50 => ⟨S1x256, .f32⟩
  | 51 => ⟨S1x1x256, .f32⟩
  | 52 => ⟨S8x10x256, .f32⟩
  | 53 => ⟨S8x10x256, .f32⟩
  | 54 => ⟨S8x10x256, .f32⟩
  | 55 => ⟨S1x1x256, .f32⟩
  | 56 => ⟨S8x10x256, .f32⟩
  | 57 => ⟨S8x10x256, .f32⟩
  | 58 => ⟨S8x10x256, .f32⟩
  | 59 => ⟨S8x10x1, .f32⟩
  | 60 => ⟨S1x1x1, .f32⟩
  | 61 => ⟨S8x10x1, .f32⟩
  | 62 => ⟨S8x10x1, .f32⟩
  | 63 => ⟨S_, .f32⟩
  | 64 => ⟨S8x1, .f32⟩
  | 65 => ⟨S_, .f32⟩
  | 66 => ⟨S8x1, .f32⟩
  | 67 => ⟨S8x1, .f32⟩
  | 68 => ⟨S8x1x1, .f32⟩
  | 69 => ⟨S8x10x1, .f32⟩
  | 70 => ⟨S8x10x1, .f32⟩
  | 71 => ⟨S8x10x1, .f32⟩
  | 72 => ⟨S_, .f32⟩
  | 73 => ⟨S8x1, .f32⟩
  | 74 => ⟨S8x1x1, .f32⟩
  | 75 => ⟨S8x10x1, .f32⟩
  | 76 => ⟨S8x10x1, .f32⟩
  | 77 => ⟨S8x10x256, .f32⟩
  | 78 => ⟨S8x10x256, .f32⟩
  | 79 => ⟨S_, .f32⟩
  | 80 => ⟨S8x256, .f32⟩
  | 81 => ⟨S_, .f32⟩
  | 82 => ⟨S_, .f32⟩
  | 83 => ⟨S_, .f32⟩
  | 84 => ⟨S8x256, .f32⟩
  | 85 => ⟨S8x256, .f32⟩
  | 86 => ⟨S1x256, .f32⟩
  | 87 => ⟨S8x256, .f32⟩
  | 88 => ⟨S8x256, .f32⟩
  | 89 => ⟨S1x256, .f32⟩
  | 90 => ⟨S8x256, .f32⟩
  | 91 => ⟨S8x256, .f32⟩
  | 92 => ⟨S8x2, .f32⟩
  | 93 => ⟨S1x2, .f32⟩
  | 94 => ⟨S8x2, .f32⟩
  | 95 => ⟨S8x2, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_call1_v0 : Ref sig .tc := ⟨.hbm, 43, rfl⟩
abbrev main_call1_cst : Ref sig .tc := ⟨.hbm, 44, rfl⟩
abbrev main_call1_c : Ref sig .tc := ⟨.hbm, 45, rfl⟩
abbrev main_call1_v1_0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_cst_4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v40 : Ref sig .tc := ⟨.hbm, 83, rfl⟩
abbrev main_cst_6 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_8 : Ref sig .tc := ⟨.hbm, 97, rfl⟩
abbrev main_v52 : Ref sig .tc := ⟨.hbm, 98, rfl⟩
abbrev main_call4_v0 : Ref sig .tc := ⟨.hbm, 99, rfl⟩
abbrev main_call4_cst : Ref sig .tc := ⟨.hbm, 100, rfl⟩
abbrev main_call4_c : Ref sig .tc := ⟨.hbm, 101, rfl⟩
abbrev main_call4_v1_0 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_9 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v63 : Ref sig .tc := ⟨.hbm, 119, rfl⟩
abbrev main_cst_10 : Ref sig .tc := ⟨.hbm, 120, rfl⟩
abbrev main_v64 : Ref sig .tc := ⟨.hbm, 121, rfl⟩
abbrev main_cst_11 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_12 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_v75 : Ref sig .tc := ⟨.hbm, 139, rfl⟩
abbrev main_cst_13 : Ref sig .tc := ⟨.hbm, 140, rfl⟩
abbrev main_v76 : Ref sig .tc := ⟨.hbm, 141, rfl⟩
abbrev main_cst_14 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_15 : Ref sig .tc := ⟨.hbm, 153, rfl⟩
abbrev main_v87 : Ref sig .tc := ⟨.hbm, 154, rfl⟩
abbrev main_call7_v0 : Ref sig .tc := ⟨.hbm, 155, rfl⟩
abbrev main_call7_cst : Ref sig .tc := ⟨.hbm, 156, rfl⟩
abbrev main_call7_c : Ref sig .tc := ⟨.hbm, 157, rfl⟩
abbrev main_call7_v1_0 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_16 : Ref sig .tc := ⟨.hbm, 169, rfl⟩
abbrev main_call8_v0 : Ref sig .tc := ⟨.hbm, 170, rfl⟩
abbrev main_call8_v1 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_v98 : Ref sig .tc := ⟨.hbm, 175, rfl⟩
abbrev main_cst_17 : Ref sig .tc := ⟨.hbm, 176, rfl⟩
abbrev main_v99 : Ref sig .tc := ⟨.hbm, 177, rfl⟩
abbrev main_cst_18 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_19 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_v110 : Ref sig .tc := ⟨.hbm, 195, rfl⟩
abbrev main_cst_20 : Ref sig .tc := ⟨.hbm, 196, rfl⟩
abbrev main_v111 : Ref sig .tc := ⟨.hbm, 197, rfl⟩
abbrev main_cst_21 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_cst_22 : Ref sig .tc := ⟨.hbm, 209, rfl⟩
abbrev main_v122 : Ref sig .tc := ⟨.hbm, 210, rfl⟩
abbrev main_call10_v0 : Ref sig .tc := ⟨.hbm, 211, rfl⟩
abbrev main_call10_cst : Ref sig .tc := ⟨.hbm, 212, rfl⟩
abbrev main_call10_c : Ref sig .tc := ⟨.hbm, 213, rfl⟩
abbrev main_call10_v1_0 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_cst_23 : Ref sig .tc := ⟨.hbm, 225, rfl⟩
abbrev main_call11_v0 : Ref sig .tc := ⟨.hbm, 226, rfl⟩
abbrev main_call11_v1 : Ref sig .tc := ⟨.hbm, 227, rfl⟩
abbrev main_call11_v2 : Ref sig .tc := ⟨.hbm, 228, rfl⟩
abbrev main_call11_v3 : Ref sig .tc := ⟨.hbm, 229, rfl⟩
abbrev main_call11_v4 : Ref sig .tc := ⟨.hbm, 230, rfl⟩
abbrev main_v133 : Ref sig .tc := ⟨.hbm, 231, rfl⟩
abbrev main_cst_24 : Ref sig .tc := ⟨.hbm, 232, rfl⟩
abbrev main_v134 : Ref sig .tc := ⟨.hbm, 233, rfl⟩
abbrev main_cst_25 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_cst_26 : Ref sig .tc := ⟨.hbm, 245, rfl⟩
abbrev main_call12_v0 : Ref sig .tc := ⟨.hbm, 246, rfl⟩
abbrev main_call12_v1 : Ref sig .tc := ⟨.hbm, 247, rfl⟩
abbrev main_call12_v2 : Ref sig .tc := ⟨.hbm, 248, rfl⟩
abbrev main_call12_v3 : Ref sig .tc := ⟨.hbm, 249, rfl⟩
abbrev main_call12_v4 : Ref sig .tc := ⟨.hbm, 250, rfl⟩
abbrev main_v145 : Ref sig .tc := ⟨.hbm, 251, rfl⟩
abbrev main_cst_27 : Ref sig .tc := ⟨.hbm, 252, rfl⟩
abbrev main_v146 : Ref sig .tc := ⟨.hbm, 253, rfl⟩
abbrev main_cst_28 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_cst_29 : Ref sig .tc := ⟨.hbm, 265, rfl⟩
abbrev main_v157 : Ref sig .tc := ⟨.hbm, 266, rfl⟩
abbrev main_call13_v0 : Ref sig .tc := ⟨.hbm, 267, rfl⟩
abbrev main_call13_cst : Ref sig .tc := ⟨.hbm, 268, rfl⟩
abbrev main_call13_c : Ref sig .tc := ⟨.hbm, 269, rfl⟩
abbrev main_call13_v1_0 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_cst_30 : Ref sig .tc := ⟨.hbm, 281, rfl⟩
abbrev main_call14_v0 : Ref sig .tc := ⟨.hbm, 282, rfl⟩
abbrev main_call14_v1 : Ref sig .tc := ⟨.hbm, 283, rfl⟩
abbrev main_call14_v2 : Ref sig .tc := ⟨.hbm, 284, rfl⟩
abbrev main_call14_v3 : Ref sig .tc := ⟨.hbm, 285, rfl⟩
abbrev main_call14_v4 : Ref sig .tc := ⟨.hbm, 286, rfl⟩
abbrev main_v168 : Ref sig .tc := ⟨.hbm, 287, rfl⟩
abbrev main_cst_31 : Ref sig .tc := ⟨.hbm, 288, rfl⟩
abbrev main_v169 : Ref sig .tc := ⟨.hbm, 289, rfl⟩
abbrev main_cst_32 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_cst_33 : Ref sig .tc := ⟨.hbm, 301, rfl⟩
abbrev main_call15_v0 : Ref sig .tc := ⟨.hbm, 302, rfl⟩
abbrev main_call15_v1 : Ref sig .tc := ⟨.hbm, 303, rfl⟩
abbrev main_call15_v2 : Ref sig .tc := ⟨.hbm, 304, rfl⟩
abbrev main_call15_v3 : Ref sig .tc := ⟨.hbm, 305, rfl⟩
abbrev main_call15_v4 : Ref sig .tc := ⟨.hbm, 306, rfl⟩
abbrev main_v180 : Ref sig .tc := ⟨.hbm, 307, rfl⟩
abbrev main_cst_34 : Ref sig .tc := ⟨.hbm, 308, rfl⟩
abbrev main_v181 : Ref sig .tc := ⟨.hbm, 309, rfl⟩
abbrev main_cst_35 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_cst_36 : Ref sig .tc := ⟨.hbm, 321, rfl⟩
abbrev main_v192 : Ref sig .tc := ⟨.hbm, 322, rfl⟩
abbrev main_call16_v0 : Ref sig .tc := ⟨.hbm, 323, rfl⟩
abbrev main_call16_cst : Ref sig .tc := ⟨.hbm, 324, rfl⟩
abbrev main_call16_c : Ref sig .tc := ⟨.hbm, 325, rfl⟩
abbrev main_call16_v1_0 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_cst_37 : Ref sig .tc := ⟨.hbm, 348, rfl⟩
abbrev main_call17_v0 : Ref sig .tc := ⟨.hbm, 349, rfl⟩
abbrev main_call17_v1 : Ref sig .tc := ⟨.hbm, 350, rfl⟩
abbrev main_call17_v2 : Ref sig .tc := ⟨.hbm, 351, rfl⟩
abbrev main_call17_v3 : Ref sig .tc := ⟨.hbm, 352, rfl⟩
abbrev main_v214 : Ref sig .tc := ⟨.hbm, 353, rfl⟩
abbrev main_cst_38 : Ref sig .tc := ⟨.hbm, 354, rfl⟩
abbrev main_v215 : Ref sig .tc := ⟨.hbm, 355, rfl⟩
abbrev main_c_39 : Ref sig .tc := ⟨.hbm, 356, rfl⟩
abbrev main_v216 : Ref sig .tc := ⟨.hbm, 357, rfl⟩
abbrev main_v217 : Ref sig .tc := ⟨.hbm, 358, rfl⟩
abbrev main_c_40 : Ref sig .tc := ⟨.hbm, 359, rfl⟩
abbrev main_v218 : Ref sig .tc := ⟨.hbm, 360, rfl⟩
abbrev main_v219 : Ref sig .tc := ⟨.hbm, 361, rfl⟩
abbrev main_v220 : Ref sig .tc := ⟨.hbm, 362, rfl⟩
abbrev main_v221 : Ref sig .tc := ⟨.hbm, 363, rfl⟩
abbrev main_v222 : Ref sig .tc := ⟨.hbm, 364, rfl⟩
abbrev main_v223 : Ref sig .tc := ⟨.hbm, 365, rfl⟩
abbrev main_v224 : Ref sig .tc := ⟨.hbm, 366, rfl⟩
abbrev main_v225 : Ref sig .tc := ⟨.hbm, 367, rfl⟩
abbrev main_v226 : Ref sig .tc := ⟨.hbm, 368, rfl⟩
abbrev main_v227 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_cst_41 : Ref sig .tc := ⟨.hbm, 377, rfl⟩
abbrev main_call18_v0 : Ref sig .tc := ⟨.hbm, 378, rfl⟩
abbrev main_call18_v1 : Ref sig .tc := ⟨.hbm, 379, rfl⟩
abbrev main_call18_v2 : Ref sig .tc := ⟨.hbm, 380, rfl⟩
abbrev main_call18_v3 : Ref sig .tc := ⟨.hbm, 381, rfl⟩
abbrev main_v235 : Ref sig .tc := ⟨.hbm, 382, rfl⟩
abbrev main_cst_42 : Ref sig .tc := ⟨.hbm, 383, rfl⟩
abbrev main_v236 : Ref sig .tc := ⟨.hbm, 384, rfl⟩
abbrev main_v237 : Ref sig .tc := ⟨.hbm, 385, rfl⟩
abbrev main_c_43 : Ref sig .tc := ⟨.hbm, 386, rfl⟩
abbrev main_v238 : Ref sig .tc := ⟨.hbm, 387, rfl⟩
abbrev main_v239 : Ref sig .tc := ⟨.hbm, 388, rfl⟩
abbrev main_c_44 : Ref sig .tc := ⟨.hbm, 389, rfl⟩
abbrev main_v240 : Ref sig .tc := ⟨.hbm, 390, rfl⟩
abbrev main_v241 : Ref sig .tc := ⟨.hbm, 391, rfl⟩
abbrev main_v242 : Ref sig .tc := ⟨.hbm, 392, rfl⟩
abbrev main_v243 : Ref sig .tc := ⟨.hbm, 393, rfl⟩
abbrev main_v244 : Ref sig .tc := ⟨.hbm, 394, rfl⟩
abbrev main_cst_45 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_cst_46 : Ref sig .tc := ⟨.hbm, 411, rfl⟩
abbrev main_call19_v0 : Ref sig .tc := ⟨.hbm, 412, rfl⟩
abbrev main_call19_v1 : Ref sig .tc := ⟨.hbm, 413, rfl⟩
abbrev main_call19_v2 : Ref sig .tc := ⟨.hbm, 414, rfl⟩
abbrev main_call19_v3 : Ref sig .tc := ⟨.hbm, 415, rfl⟩
abbrev main_call19_v4 : Ref sig .tc := ⟨.hbm, 416, rfl⟩
abbrev main_v260 : Ref sig .tc := ⟨.hbm, 417, rfl⟩
abbrev main_cst_47 : Ref sig .tc := ⟨.hbm, 418, rfl⟩
abbrev main_v261 : Ref sig .tc := ⟨.hbm, 419, rfl⟩
abbrev main_cst_48 : Ref sig .tc := ⟨.hbm, 420, rfl⟩
abbrev main_v262 : Ref sig .tc := ⟨.hbm, 421, rfl⟩
abbrev main_v263 : Ref sig .tc := ⟨.hbm, 422, rfl⟩
abbrev main_v264 : Ref sig .tc := ⟨.hbm, 423, rfl⟩
abbrev main_v265 : Ref sig .tc := ⟨.hbm, 424, rfl⟩
abbrev main_v266 : Ref sig .tc := ⟨.hbm, 425, rfl⟩
abbrev main_v267 : Ref sig .tc := ⟨.hbm, 426, rfl⟩
abbrev main_v268 : Ref sig .tc := ⟨.hbm, 427, rfl⟩
abbrev main_v269 : Ref sig .tc := ⟨.hbm, 428, rfl⟩
abbrev main_v270 : Ref sig .tc := ⟨.hbm, 429, rfl⟩
abbrev main_v271 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_v275 : Ref sig .tc := ⟨.hbm, 434, rfl⟩
abbrev main_v276 : Ref sig .tc := ⟨.hbm, 435, rfl⟩
abbrev main_v277 : Ref sig .tc := ⟨.hbm, 436, rfl⟩
abbrev main_v278 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_v286 : Ref sig .tc := ⟨.hbm, 445, rfl⟩
abbrev main_v287 : Ref sig .tc := ⟨.hbm, 446, rfl⟩
abbrev main_cst_49 : Ref sig .tc := ⟨.hbm, 447, rfl⟩
abbrev main_v288 : Ref sig .tc := ⟨.hbm, 448, rfl⟩
abbrev main_cst_50 : Ref sig .tc := ⟨.hbm, 449, rfl⟩
abbrev main_v289 : Ref sig .tc := ⟨.hbm, 450, rfl⟩
abbrev main_v290 : Ref sig .tc := ⟨.hbm, 451, rfl⟩
abbrev main_v291 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_cst_51 : Ref sig .tc := ⟨.hbm, 456, rfl⟩
abbrev main_v295 : Ref sig .tc := ⟨.hbm, 457, rfl⟩
abbrev main_v296 : Ref sig .tc := ⟨.hbm, 458, rfl⟩
abbrev main_v297 : Ref sig .tc := ⟨.hbm, 459, rfl⟩
abbrev main_v298 : Ref sig .tc := ⟨.hbm, 460, rfl⟩
abbrev main_v299 : Ref sig .tc := ⟨.hbm, 461, rfl⟩
abbrev main_v300 : Ref sig .tc := ⟨.hbm, 462, rfl⟩
abbrev main_cst_52 : Ref sig .tc := ⟨.hbm, 463, rfl⟩
abbrev main_v301 : Ref sig .tc := ⟨.hbm, 464, rfl⟩
abbrev main_cst_53 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_v305 : Ref sig .tc := ⟨.hbm, 469, rfl⟩
abbrev main_v306 : Ref sig .tc := ⟨.hbm, 470, rfl⟩
abbrev main_v307 : Ref sig .tc := ⟨.hbm, 471, rfl⟩
abbrev main_v308 : Ref sig .tc := ⟨.hbm, 472, rfl⟩
abbrev main_v309 : Ref sig .tc := ⟨.hbm, 473, rfl⟩
abbrev main_v310 : Ref sig .tc := ⟨.hbm, 474, rfl⟩
abbrev main_v311 : Ref sig .tc := ⟨.hbm, 475, rfl⟩
abbrev main_v312 : Ref sig .tc := ⟨.hbm, 476, rfl⟩
abbrev main_v313 : Ref sig .tc := ⟨.hbm, 477, rfl⟩
abbrev main_v314 : Ref sig .tc := ⟨.hbm, 478, rfl⟩
abbrev main_v315 : Ref sig .tc := ⟨.hbm, 479, rfl⟩

abbrev nD : Nat := 1
abbrev τ : Topo := Topo.v7x

variable {F : FTy → Type} [FloatOps F]
-- ==== Proof.KStage.lean ====
/- What the two runs of the kernel's body are stated over: the branch condition in closed form over the
   grid's points, where the windows are live, the staging and scratch memrefs, and the region's invariant in terms
   of the three scratches. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the last point only — by arithmetic of the point. -/
theorem hcond0_0 : ∀ t : Fin cfg0.N, cond0_0 (grid0.coords t) ↔ t.val % 32 = 31 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 32 = 31)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-! ## The memrefs the body runs on -/

/-- Each window's current staging memref at point `t`, spelled as the pipeline passes it (`bodyAt0`), and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x1x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S32768x256 .bf16 := Memref.whole cc0_scratch0
abbrev scM0_1 : Memref sig .tc .vmem S32768x256 .bf16 := Memref.whole cc0_scratch1
abbrev scM0_2 : Memref sig .tc .vmem S1x32768 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (m : (ℓ : Loc nD τ sig) → Buf (Elt F) ℓ) (ρ : Dev nD → PrngReg)

/-- The buffers the host lines after the region write. -/
def T0 : Finset (Ref sig .tc) := {main_v18, main_v19}
/-- The host lines after the region write those buffers only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option maxHeartbeats 1200000 in
/-- A run that forgets what the kernel wrote still leaves every argument array as it was. -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      (Pipeline.RDat.FramePostR.arr_in h c 9 rfl).trans ((hA c 9).trans (V_main_arg9 m c)),
      ((h c).2 main_arg10 (Finset.mem_sdiff.mpr ⟨Pipeline.mem_restRefs_of main_arg10 (by decide) (by decide), by decide⟩)).trans (V_main_arg10 m c),
      (Pipeline.RDat.FramePostR.arr_in h c 11 rfl).trans ((hA c 11).trans (V_main_arg11 m c)),
      ((h c).2 main_arg12 (Finset.mem_sdiff.mpr ⟨Pipeline.mem_restRefs_of main_arg12 (by decide) (by decide), by decide⟩)).trans (V_main_arg12 m c),
      (Pipeline.RDat.FramePostR.arr_in h c 13 rfl).trans ((hA c 13).trans (V_main_arg13 m c)),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      ((h c).2 main_arg17 (Finset.mem_sdiff.mpr ⟨Pipeline.mem_restRefs_of main_arg17 (by decide) (by decide), by decide⟩)).trans (V_main_arg17 m c),
      ((h c).2 main_arg18 (Finset.mem_sdiff.mpr ⟨Pipeline.mem_restRefs_of main_arg18 (by decide) (by decide), by decide⟩)).trans (V_main_arg18 m c)⟩) h

end Cert.Kernel.Own

end
-- ==== Proof.KRunA.lean ====
/- The body of the kernel at a point that is not the last: it runs, keeps its inputs, and leaves the output block and
   the three scratches at some contents. -/
module

public import proofs.«01_k».proof.Proof.KStage

@[expose] public section

set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- From memrefs holding the inputs, the body runs to the continuation, which gets the inputs back unchanged and the
    output block and the scratches at some contents. -/
theorem kernelRun0_A (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : ¬cond0_0 i)
    (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0__bag_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0__bag_kernel_eq_skeleton]; unfold cc0__bag_kernel_skel
    simp only [k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Own

end
-- ==== Proof.KRunB.lean ====
/- The body of the kernel at the last point: it runs, keeps its inputs, and leaves the output block and the three
   scratches at some contents. -/
module

public import proofs.«01_k».proof.Proof.KRunA

@[expose] public section

set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2840000 in
/-- From memrefs holding the inputs, the body runs to the continuation, which gets the inputs back unchanged and the
    output block and the scratches at some contents. -/
theorem kernelRun0_B (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i)
    (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0__bag_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0__bag_kernel_eq_skeleton]; unfold cc0__bag_kernel_skel
    simp only [k0_part71_eq_skeleton, k0_part70_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Own

end
-- ==== Proof.KFrame.lean ====
/- The kernel runs and leaves its arguments as they were: the proof data of its region, the body at every point, the
   launch, and the frame. -/
module

public import proofs.«01_k».proof.Proof.KRunB
public import Idealize.ShloMosaic.Lib.Claim

@[expose] public section

set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window, whose contents the frame does not speak of. -/
def forgets0 : Fin 20 → Bool := fun w => w.val == 19

/-- The proof data of the region on core `c`: each array as the region finds it, each input block left in place, the
    scratches at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The arrays of the proof data are what the region finds. -/
theorem A_eq (c : Dev nD) (w : Fin cfg0.W) : (dats m 0 c).A w = V m c (Pipeline.arrRef spec0 w) := by
  dsimp only [dats]

/-- Every input block is left in place. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]

/-- Every input buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (∃ d, owns (c : Thread nD τ) (ms0_19 t) fullShare d))

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 32 := lt_of_lt_of_eq t.isLt (show cfg0.N = 32 from N_0)
  by_cases h0 : t.val % 32 = 31
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_B c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_A c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body as the region calls it at point `t`. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch, with every semaphore counter at zero at the end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The launch. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  kept_of m ρ (fun c => (dats m 0 c).toRForget forgets0) (A_eq m) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel.Own

end
-- ==== Proof.Stage.lean ====
/- What the two runs of the idealized kernel's body are stated over: the branch condition in closed form over the
   grid's points, where the windows are live, the staging and scratch memrefs, and the region's invariant in terms
   of the three scratches. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the last point only — by arithmetic of the point. -/
theorem hcond0_0 : ∀ t : Fin cfg0.N, cond0_0 (grid0.coords t) ↔ t.val % 32 = 31 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 32 = 31)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-! ## The memrefs the body runs on -/

/-- Each window's current staging memref at point `t`, spelled as the pipeline passes it (`bodyAt0`), and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x1x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S32768x256 .bf16 := Memref.whole cc0_scratch0
abbrev scM0_1 : Memref sig .tc .vmem S32768x256 .bf16 := Memref.whole cc0_scratch1
abbrev scM0_2 : Memref sig .tc .vmem S1x32768 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Own

end
-- ==== Proof.RunA.lean ====
/- The idealized kernel's body at every point but the last, run with what it stores named. -/
module

public import proofs.«01_k».proof.Proof.Stage

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point that is not the last: it stores one block of rows into each of the three scratches and
    leaves everything else alone; the stored pieces are the witness. -/
def runA (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : ¬cond0_0 i)
    (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32)
    (f19 : arg21.view.ty.Contents (Elt F)) (f22 : arg22.view.ty.Contents (Elt F)) (f23 : arg23.view.ty.Contents (Elt F)) (f24 : arg24.view.ty.Contents (Elt F)) :
    { p : List (View.Piece (Elt F) S32768x256 .bf16) × List (View.Piece (Elt F) S32768x256 .bf16) × List (View.Piece (Elt F) S1x32768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} f19) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} f19) ∗ (View.loc (c : Thread nD τ) arg22.view ↦[arg22.view.set]{fullShare} arg22.view.writes (Elt F) f22 p.1) ∗ (View.loc (c : Thread nD τ) arg23.view ↦[arg23.view.set]{fullShare} arg23.view.writes (Elt F) f23 p.2.1) ∗ (View.loc (c : Thread nD τ) arg24.view ↦[arg24.view.set]{fullShare} arg24.view.writes (Elt F) f24 p.2.2)) -∗ K ⟨⟩))
          ⊢ wp frame (wpE (defs₀ (F := F)) Variants.none c none) E (cc0__bag_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
    refine ⟨(?_, ?_, ?_), fun E K => ?run⟩
    case run =>
      simp only [cc0__bag_kernel_eq_skeleton]; unfold cc0__bag_kernel_skel
      simp only [k0_part71_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, H19, HS0, HS1, HS2, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      isplitl [H19]; · iexact H19
      isplitl [HS0]; · iexact HS0
      isplitl [HS1]; · iexact HS1
      iexact HS2

end Cert.KernelIdeal.Own

end
-- ==== Proof.RunB.lean ====
/- The idealized kernel's body at the last point, run with what it stores named. -/
module

public import proofs.«01_k».proof.Proof.RunA

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2840000 in
/-- The body at the last point: it stores its block of rows into each of the three scratches, reads them back and
    stores the eight rows of the result; the stored pieces are the witness. -/
def runB (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i)
    (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32)
    (f19 : arg21.view.ty.Contents (Elt F)) (f22 : arg22.view.ty.Contents (Elt F)) (f23 : arg23.view.ty.Contents (Elt F)) (f24 : arg24.view.ty.Contents (Elt F)) :
    { p : List (View.Piece (Elt F) S32768x256 .bf16) × List (View.Piece (Elt F) S32768x256 .bf16) × List (View.Piece (Elt F) S1x32768 .f32) × List (View.Piece (Elt F) S8x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} f19) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} arg21.view.writes (Elt F) f19 p.2.2.2) ∗ (View.loc (c : Thread nD τ) arg22.view ↦[arg22.view.set]{fullShare} arg22.view.writes (Elt F) f22 p.1) ∗ (View.loc (c : Thread nD τ) arg23.view ↦[arg23.view.set]{fullShare} arg23.view.writes (Elt F) f23 p.2.1) ∗ (View.loc (c : Thread nD τ) arg24.view ↦[arg24.view.set]{fullShare} arg24.view.writes (Elt F) f24 p.2.2.1)) -∗ K ⟨⟩))
          ⊢ wp frame (wpE (defs₀ (F := F)) Variants.none c none) E (cc0__bag_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
    refine ⟨(?_, ?_, ?_, ?_), fun E K => ?run⟩
    case run =>
      simp only [cc0__bag_kernel_eq_skeleton]; unfold cc0__bag_kernel_skel
      simp only [k0_part71_eq_skeleton, k0_part70_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, H19, HS0, HS1, HS2, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      isplitl [H19]; · iexact H19
      isplitl [HS0]; · iexact HS0
      isplitl [HS1]; · iexact HS1
      iexact HS2

end Cert.KernelIdeal.Own

end
-- ==== Proof.Bag.lean ====
/- One bag of the idealized kernel's second phase as functions of what the scratches hold: the rounds of the
   clustering and what follows them. -/
module

public import proofs.«01_k».proof.Proof.Gen.KernelIdeal
public import proofs.«01_k».proof.Proof.Gen.KernelIdeal.Skeleton
public import Idealize.ShloMosaic.Lib.Pipeline.FrameBody

@[expose] public section

set_option maxRecDepth 16384

noncomputable section

namespace Cert.KernelIdeal.Own

open Cert.KernelIdeal.Gen
open Idealize.ShloMosaic Idealize.ShloMosaic.TcCoe

variable {F : FTy → Type} [FloatOps F] [Named F]

/-- The number of its row, at every entry of a table of ten rows. -/
def kIota : IVec S10x4096 32 := iota .tc S10x4096 32 [0] iota_S10x4096_d0_w32

/-- A bag's rows of an embedding scratch. -/
def kRows (g : Vec F S32768x256 .bf16) (b : Fin 8) : Vec F S4096x256 .bf16 :=
  View.ld (Val := Elt F) g (Rect.unit ![4096 * b.val, 0] S4096x256.size (fun a => by
    have := b.isLt
    match a with
    | ⟨0, _⟩ => show 4096 * b.val + 4096 ≤ 32768; omega
    | ⟨1, _⟩ => show 0 + 256 ≤ 256; omega))

/-- A bag's entries of the logit scratch. -/
def kLogits (g : Vec F S1x32768 .f32) (b : Fin 8) : Vec F S1x4096 .f32 :=
  View.ld (Val := Elt F) g (Rect.unit ![0, 4096 * b.val] S1x4096.size (fun a => by
    have := b.isLt
    match a with
    | ⟨0, _⟩ => show 0 + 1 ≤ 1; omega
    | ⟨1, _⟩ => show 4096 * b.val + 4096 ≤ 32768; omega))

/-- Row `455 k` of a bag in an embedding scratch. -/
def kRow (g : Vec F S32768x256 .bf16) (b : Fin 8) (k : Fin 10) : Vec F S1x256 .bf16 :=
  View.ld (Val := Elt F) g (Rect.unit ![4096 * b.val + 455 * k.val, 0] S1x256.size (fun a => by
    have := b.isLt
    have := k.isLt
    match a with
    | ⟨0, _⟩ => show 4096 * b.val + 455 * k.val + 1 ≤ 32768; omega
    | ⟨1, _⟩ => show 0 + 256 ≤ 256; omega))

/-- A bag's first centroid `k`, both parts added. -/
def kSeed (h l : Vec F S32768x256 .bf16) (b : Fin 8) (k : Fin 10) : FVec F S1x256 .f32 :=
  addf (extf .f32 (kRow h b k) bitsLt_bf16_f32) (extf .f32 (kRow l b k) bitsLt_bf16_f32)

/-- A bag's first centroids. -/
def kCent0 (h l : Vec F S32768x256 .bf16) (b : Fin 8) : FVec F S10x256 .f32 :=
  concatenate S10x256 0 [⟨S1x256, kSeed h l b 0⟩, ⟨S1x256, kSeed h l b 1⟩, ⟨S1x256, kSeed h l b 2⟩, ⟨S1x256, kSeed h l b 3⟩, ⟨S1x256, kSeed h l b 4⟩, ⟨S1x256, kSeed h l b 5⟩, ⟨S1x256, kSeed h l b 6⟩, ⟨S1x256, kSeed h l b 7⟩, ⟨S1x256, kSeed h l b 8⟩, ⟨S1x256, kSeed h l b 9⟩] concatenates_S1x256_S1x256_S1x256_S1x256_S1x256_S1x256_S1x256_S1x256_S1x256_S1x256_S10x256_d0

/-- The membership table of a bag at given centroids: one where the row is the column's nearest centroid, else zero. -/
def kAssign (hi lo : Vec F S4096x256 .bf16) (c : FVec F S10x256 .f32) : FVec F S10x4096 .f32 := k0_pay78 kIota hi lo c

/-- One round: the means of the clusters at given centroids. -/
def kRound (hi lo : Vec F S4096x256 .bf16) (c : FVec F S10x256 .f32) : FVec F S10x256 .f32 :=
  k0_pay79 hi lo (kAssign hi lo c)

/-- The scaled and shifted region vectors of a bag from its final membership table. -/
def kRegion (hi lo : Vec F S4096x256 .bf16) (o : FVec F S10x4096 .f32) (a : Vec F S1x4096 .f32)
    (p7 p8 : Vec F S1x256 .f32) : FVec F S10x256 .f32 := k0_pay231 hi lo o a p7 p8

/-- What follows the regions of a bag: its 128 class scores. -/
def kHead (r : FVec F S10x256 .f32) (p9 : Vec F S256x256 .f32) (p10 : Vec F S1x256 .f32) (p11 : Vec F S256x256 .f32)
    (p12 : Vec F S1x256 .f32) (p13 : Vec F S256x1 .f32) (p14 : Vec F S1x1 .f32) (p15 p16 : Vec F S1x256 .f32)
    (p17 : Vec F S256x128 .f32) (p18 : Vec F S1x128 .f32) : FVec F S1x1x128 .f32 :=
  k0_pay233 (k0_pay232 r p9 p10 p11 p12 p13 p14 p15) p16 p17 p18

/-- A bag's final centroids: five rounds from the first ones. -/
def kCent5 (g h : Vec F S32768x256 .bf16) (b : Fin 8) : FVec F S10x256 .f32 :=
  kRound (kRows g b) (kRows h b) (kRound (kRows g b) (kRows h b) (kRound (kRows g b) (kRows h b)
    (kRound (kRows g b) (kRows h b) (kRound (kRows g b) (kRows h b) (kCent0 g h b)))))

/-- A bag's class scores from the scratches and the parameters. -/
def kBag (g h : Vec F S32768x256 .bf16) (a : Vec F S1x32768 .f32) (b : Fin 8) (p7 p8 : Vec F S1x256 .f32)
    (p9 : Vec F S256x256 .f32) (p10 : Vec F S1x256 .f32) (p11 : Vec F S256x256 .f32)
    (p12 : Vec F S1x256 .f32) (p13 : Vec F S256x1 .f32) (p14 : Vec F S1x1 .f32) (p15 p16 : Vec F S1x256 .f32)
    (p17 : Vec F S256x128 .f32) (p18 : Vec F S1x128 .f32) : FVec F S1x1x128 .f32 :=
  kHead (kRegion (kRows g b) (kRows h b) (kAssign (kRows g b) (kRows h b) (kCent5 g h b)) (kLogits a b) p7 p8)
    p9 p10 p11 p12 p13 p14 p15 p16 p17 p18

end Cert.KernelIdeal.Own

end
-- ==== Proof.Stages.lean ====
module

public import proofs.«01_k».proof.Proof.RunB
public import proofs.«01_k».proof.Proof.Bag

@[expose] public section

set_option maxRecDepth 16384

noncomputable section

namespace Cert.KernelIdeal.Own

open Cert.KernelIdeal.Gen
open Idealize.ShloMosaic Idealize.ShloMosaic.TcCoe Idealize.ShloMosaic.Tactic
open Idealize.SL.Sem

variable {F : FTy → Type} [FloatOps F] [Named F]

/-- What the first embedding scratch reads in the second phase. -/
abbrev scrH (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (x0 : Vec F S1x1024x1024 .f32) (x1 : Vec F S1024x256 .f32) (x2 : Vec F S1x256 .f32) (f22 : arg22.view.ty.Contents (Elt F)) : Vec F S32768x256 .bf16 :=
  arg22.view.read (Elt F) (arg22.view.writes (Elt F) f22 (runB.sl.HS0_1 (F := F) c i arg2 harg2 arg3 harg3 arg4 harg4 x0 x1 x2))

/-- What the second embedding scratch reads in the second phase. -/
abbrev scrL (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg23 : Memref sig .tc .vmem S32768x256 .bf16) (x0 : Vec F S1x1024x1024 .f32) (x1 : Vec F S1024x256 .f32) (x2 : Vec F S1x256 .f32) (f23 : arg23.view.ty.Contents (Elt F)) : Vec F S32768x256 .bf16 :=
  arg23.view.read (Elt F) (arg23.view.writes (Elt F) f23 (runB.sl.HS1_1 (F := F) c i arg2 harg2 arg3 harg3 arg4 harg4 x0 x1 x2))

/-- What the logit scratch reads in the second phase. -/
abbrev scrA (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg24 : Memref sig .tc .vmem S1x32768 .f32) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (f24 : arg24.view.ty.Contents (Elt F)) : Vec F S1x32768 .f32 :=
  arg24.view.read (Elt F) (arg24.view.writes (Elt F) f24 (runB.sl.HS2_1 (F := F) c i arg2 harg2 arg3 harg3 arg4 harg4 arg5 harg5 arg6 harg6 arg7 harg7 arg8 harg8 x0 x1 x2 x3 x4 x5 x6))

/-- The first centroids of bag 0. -/
theorem b0_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v114 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 0 := rfl

/-- The centroids of bag 0 after round 1. -/
theorem b0_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_22 (F := F) c i arg2 harg2 arg3 harg3 arg4 harg4 arg22 arg23 x0 x1 x2 f22 f23) = kRound (kRows (scrH c i arg2 harg2 arg3 harg3 arg4 harg4 arg22 x0 x1 x2 f22) 0) (kRows (scrL c i arg2 harg2 arg3 harg3 arg4 harg4 arg23 x0 x1 x2 f23) 0) (runB.sl.v114 (F := F) c i arg2 harg2 arg3 harg3 arg4 harg4 arg22 arg23 x0 x1 x2 f22 f23) := rfl

/-- The centroids of bag 0 after round 2. -/
theorem b0_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_35 (F := F) c i arg2 harg2 arg3 harg3 arg4 harg4 arg22 arg23 x0 x1 x2 f22 f23) = kRound (kRows (scrH c i arg2 harg2 arg3 harg3 arg4 harg4 arg22 x0 x1 x2 f22) 0) (kRows (scrL c i arg2 harg2 arg3 harg3 arg4 harg4 arg23 x0 x1 x2 f23) 0) (runB.sl.r_22 (F := F) c i arg2 harg2 arg3 harg3 arg4 harg4 arg22 arg23 x0 x1 x2 f22 f23) := rfl

/-- The centroids of bag 0 after round 3. -/
theorem b0_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_52 (F := F) c i arg2 harg2 arg3 harg3 arg4 harg4 arg22 arg23 x0 x1 x2 f22 f23) = kRound (kRows (scrH c i arg2 harg2 arg3 harg3 arg4 harg4 arg22 x0 x1 x2 f22) 0) (kRows (scrL c i arg2 harg2 arg3 harg3 arg4 harg4 arg23 x0 x1 x2 f23) 0) (runB.sl.r_35 (F := F) c i arg2 harg2 arg3 harg3 arg4 harg4 arg22 arg23 x0 x1 x2 f22 f23) := rfl

/-- The centroids of bag 0 after round 4. -/
theorem b0_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_65 (F := F) c i arg2 harg2 arg3 harg3 arg4 harg4 arg22 arg23 x0 x1 x2 f22 f23) = kRound (kRows (scrH c i arg2 harg2 arg3 harg3 arg4 harg4 arg22 x0 x1 x2 f22) 0) (kRows (scrL c i arg2 harg2 arg3 harg3 arg4 harg4 arg23 x0 x1 x2 f23) 0) (runB.sl.r_52 (F := F) c i arg2 harg2 arg3 harg3 arg4 harg4 arg22 arg23 x0 x1 x2 f22 f23) := rfl

/-- The centroids of bag 0 after round 5. -/
theorem b0_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_78 (F := F) c i arg2 harg2 arg3 harg3 arg4 harg4 arg22 arg23 x0 x1 x2 f22 f23) = kRound (kRows (scrH c i arg2 harg2 arg3 harg3 arg4 harg4 arg22 x0 x1 x2 f22) 0) (kRows (scrL c i arg2 harg2 arg3 harg3 arg4 harg4 arg23 x0 x1 x2 f23) 0) (runB.sl.r_65 (F := F) c i arg2 harg2 arg3 harg3 arg4 harg4 arg22 arg23 x0 x1 x2 f22 f23) := rfl

/-- The final membership table of bag 0. -/
theorem b0_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_91 (F := F) c i arg2 harg2 arg3 harg3 arg4 harg4 arg22 arg23 x0 x1 x2 f22 f23) = kAssign (kRows (scrH c i arg2 harg2 arg3 harg3 arg4 harg4 arg22 x0 x1 x2 f22) 0) (kRows (scrL c i arg2 harg2 arg3 harg3 arg4 harg4 arg23 x0 x1 x2 f23) 0) (runB.sl.r_78 (F := F) c i arg2 harg2 arg3 harg3 arg4 harg4 arg22 arg23 x0 x1 x2 f22 f23) := rfl

/-- The first centroids of bag 1. -/
theorem b1_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v165 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 1 := rfl

/-- The centroids of bag 1 after round 1. -/
theorem b1_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_23 (F := F) c i arg2 harg2 arg3 harg3 arg4 harg4 arg22 arg23 x0 x1 x2 f22 f23) = kRound (kRows (scrH c i arg2 harg2 arg3 harg3 arg4 harg4 arg22 x0 x1 x2 f22) 1) (kRows (scrL c i arg2 harg2 arg3 harg3 arg4 harg4 arg23 x0 x1 x2 f23) 1) (runB.sl.v165 (F := F) c i arg2 harg2 arg3 harg3 arg4 harg4 arg22 arg23 x0 x1 x2 f22 f23) := rfl

/-- The centroids of bag 1 after round 2. -/
theorem b1_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_36 (F := F) c i arg2 harg2 arg3 harg3 arg4 harg4 arg22 arg23 x0 x1 x2 f22 f23) = kRound (kRows (scrH c i arg2 harg2 arg3 harg3 arg4 harg4 arg22 x0 x1 x2 f22) 1) (kRows (scrL c i arg2 harg2 arg3 harg3 arg4 harg4 arg23 x0 x1 x2 f23) 1) (runB.sl.r_23 (F := F) c i arg2 harg2 arg3 harg3 arg4 harg4 arg22 arg23 x0 x1 x2 f22 f23) := rfl

/-- The centroids of bag 1 after round 3. -/
theorem b1_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_53 (F := F) c i arg2 harg2 arg3 harg3 arg4 harg4 arg22 arg23 x0 x1 x2 f22 f23) = kRound (kRows (scrH c i arg2 harg2 arg3 harg3 arg4 harg4 arg22 x0 x1 x2 f22) 1) (kRows (scrL c i arg2 harg2 arg3 harg3 arg4 harg4 arg23 x0 x1 x2 f23) 1) (runB.sl.r_36 (F := F) c i arg2 harg2 arg3 harg3 arg4 harg4 arg22 arg23 x0 x1 x2 f22 f23) := rfl

/-- The centroids of bag 1 after round 4. -/
theorem b1_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_66 (F := F) c i arg2 harg2 arg3 harg3 arg4 harg4 arg22 arg23 x0 x1 x2 f22 f23) = kRound (kRows (scrH c i arg2 harg2 arg3 harg3 arg4 harg4 arg22 x0 x1 x2 f22) 1) (kRows (scrL c i arg2 harg2 arg3 harg3 arg4 harg4 arg23 x0 x1 x2 f23) 1) (runB.sl.r_53 (F := F) c i arg2 harg2 arg3 harg3 arg4 harg4 arg22 arg23 x0 x1 x2 f22 f23) := rfl

/-- The centroids of bag 1 after round 5. -/
theorem b1_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_79 (F := F) c i arg2 harg2 arg3 harg3 arg4 harg4 arg22 arg23 x0 x1 x2 f22 f23) = kRound (kRows (scrH c i arg2 harg2 arg3 harg3 arg4 harg4 arg22 x0 x1 x2 f22) 1) (kRows (scrL c i arg2 harg2 arg3 harg3 arg4 harg4 arg23 x0 x1 x2 f23) 1) (runB.sl.r_66 (F := F) c i arg2 harg2 arg3 harg3 arg4 harg4 arg22 arg23 x0 x1 x2 f22 f23) := rfl

/-- The final membership table of bag 1. -/
theorem b1_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v2047 (F := F) c i arg2 harg2 arg3 harg3 arg4 harg4 arg22 arg23 x0 x1 x2 f22 f23) = kAssign (kRows (scrH c i arg2 harg2 arg3 harg3 arg4 harg4 arg22 x0 x1 x2 f22) 1) (kRows (scrL c i arg2 harg2 arg3 harg3 arg4 harg4 arg23 x0 x1 x2 f23) 1) (runB.sl.r_79 (F := F) c i arg2 harg2 arg3 harg3 arg4 harg4 arg22 arg23 x0 x1 x2 f22 f23) := rfl

/-- The first centroids of bag 2. -/
theorem b2_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v216 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 2 := rfl

/-- The centroids of bag 2 after round 1. -/
theorem b2_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_24 (F := F) c i arg2 harg2 arg3 harg3 arg4 harg4 arg22 arg23 x0 x1 x2 f22 f23) = kRound (kRows (scrH c i arg2 harg2 arg3 harg3 arg4 harg4 arg22 x0 x1 x2 f22) 2) (kRows (scrL c i arg2 harg2 arg3 harg3 arg4 harg4 arg23 x0 x1 x2 f23) 2) (runB.sl.v216 (F := F) c i arg2 harg2 arg3 harg3 arg4 harg4 arg22 arg23 x0 x1 x2 f22 f23) := rfl

/-- The centroids of bag 2 after round 2. -/
theorem b2_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_40 (F := F) c i arg2 harg2 arg3 harg3 arg4 harg4 arg22 arg23 x0 x1 x2 f22 f23) = kRound (kRows (scrH c i arg2 harg2 arg3 harg3 arg4 harg4 arg22 x0 x1 x2 f22) 2) (kRows (scrL c i arg2 harg2 arg3 harg3 arg4 harg4 arg23 x0 x1 x2 f23) 2) (runB.sl.r_24 (F := F) c i arg2 harg2 arg3 harg3 arg4 harg4 arg22 arg23 x0 x1 x2 f22 f23) := rfl

/-- The centroids of bag 2 after round 3. -/
theorem b2_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_54 (F := F) c i arg2 harg2 arg3 harg3 arg4 harg4 arg22 arg23 x0 x1 x2 f22 f23) = kRound (kRows (scrH c i arg2 harg2 arg3 harg3 arg4 harg4 arg22 x0 x1 x2 f22) 2) (kRows (scrL c i arg2 harg2 arg3 harg3 arg4 harg4 arg23 x0 x1 x2 f23) 2) (runB.sl.r_40 (F := F) c i arg2 harg2 arg3 harg3 arg4 harg4 arg22 arg23 x0 x1 x2 f22 f23) := rfl

/-- The centroids of bag 2 after round 4. -/
theorem b2_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_67 (F := F) c i arg2 harg2 arg3 harg3 arg4 harg4 arg22 arg23 x0 x1 x2 f22 f23) = kRound (kRows (scrH c i arg2 harg2 arg3 harg3 arg4 harg4 arg22 x0 x1 x2 f22) 2) (kRows (scrL c i arg2 harg2 arg3 harg3 arg4 harg4 arg23 x0 x1 x2 f23) 2) (runB.sl.r_54 (F := F) c i arg2 harg2 arg3 harg3 arg4 harg4 arg22 arg23 x0 x1 x2 f22 f23) := rfl

/-- The centroids of bag 2 after round 5. -/
theorem b2_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_83 (F := F) c i arg2 harg2 arg3 harg3 arg4 harg4 arg22 arg23 x0 x1 x2 f22 f23) = kRound (kRows (scrH c i arg2 harg2 arg3 harg3 arg4 harg4 arg22 x0 x1 x2 f22) 2) (kRows (scrL c i arg2 harg2 arg3 harg3 arg4 harg4 arg23 x0 x1 x2 f23) 2) (runB.sl.r_67 (F := F) c i arg2 harg2 arg3 harg3 arg4 harg4 arg22 arg23 x0 x1 x2 f22 f23) := rfl

/-- The final membership table of bag 2. -/
theorem b2_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v2075 (F := F) c i arg2 harg2 arg3 harg3 arg4 harg4 arg22 arg23 x0 x1 x2 f22 f23) = kAssign (kRows (scrH c i arg2 harg2 arg3 harg3 arg4 harg4 arg22 x0 x1 x2 f22) 2) (kRows (scrL c i arg2 harg2 arg3 harg3 arg4 harg4 arg23 x0 x1 x2 f23) 2) (runB.sl.r_83 (F := F) c i arg2 harg2 arg3 harg3 arg4 harg4 arg22 arg23 x0 x1 x2 f22 f23) := rfl

/-- The first centroids of bag 3. -/
theorem b3_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v267 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 3 := rfl

/-- The centroids of bag 3 after round 1. -/
theorem b3_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_25 (F := F) c i arg2 harg2 arg3 harg3 arg4 harg4 arg22 arg23 x0 x1 x2 f22 f23) = kRound (kRows (scrH c i arg2 harg2 arg3 harg3 arg4 harg4 arg22 x0 x1 x2 f22) 3) (kRows (scrL c i arg2 harg2 arg3 harg3 arg4 harg4 arg23 x0 x1 x2 f23) 3) (runB.sl.v267 (F := F) c i arg2 harg2 arg3 harg3 arg4 harg4 arg22 arg23 x0 x1 x2 f22 f23) := rfl

/-- The centroids of bag 3 after round 2. -/
theorem b3_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_41 (F := F) c i arg2 harg2 arg3 harg3 arg4 harg4 arg22 arg23 x0 x1 x2 f22 f23) = kRound (kRows (scrH c i arg2 harg2 arg3 harg3 arg4 harg4 arg22 x0 x1 x2 f22) 3) (kRows (scrL c i arg2 harg2 arg3 harg3 arg4 harg4 arg23 x0 x1 x2 f23) 3) (runB.sl.r_25 (F := F) c i arg2 harg2 arg3 harg3 arg4 harg4 arg22 arg23 x0 x1 x2 f22 f23) := rfl

/-- The centroids of bag 3 after round 3. -/
theorem b3_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_57 (F := F) c i arg2 harg2 arg3 harg3 arg4 harg4 arg22 arg23 x0 x1 x2 f22 f23) = kRound (kRows (scrH c i arg2 harg2 arg3 harg3 arg4 harg4 arg22 x0 x1 x2 f22) 3) (kRows (scrL c i arg2 harg2 arg3 harg3 arg4 harg4 arg23 x0 x1 x2 f23) 3) (runB.sl.r_41 (F := F) c i arg2 harg2 arg3 harg3 arg4 harg4 arg22 arg23 x0 x1 x2 f22 f23) := rfl

/-- The centroids of bag 3 after round 4. -/
theorem b3_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_68 (F := F) c i arg2 harg2 arg3 harg3 arg4 harg4 arg22 arg23 x0 x1 x2 f22 f23) = kRound (kRows (scrH c i arg2 harg2 arg3 harg3 arg4 harg4 arg22 x0 x1 x2 f22) 3) (kRows (scrL c i arg2 harg2 arg3 harg3 arg4 harg4 arg23 x0 x1 x2 f23) 3) (runB.sl.r_57 (F := F) c i arg2 harg2 arg3 harg3 arg4 harg4 arg22 arg23 x0 x1 x2 f22 f23) := rfl

/-- The centroids of bag 3 after round 5. -/
theorem b3_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_84 (F := F) c i arg2 harg2 arg3 harg3 arg4 harg4 arg22 arg23 x0 x1 x2 f22 f23) = kRound (kRows (scrH c i arg2 harg2 arg3 harg3 arg4 harg4 arg22 x0 x1 x2 f22) 3) (kRows (scrL c i arg2 harg2 arg3 harg3 arg4 harg4 arg23 x0 x1 x2 f23) 3) (runB.sl.r_68 (F := F) c i arg2 harg2 arg3 harg3 arg4 harg4 arg22 arg23 x0 x1 x2 f22 f23) := rfl

/-- The final membership table of bag 3. -/
theorem b3_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v2103 (F := F) c i arg2 harg2 arg3 harg3 arg4 harg4 arg22 arg23 x0 x1 x2 f22 f23) = kAssign (kRows (scrH c i arg2 harg2 arg3 harg3 arg4 harg4 arg22 x0 x1 x2 f22) 3) (kRows (scrL c i arg2 harg2 arg3 harg3 arg4 harg4 arg23 x0 x1 x2 f23) 3) (runB.sl.r_84 (F := F) c i arg2 harg2 arg3 harg3 arg4 harg4 arg22 arg23 x0 x1 x2 f22 f23) := rfl

/-- The first centroids of bag 4. -/
theorem b4_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v318 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 4 := rfl

/-- The centroids of bag 4 after round 1. -/
theorem b4_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_26 (F := F) c i arg2 harg2 arg3 harg3 arg4 harg4 arg22 arg23 x0 x1 x2 f22 f23) = kRound (kRows (scrH c i arg2 harg2 arg3 harg3 arg4 harg4 arg22 x0 x1 x2 f22) 4) (kRows (scrL c i arg2 harg2 arg3 harg3 arg4 harg4 arg23 x0 x1 x2 f23) 4) (runB.sl.v318 (F := F) c i arg2 harg2 arg3 harg3 arg4 harg4 arg22 arg23 x0 x1 x2 f22 f23) := rfl

/-- The centroids of bag 4 after round 2. -/
theorem b4_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_42 (F := F) c i arg2 harg2 arg3 harg3 arg4 harg4 arg22 arg23 x0 x1 x2 f22 f23) = kRound (kRows (scrH c i arg2 harg2 arg3 harg3 arg4 harg4 arg22 x0 x1 x2 f22) 4) (kRows (scrL c i arg2 harg2 arg3 harg3 arg4 harg4 arg23 x0 x1 x2 f23) 4) (runB.sl.r_26 (F := F) c i arg2 harg2 arg3 harg3 arg4 harg4 arg22 arg23 x0 x1 x2 f22 f23) := rfl

/-- The centroids of bag 4 after round 3. -/
theorem b4_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_58 (F := F) c i arg2 harg2 arg3 harg3 arg4 harg4 arg22 arg23 x0 x1 x2 f22 f23) = kRound (kRows (scrH c i arg2 harg2 arg3 harg3 arg4 harg4 arg22 x0 x1 x2 f22) 4) (kRows (scrL c i arg2 harg2 arg3 harg3 arg4 harg4 arg23 x0 x1 x2 f23) 4) (runB.sl.r_42 (F := F) c i arg2 harg2 arg3 harg3 arg4 harg4 arg22 arg23 x0 x1 x2 f22 f23) := rfl

/-- The centroids of bag 4 after round 4. -/
theorem b4_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_69 (F := F) c i arg2 harg2 arg3 harg3 arg4 harg4 arg22 arg23 x0 x1 x2 f22 f23) = kRound (kRows (scrH c i arg2 harg2 arg3 harg3 arg4 harg4 arg22 x0 x1 x2 f22) 4) (kRows (scrL c i arg2 harg2 arg3 harg3 arg4 harg4 arg23 x0 x1 x2 f23) 4) (runB.sl.r_58 (F := F) c i arg2 harg2 arg3 harg3 arg4 harg4 arg22 arg23 x0 x1 x2 f22 f23) := rfl

/-- The centroids of bag 4 after round 5. -/
theorem b4_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_85 (F := F) c i arg2 harg2 arg3 harg3 arg4 harg4 arg22 arg23 x0 x1 x2 f22 f23) = kRound (kRows (scrH c i arg2 harg2 arg3 harg3 arg4 harg4 arg22 x0 x1 x2 f22) 4) (kRows (scrL c i arg2 harg2 arg3 harg3 arg4 harg4 arg23 x0 x1 x2 f23) 4) (runB.sl.r_69 (F := F) c i arg2 harg2 arg3 harg3 arg4 harg4 arg22 arg23 x0 x1 x2 f22 f23) := rfl

/-- The final membership table of bag 4. -/
theorem b4_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v2131 (F := F) c i arg2 harg2 arg3 harg3 arg4 harg4 arg22 arg23 x0 x1 x2 f22 f23) = kAssign (kRows (scrH c i arg2 harg2 arg3 harg3 arg4 harg4 arg22 x0 x1 x2 f22) 4) (kRows (scrL c i arg2 harg2 arg3 harg3 arg4 harg4 arg23 x0 x1 x2 f23) 4) (runB.sl.r_85 (F := F) c i arg2 harg2 arg3 harg3 arg4 harg4 arg22 arg23 x0 x1 x2 f22 f23) := rfl

/-- The first centroids of bag 5. -/
theorem b5_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v369 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 5 := rfl

/-- The centroids of bag 5 after round 1. -/
theorem b5_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_29 (F := F) c i arg2 harg2 arg3 harg3 arg4 harg4 arg22 arg23 x0 x1 x2 f22 f23) = kRound (kRows (scrH c i arg2 harg2 arg3 harg3 arg4 harg4 arg22 x0 x1 x2 f22) 5) (kRows (scrL c i arg2 harg2 arg3 harg3 arg4 harg4 arg23 x0 x1 x2 f23) 5) (runB.sl.v369 (F := F) c i arg2 harg2 arg3 harg3 arg4 harg4 arg22 arg23 x0 x1 x2 f22 f23) := rfl

/-- The centroids of bag 5 after round 2. -/
theorem b5_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_43 (F := F) c i arg2 harg2 arg3 harg3 arg4 harg4 arg22 arg23 x0 x1 x2 f22 f23) = kRound (kRows (scrH c i arg2 harg2 arg3 harg3 arg4 harg4 arg22 x0 x1 x2 f22) 5) (kRows (scrL c i arg2 harg2 arg3 harg3 arg4 harg4 arg23 x0 x1 x2 f23) 5) (runB.sl.r_29 (F := F) c i arg2 harg2 arg3 harg3 arg4 harg4 arg22 arg23 x0 x1 x2 f22 f23) := rfl

/-- The centroids of bag 5 after round 3. -/
theorem b5_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_59 (F := F) c i arg2 harg2 arg3 harg3 arg4 harg4 arg22 arg23 x0 x1 x2 f22 f23) = kRound (kRows (scrH c i arg2 harg2 arg3 harg3 arg4 harg4 arg22 x0 x1 x2 f22) 5) (kRows (scrL c i arg2 harg2 arg3 harg3 arg4 harg4 arg23 x0 x1 x2 f23) 5) (runB.sl.r_43 (F := F) c i arg2 harg2 arg3 harg3 arg4 harg4 arg22 arg23 x0 x1 x2 f22 f23) := rfl

/-- The centroids of bag 5 after round 4. -/
theorem b5_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_72 (F := F) c i arg2 harg2 arg3 harg3 arg4 harg4 arg22 arg23 x0 x1 x2 f22 f23) = kRound (kRows (scrH c i arg2 harg2 arg3 harg3 arg4 harg4 arg22 x0 x1 x2 f22) 5) (kRows (scrL c i arg2 harg2 arg3 harg3 arg4 harg4 arg23 x0 x1 x2 f23) 5) (runB.sl.r_59 (F := F) c i arg2 harg2 arg3 harg3 arg4 harg4 arg22 arg23 x0 x1 x2 f22 f23) := rfl

/-- The centroids of bag 5 after round 5. -/
theorem b5_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_86 (F := F) c i arg2 harg2 arg3 harg3 arg4 harg4 arg22 arg23 x0 x1 x2 f22 f23) = kRound (kRows (scrH c i arg2 harg2 arg3 harg3 arg4 harg4 arg22 x0 x1 x2 f22) 5) (kRows (scrL c i arg2 harg2 arg3 harg3 arg4 harg4 arg23 x0 x1 x2 f23) 5) (runB.sl.r_72 (F := F) c i arg2 harg2 arg3 harg3 arg4 harg4 arg22 arg23 x0 x1 x2 f22 f23) := rfl

/-- The final membership table of bag 5. -/
theorem b5_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v2159 (F := F) c i arg2 harg2 arg3 harg3 arg4 harg4 arg22 arg23 x0 x1 x2 f22 f23) = kAssign (kRows (scrH c i arg2 harg2 arg3 harg3 arg4 harg4 arg22 x0 x1 x2 f22) 5) (kRows (scrL c i arg2 harg2 arg3 harg3 arg4 harg4 arg23 x0 x1 x2 f23) 5) (runB.sl.r_86 (F := F) c i arg2 harg2 arg3 harg3 arg4 harg4 arg22 arg23 x0 x1 x2 f22 f23) := rfl

/-- The first centroids of bag 6. -/
theorem b6_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v420 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 6 := rfl

/-- The centroids of bag 6 after round 1. -/
theorem b6_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_30 (F := F) c i arg2 harg2 arg3 harg3 arg4 harg4 arg22 arg23 x0 x1 x2 f22 f23) = kRound (kRows (scrH c i arg2 harg2 arg3 harg3 arg4 harg4 arg22 x0 x1 x2 f22) 6) (kRows (scrL c i arg2 harg2 arg3 harg3 arg4 harg4 arg23 x0 x1 x2 f23) 6) (runB.sl.v420 (F := F) c i arg2 harg2 arg3 harg3 arg4 harg4 arg22 arg23 x0 x1 x2 f22 f23) := rfl

/-- The centroids of bag 6 after round 2. -/
theorem b6_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_46 (F := F) c i arg2 harg2 arg3 harg3 arg4 harg4 arg22 arg23 x0 x1 x2 f22 f23) = kRound (kRows (scrH c i arg2 harg2 arg3 harg3 arg4 harg4 arg22 x0 x1 x2 f22) 6) (kRows (scrL c i arg2 harg2 arg3 harg3 arg4 harg4 arg23 x0 x1 x2 f23) 6) (runB.sl.r_30 (F := F) c i arg2 harg2 arg3 harg3 arg4 harg4 arg22 arg23 x0 x1 x2 f22 f23) := rfl

/-- The centroids of bag 6 after round 3. -/
theorem b6_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_60 (F := F) c i arg2 harg2 arg3 harg3 arg4 harg4 arg22 arg23 x0 x1 x2 f22 f23) = kRound (kRows (scrH c i arg2 harg2 arg3 harg3 arg4 harg4 arg22 x0 x1 x2 f22) 6) (kRows (scrL c i arg2 harg2 arg3 harg3 arg4 harg4 arg23 x0 x1 x2 f23) 6) (runB.sl.r_46 (F := F) c i arg2 harg2 arg3 harg3 arg4 harg4 arg22 arg23 x0 x1 x2 f22 f23) := rfl

/-- The centroids of bag 6 after round 4. -/
theorem b6_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_73 (F := F) c i arg2 harg2 arg3 harg3 arg4 harg4 arg22 arg23 x0 x1 x2 f22 f23) = kRound (kRows (scrH c i arg2 harg2 arg3 harg3 arg4 harg4 arg22 x0 x1 x2 f22) 6) (kRows (scrL c i arg2 harg2 arg3 harg3 arg4 harg4 arg23 x0 x1 x2 f23) 6) (runB.sl.r_60 (F := F) c i arg2 harg2 arg3 harg3 arg4 harg4 arg22 arg23 x0 x1 x2 f22 f23) := rfl

/-- The centroids of bag 6 after round 5. -/
theorem b6_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_89 (F := F) c i arg2 harg2 arg3 harg3 arg4 harg4 arg22 arg23 x0 x1 x2 f22 f23) = kRound (kRows (scrH c i arg2 harg2 arg3 harg3 arg4 harg4 arg22 x0 x1 x2 f22) 6) (kRows (scrL c i arg2 harg2 arg3 harg3 arg4 harg4 arg23 x0 x1 x2 f23) 6) (runB.sl.r_73 (F := F) c i arg2 harg2 arg3 harg3 arg4 harg4 arg22 arg23 x0 x1 x2 f22 f23) := rfl

/-- The final membership table of bag 6. -/
theorem b6_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v2187 (F := F) c i arg2 harg2 arg3 harg3 arg4 harg4 arg22 arg23 x0 x1 x2 f22 f23) = kAssign (kRows (scrH c i arg2 harg2 arg3 harg3 arg4 harg4 arg22 x0 x1 x2 f22) 6) (kRows (scrL c i arg2 harg2 arg3 harg3 arg4 harg4 arg23 x0 x1 x2 f23) 6) (runB.sl.r_89 (F := F) c i arg2 harg2 arg3 harg3 arg4 harg4 arg22 arg23 x0 x1 x2 f22 f23) := rfl

/-- The first centroids of bag 7. -/
theorem b7_c0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.v471 (F := F) c i arg2 harg2 arg3 harg3 arg4 harg4 arg22 arg23 x0 x1 x2 f22 f23) = kCent0 (scrH c i arg2 harg2 arg3 harg3 arg4 harg4 arg22 x0 x1 x2 f22) (scrL c i arg2 harg2 arg3 harg3 arg4 harg4 arg23 x0 x1 x2 f23) 7 := rfl

/-- The centroids of bag 7 after round 1. -/
theorem b7_c1 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_31 (F := F) c i arg2 harg2 arg3 harg3 arg4 harg4 arg22 arg23 x0 x1 x2 f22 f23) = kRound (kRows (scrH c i arg2 harg2 arg3 harg3 arg4 harg4 arg22 x0 x1 x2 f22) 7) (kRows (scrL c i arg2 harg2 arg3 harg3 arg4 harg4 arg23 x0 x1 x2 f23) 7) (runB.sl.v471 (F := F) c i arg2 harg2 arg3 harg3 arg4 harg4 arg22 arg23 x0 x1 x2 f22 f23) := rfl

/-- The centroids of bag 7 after round 2. -/
theorem b7_c2 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_47 (F := F) c i arg2 harg2 arg3 harg3 arg4 harg4 arg22 arg23 x0 x1 x2 f22 f23) = kRound (kRows (scrH c i arg2 harg2 arg3 harg3 arg4 harg4 arg22 x0 x1 x2 f22) 7) (kRows (scrL c i arg2 harg2 arg3 harg3 arg4 harg4 arg23 x0 x1 x2 f23) 7) (runB.sl.r_31 (F := F) c i arg2 harg2 arg3 harg3 arg4 harg4 arg22 arg23 x0 x1 x2 f22 f23) := rfl

/-- The centroids of bag 7 after round 3. -/
theorem b7_c3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_61 (F := F) c i arg2 harg2 arg3 harg3 arg4 harg4 arg22 arg23 x0 x1 x2 f22 f23) = kRound (kRows (scrH c i arg2 harg2 arg3 harg3 arg4 harg4 arg22 x0 x1 x2 f22) 7) (kRows (scrL c i arg2 harg2 arg3 harg3 arg4 harg4 arg23 x0 x1 x2 f23) 7) (runB.sl.r_47 (F := F) c i arg2 harg2 arg3 harg3 arg4 harg4 arg22 arg23 x0 x1 x2 f22 f23) := rfl

/-- The centroids of bag 7 after round 4. -/
theorem b7_c4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_74 (F := F) c i arg2 harg2 arg3 harg3 arg4 harg4 arg22 arg23 x0 x1 x2 f22 f23) = kRound (kRows (scrH c i arg2 harg2 arg3 harg3 arg4 harg4 arg22 x0 x1 x2 f22) 7) (kRows (scrL c i arg2 harg2 arg3 harg3 arg4 harg4 arg23 x0 x1 x2 f23) 7) (runB.sl.r_61 (F := F) c i arg2 harg2 arg3 harg3 arg4 harg4 arg22 arg23 x0 x1 x2 f22 f23) := rfl

/-- The centroids of bag 7 after round 5. -/
theorem b7_c5 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_90 (F := F) c i arg2 harg2 arg3 harg3 arg4 harg4 arg22 arg23 x0 x1 x2 f22 f23) = kRound (kRows (scrH c i arg2 harg2 arg3 harg3 arg4 harg4 arg22 x0 x1 x2 f22) 7) (kRows (scrL c i arg2 harg2 arg3 harg3 arg4 harg4 arg23 x0 x1 x2 f23) 7) (runB.sl.r_74 (F := F) c i arg2 harg2 arg3 harg3 arg4 harg4 arg22 arg23 x0 x1 x2 f22 f23) := rfl

/-- The final membership table of bag 7. -/
theorem b7_o (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg22 : Memref sig .tc .vmem S32768x256 .bf16) (arg23 : Memref sig .tc .vmem S32768x256 .bf16) (x0 : Vec F S1x1024x1024 .f32) (x1 : Vec F S1024x256 .f32) (x2 : Vec F S1x256 .f32) (f22 : arg22.view.ty.Contents (Elt F)) (f23 : arg23.view.ty.Contents (Elt F)) :
    (runB.sl.r_94 (F := F) c i arg2 harg2 arg3 harg3 arg4 harg4 arg22 arg23 x0 x1 x2 f22 f23) = kAssign (kRows (scrH c i arg2 harg2 arg3 harg3 arg4 harg4 arg22 x0 x1 x2 f22) 7) (kRows (scrL c i arg2 harg2 arg3 harg3 arg4 harg4 arg23 x0 x1 x2 f23) 7) (runB.sl.r_90 (F := F) c i arg2 harg2 arg3 harg3 arg4 harg4 arg22 arg23 x0 x1 x2 f22 f23) := rfl

end Cert.KernelIdeal.Own

end
-- ==== Proof.Stores.lean ====
module

public import proofs.«01_k».proof.Proof.Stages
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL.Sem

variable {F : FTy → Type} [FloatOps F] [Named F]

/-- What the second phase stores: a bag's head over its regions, for each bag. -/
theorem runB_stores (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2.2 = [⟨Rect.unit ![7, 0, 0] S1x1x128.size inb_S8x1x128_S1x1x128_7_0_0, kHead (kRegion (kRows (scrH c i arg2 harg2 arg3 harg3 arg4 harg4 arg22 x0 x1 x2 f22) 7) (kRows (scrL c i arg2 harg2 arg3 harg3 arg4 harg4 arg23 x0 x1 x2 f23) 7) (runB.sl.r_94 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 7) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![6, 0, 0] S1x1x128.size inb_S8x1x128_S1x1x128_6_0_0, kHead (kRegion (kRows (scrH c i arg2 harg2 arg3 harg3 arg4 harg4 arg22 x0 x1 x2 f22) 6) (kRows (scrL c i arg2 harg2 arg3 harg3 arg4 harg4 arg23 x0 x1 x2 f23) 6) (runB.sl.v2187 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 6) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![5, 0, 0] S1x1x128.size inb_S8x1x128_S1x1x128_5_0_0, kHead (kRegion (kRows (scrH c i arg2 harg2 arg3 harg3 arg4 harg4 arg22 x0 x1 x2 f22) 5) (kRows (scrL c i arg2 harg2 arg3 harg3 arg4 harg4 arg23 x0 x1 x2 f23) 5) (runB.sl.v2159 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 5) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![4, 0, 0] S1x1x128.size inb_S8x1x128_S1x1x128_4_0_0, kHead (kRegion (kRows (scrH c i arg2 harg2 arg3 harg3 arg4 harg4 arg22 x0 x1 x2 f22) 4) (kRows (scrL c i arg2 harg2 arg3 harg3 arg4 harg4 arg23 x0 x1 x2 f23) 4) (runB.sl.v2131 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 4) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![3, 0, 0] S1x1x128.size inb_S8x1x128_S1x1x128_3_0_0, kHead (kRegion (kRows (scrH c i arg2 harg2 arg3 harg3 arg4 harg4 arg22 x0 x1 x2 f22) 3) (kRows (scrL c i arg2 harg2 arg3 harg3 arg4 harg4 arg23 x0 x1 x2 f23) 3) (runB.sl.v2103 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 3) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![2, 0, 0] S1x1x128.size inb_S8x1x128_S1x1x128_2_0_0, kHead (kRegion (kRows (scrH c i arg2 harg2 arg3 harg3 arg4 harg4 arg22 x0 x1 x2 f22) 2) (kRows (scrL c i arg2 harg2 arg3 harg3 arg4 harg4 arg23 x0 x1 x2 f23) 2) (runB.sl.v2075 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 2) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![1, 0, 0] S1x1x128.size inb_S8x1x128_S1x1x128_1_0_0, kHead (kRegion (kRows (scrH c i arg2 harg2 arg3 harg3 arg4 harg4 arg22 x0 x1 x2 f22) 1) (kRows (scrL c i arg2 harg2 arg3 harg3 arg4 harg4 arg23 x0 x1 x2 f23) 1) (runB.sl.v2047 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 1) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩,
      ⟨Rect.unit ![0, 0, 0] S1x1x128.size inb_S8x1x128_S1x1x128_0_0_0, kHead (kRegion (kRows (scrH c i arg2 harg2 arg3 harg3 arg4 harg4 arg22 x0 x1 x2 f22) 0) (kRows (scrL c i arg2 harg2 arg3 harg3 arg4 harg4 arg23 x0 x1 x2 f23) 0) (runB.sl.r_91 (F := F) c i arg2 harg2 arg3 harg3 arg4 harg4 arg22 arg23 x0 x1 x2 f22 f23) (kLogits (scrA c i arg2 harg2 arg3 harg3 arg4 harg4 arg5 harg5 arg6 harg6 arg7 harg7 arg8 harg8 arg24 x0 x1 x2 x3 x4 x5 x6 f24) 0) (View.readAt (Elt F) arg9.view (Rect.unit ![0, 0] S1x256.size inb_S1x256_S1x256_0_0).toLoadRect (harg9.unread x7)) (View.readAt (Elt F) arg10.view (Rect.unit ![0, 0] S1x256.size inb_S1x256_S1x256_0_0).toLoadRect (harg10.unread x8))) (View.readAt (Elt F) arg11.view (Rect.unit ![0, 0] S256x256.size inb_S256x256_S256x256_0_0).toLoadRect (harg11.unread x9)) (View.readAt (Elt F) arg12.view (Rect.unit ![0, 0] S1x256.size inb_S1x256_S1x256_0_0).toLoadRect (harg12.unread x10)) (View.readAt (Elt F) arg13.view (Rect.unit ![0, 0] S256x256.size inb_S256x256_S256x256_0_0).toLoadRect (harg13.unread x11)) (View.readAt (Elt F) arg14.view (Rect.unit ![0, 0] S1x256.size inb_S1x256_S1x256_0_0).toLoadRect (harg14.unread x12)) (View.readAt (Elt F) arg15.view (Rect.unit ![0, 0] S256x1.size inb_S256x1_S256x1_0_0).toLoadRect (harg15.unread x13)) (View.readAt (Elt F) arg16.view (Rect.unit ![0, 0] S1x1.size inb_S1x1_S1x1_0_0).toLoadRect (harg16.unread x14)) (View.readAt (Elt F) arg17.view (Rect.unit ![0, 0] S1x256.size inb_S1x256_S1x256_0_0).toLoadRect (harg17.unread x15)) (View.readAt (Elt F) arg18.view (Rect.unit ![0, 0] S1x256.size inb_S1x256_S1x256_0_0).toLoadRect (harg18.unread x16)) (View.readAt (Elt F) arg19.view (Rect.unit ![0, 0] S256x128.size inb_S256x128_S256x128_0_0).toLoadRect (harg19.unread x17)) (View.readAt (Elt F) arg20.view (Rect.unit ![0, 0] S1x128.size inb_S1x128_S1x128_0_0).toLoadRect (harg20.unread x18))⟩] := rfl

/-- What the second phase stores: a bag's class scores, for each bag. -/
theorem runB_out (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2.2 = [⟨Rect.unit ![7, 0, 0] S1x1x128.size inb_S8x1x128_S1x1x128_7_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 7 x7 x8 x9 x10 x11 x12 x13 x14 x15 x16 x17 x18⟩,
      ⟨Rect.unit ![6, 0, 0] S1x1x128.size inb_S8x1x128_S1x1x128_6_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 6 x7 x8 x9 x10 x11 x12 x13 x14 x15 x16 x17 x18⟩,
      ⟨Rect.unit ![5, 0, 0] S1x1x128.size inb_S8x1x128_S1x1x128_5_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 5 x7 x8 x9 x10 x11 x12 x13 x14 x15 x16 x17 x18⟩,
      ⟨Rect.unit ![4, 0, 0] S1x1x128.size inb_S8x1x128_S1x1x128_4_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 4 x7 x8 x9 x10 x11 x12 x13 x14 x15 x16 x17 x18⟩,
      ⟨Rect.unit ![3, 0, 0] S1x1x128.size inb_S8x1x128_S1x1x128_3_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 3 x7 x8 x9 x10 x11 x12 x13 x14 x15 x16 x17 x18⟩,
      ⟨Rect.unit ![2, 0, 0] S1x1x128.size inb_S8x1x128_S1x1x128_2_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 2 x7 x8 x9 x10 x11 x12 x13 x14 x15 x16 x17 x18⟩,
      ⟨Rect.unit ![1, 0, 0] S1x1x128.size inb_S8x1x128_S1x1x128_1_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 1 x7 x8 x9 x10 x11 x12 x13 x14 x15 x16 x17 x18⟩,
      ⟨Rect.unit ![0, 0, 0] S1x1x128.size inb_S8x1x128_S1x1x128_0_0_0, kBag (scrH c i arg2 harg2 arg3 harg3 arg4 harg4 arg22 x0 x1 x2 f22) (scrL c i arg2 harg2 arg3 harg3 arg4 harg4 arg23 x0 x1 x2 f23) (scrA c i arg2 harg2 arg3 harg3 arg4 harg4 arg5 harg5 arg6 harg6 arg7 harg7 arg8 harg8 arg24 x0 x1 x2 x3 x4 x5 x6 f24) 0 x7 x8 x9 x10 x11 x12 x13 x14 x15 x16 x17 x18⟩] := by
  rw [runB_stores]
  have e9 : View.readAt (Elt F) arg9.view (Rect.unit ![0, 0] S1x256.size inb_S1x256_S1x256_0_0).toLoadRect (harg9.unread x7) = x7 :=
    (View.readAt_full _ _ _).trans (harg9.read_unread _)
  have e10 : View.readAt (Elt F) arg10.view (Rect.unit ![0, 0] S1x256.size inb_S1x256_S1x256_0_0).toLoadRect (harg10.unread x8) = x8 :=
    (View.readAt_full _ _ _).trans (harg10.read_unread _)
  have e11 : View.readAt (Elt F) arg11.view (Rect.unit ![0, 0] S256x256.size inb_S256x256_S256x256_0_0).toLoadRect (harg11.unread x9) = x9 :=
    (View.readAt_full _ _ _).trans (harg11.read_unread _)
  have e12 : View.readAt (Elt F) arg12.view (Rect.unit ![0, 0] S1x256.size inb_S1x256_S1x256_0_0).toLoadRect (harg12.unread x10) = x10 :=
    (View.readAt_full _ _ _).trans (harg12.read_unread _)
  have e13 : View.readAt (Elt F) arg13.view (Rect.unit ![0, 0] S256x256.size inb_S256x256_S256x256_0_0).toLoadRect (harg13.unread x11) = x11 :=
    (View.readAt_full _ _ _).trans (harg13.read_unread _)
  have e14 : View.readAt (Elt F) arg14.view (Rect.unit ![0, 0] S1x256.size inb_S1x256_S1x256_0_0).toLoadRect (harg14.unread x12) = x12 :=
    (View.readAt_full _ _ _).trans (harg14.read_unread _)
  have e15 : View.readAt (Elt F) arg15.view (Rect.unit ![0, 0] S256x1.size inb_S256x1_S256x1_0_0).toLoadRect (harg15.unread x13) = x13 :=
    (View.readAt_full _ _ _).trans (harg15.read_unread _)
  have e16 : View.readAt (Elt F) arg16.view (Rect.unit ![0, 0] S1x1.size inb_S1x1_S1x1_0_0).toLoadRect (harg16.unread x14) = x14 :=
    (View.readAt_full _ _ _).trans (harg16.read_unread _)
  have e17 : View.readAt (Elt F) arg17.view (Rect.unit ![0, 0] S1x256.size inb_S1x256_S1x256_0_0).toLoadRect (harg17.unread x15) = x15 :=
    (View.readAt_full _ _ _).trans (harg17.read_unread _)
  have e18 : View.readAt (Elt F) arg18.view (Rect.unit ![0, 0] S1x256.size inb_S1x256_S1x256_0_0).toLoadRect (harg18.unread x16) = x16 :=
    (View.readAt_full _ _ _).trans (harg18.read_unread _)
  have e19 : View.readAt (Elt F) arg19.view (Rect.unit ![0, 0] S256x128.size inb_S256x128_S256x128_0_0).toLoadRect (harg19.unread x17) = x17 :=
    (View.readAt_full _ _ _).trans (harg19.read_unread _)
  have e20 : View.readAt (Elt F) arg20.view (Rect.unit ![0, 0] S1x128.size inb_S1x128_S1x128_0_0).toLoadRect (harg20.unread x18) = x18 :=
    (View.readAt_full _ _ _).trans (harg20.read_unread _)
  rw [e9, e10, e11, e12, e13, e14, e15, e16, e17, e18, e19, e20]
  rw [b0_o, b0_c5, b0_c4, b0_c3, b0_c2, b0_c1, b0_c0, b1_o, b1_c5, b1_c4, b1_c3, b1_c2, b1_c1, b1_c0, b2_o, b2_c5, b2_c4, b2_c3, b2_c2, b2_c1, b2_c0, b3_o, b3_c5, b3_c4, b3_c3, b3_c2, b3_c1, b3_c0, b4_o, b4_c5, b4_c4, b4_c3, b4_c2, b4_c1, b4_c0, b5_o, b5_c5, b5_c4, b5_c3, b5_c2, b5_c1, b5_c0, b6_o, b6_c5, b6_c4, b6_c3, b6_c2, b6_c1, b6_c0, b7_o, b7_c5, b7_c4, b7_c3, b7_c2, b7_c1, b7_c0]
  rfl

/-- The pieces stored in scratch 0 at the last point. -/
theorem runB_piecesH (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.1 = (runB.sl.HS0_1 (F := F) c i arg2 harg2 arg3 harg3 arg4 harg4 x0 x1 x2) := rfl

/-- The pieces stored in scratch 1 at the last point. -/
theorem runB_piecesL (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.1 = (runB.sl.HS1_1 (F := F) c i arg2 harg2 arg3 harg3 arg4 harg4 x0 x1 x2) := rfl

/-- The pieces stored in scratch 2 at the last point. -/
theorem runB_piecesA (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2.1 = (runB.sl.HS2_1 (F := F) c i arg2 harg2 arg3 harg3 arg4 harg4 arg5 harg5 arg6 harg6 arg7 harg7 arg8 harg8 x0 x1 x2 x3 x4 x5 x6) := rfl

end Cert.KernelIdeal.Own

end
-- ==== Proof.Pieces.lean ====
module

public import proofs.«01_k».proof.Proof.Stores
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the first phase stores -/

/-- The rows stored in scratch 0 at a point that is not the last. -/
theorem runA_H (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : ¬cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.1 = [⟨Rect.unit (k0_off1 i) S1024x256.size (k0_off1_inb i), k0_pay270 x0 x1 x2⟩] := by
  have e2 : View.readAt (Elt F) arg2.view (Rect.unit ![0, 0, 0] S1x1024x1024.size inb_S1x1024x1024_S1x1024x1024_0_0_0).toLoadRect (harg2.unread x0) = x0 :=
    (View.readAt_full _ _ _).trans (harg2.read_unread _)
  have e3 : View.readAt (Elt F) arg3.view (Rect.unit ![0, 0] S1024x256.size inb_S1024x256_S1024x256_0_0).toLoadRect (harg3.unread x1) = x1 :=
    (View.readAt_full _ _ _).trans (harg3.read_unread _)
  have e4 : View.readAt (Elt F) arg4.view (Rect.unit ![0, 0] S1x256.size inb_S1x256_S1x256_0_0).toLoadRect (harg4.unread x2) = x2 :=
    (View.readAt_full _ _ _).trans (harg4.read_unread _)
  have e : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.1 = ([⟨Rect.unit (k0_off1 i) S1024x256.size (k0_off1_inb i), k0_pay270 (View.readAt (Elt F) arg2.view (Rect.unit ![0, 0, 0] S1x1024x1024.size inb_S1x1024x1024_S1x1024x1024_0_0_0).toLoadRect (harg2.unread x0)) (View.readAt (Elt F) arg3.view (Rect.unit ![0, 0] S1024x256.size inb_S1024x256_S1024x256_0_0).toLoadRect (harg3.unread x1)) (View.readAt (Elt F) arg4.view (Rect.unit ![0, 0] S1x256.size inb_S1x256_S1x256_0_0).toLoadRect (harg4.unread x2))⟩] : List (View.Piece (Elt F) S32768x256 .bf16)) := rfl
  rw [e, e2, e3, e4]

/-- The rows stored in scratch 1 at a point that is not the last. -/
theorem runA_L (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : ¬cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.1 = [⟨Rect.unit (k0_off1 i) S1024x256.size (k0_off1_inb i), k0_pay1 (k0_pay269 x0 x1 x2)⟩] := by
  have e2 : View.readAt (Elt F) arg2.view (Rect.unit ![0, 0, 0] S1x1024x1024.size inb_S1x1024x1024_S1x1024x1024_0_0_0).toLoadRect (harg2.unread x0) = x0 :=
    (View.readAt_full _ _ _).trans (harg2.read_unread _)
  have e3 : View.readAt (Elt F) arg3.view (Rect.unit ![0, 0] S1024x256.size inb_S1024x256_S1024x256_0_0).toLoadRect (harg3.unread x1) = x1 :=
    (View.readAt_full _ _ _).trans (harg3.read_unread _)
  have e4 : View.readAt (Elt F) arg4.view (Rect.unit ![0, 0] S1x256.size inb_S1x256_S1x256_0_0).toLoadRect (harg4.unread x2) = x2 :=
    (View.readAt_full _ _ _).trans (harg4.read_unread _)
  have e : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.1 = ([⟨Rect.unit (k0_off1 i) S1024x256.size (k0_off1_inb i), k0_pay1 (k0_pay269 (View.readAt (Elt F) arg2.view (Rect.unit ![0, 0, 0] S1x1024x1024.size inb_S1x1024x1024_S1x1024x1024_0_0_0).toLoadRect (harg2.unread x0)) (View.readAt (Elt F) arg3.view (Rect.unit ![0, 0] S1024x256.size inb_S1024x256_S1024x256_0_0).toLoadRect (harg3.unread x1)) (View.readAt (Elt F) arg4.view (Rect.unit ![0, 0] S1x256.size inb_S1x256_S1x256_0_0).toLoadRect (harg4.unread x2)))⟩] : List (View.Piece (Elt F) S32768x256 .bf16)) := rfl
  rw [e, e2, e3, e4]

/-- The rows stored in scratch 2 at a point that is not the last. -/
theorem runA_G (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : ¬cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2 = [⟨Rect.unit (k0_off2 i) S1x1024.size (k0_off2_inb i), k0_pay2 (k0_pay267 x0 x1 x2 x3 x4 x5 x6)⟩] := by
  have e2 : View.readAt (Elt F) arg2.view (Rect.unit ![0, 0, 0] S1x1024x1024.size inb_S1x1024x1024_S1x1024x1024_0_0_0).toLoadRect (harg2.unread x0) = x0 :=
    (View.readAt_full _ _ _).trans (harg2.read_unread _)
  have e3 : View.readAt (Elt F) arg3.view (Rect.unit ![0, 0] S1024x256.size inb_S1024x256_S1024x256_0_0).toLoadRect (harg3.unread x1) = x1 :=
    (View.readAt_full _ _ _).trans (harg3.read_unread _)
  have e4 : View.readAt (Elt F) arg4.view (Rect.unit ![0, 0] S1x256.size inb_S1x256_S1x256_0_0).toLoadRect (harg4.unread x2) = x2 :=
    (View.readAt_full _ _ _).trans (harg4.read_unread _)
  have e5 : View.readAt (Elt F) arg5.view (Rect.unit ![0, 0] S256x256.size inb_S256x256_S256x256_0_0).toLoadRect (harg5.unread x3) = x3 :=
    (View.readAt_full _ _ _).trans (harg5.read_unread _)
  have e6 : View.readAt (Elt F) arg6.view (Rect.unit ![0, 0] S1x256.size inb_S1x256_S1x256_0_0).toLoadRect (harg6.unread x4) = x4 :=
    (View.readAt_full _ _ _).trans (harg6.read_unread _)
  have e7 : View.readAt (Elt F) arg7.view (Rect.unit ![0, 0] S256x1.size inb_S256x1_S256x1_0_0).toLoadRect (harg7.unread x5) = x5 :=
    (View.readAt_full _ _ _).trans (harg7.read_unread _)
  have e8 : View.readAt (Elt F) arg8.view (Rect.unit ![0, 0] S1x1.size inb_S1x1_S1x1_0_0).toLoadRect (harg8.unread x6) = x6 :=
    (View.readAt_full _ _ _).trans (harg8.read_unread _)
  have e : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2 = ([⟨Rect.unit (k0_off2 i) S1x1024.size (k0_off2_inb i), k0_pay2 (k0_pay267 (View.readAt (Elt F) arg2.view (Rect.unit ![0, 0, 0] S1x1024x1024.size inb_S1x1024x1024_S1x1024x1024_0_0_0).toLoadRect (harg2.unread x0)) (View.readAt (Elt F) arg3.view (Rect.unit ![0, 0] S1024x256.size inb_S1024x256_S1024x256_0_0).toLoadRect (harg3.unread x1)) (View.readAt (Elt F) arg4.view (Rect.unit ![0, 0] S1x256.size inb_S1x256_S1x256_0_0).toLoadRect (harg4.unread x2)) (View.readAt (Elt F) arg5.view (Rect.unit ![0, 0] S256x256.size inb_S256x256_S256x256_0_0).toLoadRect (harg5.unread x3)) (View.readAt (Elt F) arg6.view (Rect.unit ![0, 0] S1x256.size inb_S1x256_S1x256_0_0).toLoadRect (harg6.unread x4)) (View.readAt (Elt F) arg7.view (Rect.unit ![0, 0] S256x1.size inb_S256x1_S256x1_0_0).toLoadRect (harg7.unread x5)) (View.readAt (Elt F) arg8.view (Rect.unit ![0, 0] S1x1.size inb_S1x1_S1x1_0_0).toLoadRect (harg8.unread x6)))⟩] : List (View.Piece (Elt F) S1x32768 .f32)) := rfl
  rw [e, e2, e3, e4, e5, e6, e7, e8]

/-- The rows stored in scratch 0 at the last point. -/
theorem runB_H (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.1 = [⟨Rect.unit (k0_off1 i) S1024x256.size (k0_off1_inb i), k0_pay270 x0 x1 x2⟩] := by
  have e2 : View.readAt (Elt F) arg2.view (Rect.unit ![0, 0, 0] S1x1024x1024.size inb_S1x1024x1024_S1x1024x1024_0_0_0).toLoadRect (harg2.unread x0) = x0 :=
    (View.readAt_full _ _ _).trans (harg2.read_unread _)
  have e3 : View.readAt (Elt F) arg3.view (Rect.unit ![0, 0] S1024x256.size inb_S1024x256_S1024x256_0_0).toLoadRect (harg3.unread x1) = x1 :=
    (View.readAt_full _ _ _).trans (harg3.read_unread _)
  have e4 : View.readAt (Elt F) arg4.view (Rect.unit ![0, 0] S1x256.size inb_S1x256_S1x256_0_0).toLoadRect (harg4.unread x2) = x2 :=
    (View.readAt_full _ _ _).trans (harg4.read_unread _)
  have e : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.1 = ([⟨Rect.unit (k0_off1 i) S1024x256.size (k0_off1_inb i), k0_pay270 (View.readAt (Elt F) arg2.view (Rect.unit ![0, 0, 0] S1x1024x1024.size inb_S1x1024x1024_S1x1024x1024_0_0_0).toLoadRect (harg2.unread x0)) (View.readAt (Elt F) arg3.view (Rect.unit ![0, 0] S1024x256.size inb_S1024x256_S1024x256_0_0).toLoadRect (harg3.unread x1)) (View.readAt (Elt F) arg4.view (Rect.unit ![0, 0] S1x256.size inb_S1x256_S1x256_0_0).toLoadRect (harg4.unread x2))⟩] : List (View.Piece (Elt F) S32768x256 .bf16)) := rfl
  rw [e, e2, e3, e4]

/-- The rows stored in scratch 1 at the last point. -/
theorem runB_L (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.1 = [⟨Rect.unit (k0_off1 i) S1024x256.size (k0_off1_inb i), k0_pay1 (k0_pay269 x0 x1 x2)⟩] := by
  have e2 : View.readAt (Elt F) arg2.view (Rect.unit ![0, 0, 0] S1x1024x1024.size inb_S1x1024x1024_S1x1024x1024_0_0_0).toLoadRect (harg2.unread x0) = x0 :=
    (View.readAt_full _ _ _).trans (harg2.read_unread _)
  have e3 : View.readAt (Elt F) arg3.view (Rect.unit ![0, 0] S1024x256.size inb_S1024x256_S1024x256_0_0).toLoadRect (harg3.unread x1) = x1 :=
    (View.readAt_full _ _ _).trans (harg3.read_unread _)
  have e4 : View.readAt (Elt F) arg4.view (Rect.unit ![0, 0] S1x256.size inb_S1x256_S1x256_0_0).toLoadRect (harg4.unread x2) = x2 :=
    (View.readAt_full _ _ _).trans (harg4.read_unread _)
  have e : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.1 = ([⟨Rect.unit (k0_off1 i) S1024x256.size (k0_off1_inb i), k0_pay1 (k0_pay269 (View.readAt (Elt F) arg2.view (Rect.unit ![0, 0, 0] S1x1024x1024.size inb_S1x1024x1024_S1x1024x1024_0_0_0).toLoadRect (harg2.unread x0)) (View.readAt (Elt F) arg3.view (Rect.unit ![0, 0] S1024x256.size inb_S1024x256_S1024x256_0_0).toLoadRect (harg3.unread x1)) (View.readAt (Elt F) arg4.view (Rect.unit ![0, 0] S1x256.size inb_S1x256_S1x256_0_0).toLoadRect (harg4.unread x2)))⟩] : List (View.Piece (Elt F) S32768x256 .bf16)) := rfl
  rw [e, e2, e3, e4]

/-- The rows stored in scratch 2 at the last point. -/
theorem runB_G (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2.1 = [⟨Rect.unit (k0_off2 i) S1x1024.size (k0_off2_inb i), k0_pay2 (k0_pay267 x0 x1 x2 x3 x4 x5 x6)⟩] := by
  have e2 : View.readAt (Elt F) arg2.view (Rect.unit ![0, 0, 0] S1x1024x1024.size inb_S1x1024x1024_S1x1024x1024_0_0_0).toLoadRect (harg2.unread x0) = x0 :=
    (View.readAt_full _ _ _).trans (harg2.read_unread _)
  have e3 : View.readAt (Elt F) arg3.view (Rect.unit ![0, 0] S1024x256.size inb_S1024x256_S1024x256_0_0).toLoadRect (harg3.unread x1) = x1 :=
    (View.readAt_full _ _ _).trans (harg3.read_unread _)
  have e4 : View.readAt (Elt F) arg4.view (Rect.unit ![0, 0] S1x256.size inb_S1x256_S1x256_0_0).toLoadRect (harg4.unread x2) = x2 :=
    (View.readAt_full _ _ _).trans (harg4.read_unread _)
  have e5 : View.readAt (Elt F) arg5.view (Rect.unit ![0, 0] S256x256.size inb_S256x256_S256x256_0_0).toLoadRect (harg5.unread x3) = x3 :=
    (View.readAt_full _ _ _).trans (harg5.read_unread _)
  have e6 : View.readAt (Elt F) arg6.view (Rect.unit ![0, 0] S1x256.size inb_S1x256_S1x256_0_0).toLoadRect (harg6.unread x4) = x4 :=
    (View.readAt_full _ _ _).trans (harg6.read_unread _)
  have e7 : View.readAt (Elt F) arg7.view (Rect.unit ![0, 0] S256x1.size inb_S256x1_S256x1_0_0).toLoadRect (harg7.unread x5) = x5 :=
    (View.readAt_full _ _ _).trans (harg7.read_unread _)
  have e8 : View.readAt (Elt F) arg8.view (Rect.unit ![0, 0] S1x1.size inb_S1x1_S1x1_0_0).toLoadRect (harg8.unread x6) = x6 :=
    (View.readAt_full _ _ _).trans (harg8.read_unread _)
  have e : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).1.2.2.1 = ([⟨Rect.unit (k0_off2 i) S1x1024.size (k0_off2_inb i), k0_pay2 (k0_pay267 (View.readAt (Elt F) arg2.view (Rect.unit ![0, 0, 0] S1x1024x1024.size inb_S1x1024x1024_S1x1024x1024_0_0_0).toLoadRect (harg2.unread x0)) (View.readAt (Elt F) arg3.view (Rect.unit ![0, 0] S1024x256.size inb_S1024x256_S1024x256_0_0).toLoadRect (harg3.unread x1)) (View.readAt (Elt F) arg4.view (Rect.unit ![0, 0] S1x256.size inb_S1x256_S1x256_0_0).toLoadRect (harg4.unread x2)) (View.readAt (Elt F) arg5.view (Rect.unit ![0, 0] S256x256.size inb_S256x256_S256x256_0_0).toLoadRect (harg5.unread x3)) (View.readAt (Elt F) arg6.view (Rect.unit ![0, 0] S1x256.size inb_S1x256_S1x256_0_0).toLoadRect (harg6.unread x4)) (View.readAt (Elt F) arg7.view (Rect.unit ![0, 0] S256x1.size inb_S256x1_S256x1_0_0).toLoadRect (harg7.unread x5)) (View.readAt (Elt F) arg8.view (Rect.unit ![0, 0] S1x1.size inb_S1x1_S1x1_0_0).toLoadRect (harg8.unread x6)))⟩] : List (View.Piece (Elt F) S1x32768 .f32)) := rfl
  rw [e, e2, e3, e4, e5, e6, e7, e8]

end Cert.KernelIdeal.Own

end
-- ==== Proof.Phases.lean ====
module

public import proofs.«01_k».proof.Proof.Pieces

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two runs of the body, with the stored values named -/

/-- The eight stores of the output block, one for each bag. -/
abbrev bagPieces (p : Fin 8 → FVec F S1x1x128 .f32) : List (View.Piece (Elt F) S8x1x128 .f32) :=
  [⟨Rect.unit ![7, 0, 0] S1x1x128.size inb_S8x1x128_S1x1x128_7_0_0, p 7⟩,
   ⟨Rect.unit ![6, 0, 0] S1x1x128.size inb_S8x1x128_S1x1x128_6_0_0, p 6⟩,
   ⟨Rect.unit ![5, 0, 0] S1x1x128.size inb_S8x1x128_S1x1x128_5_0_0, p 5⟩,
   ⟨Rect.unit ![4, 0, 0] S1x1x128.size inb_S8x1x128_S1x1x128_4_0_0, p 4⟩,
   ⟨Rect.unit ![3, 0, 0] S1x1x128.size inb_S8x1x128_S1x1x128_3_0_0, p 3⟩,
   ⟨Rect.unit ![2, 0, 0] S1x1x128.size inb_S8x1x128_S1x1x128_2_0_0, p 2⟩,
   ⟨Rect.unit ![1, 0, 0] S1x1x128.size inb_S8x1x128_S1x1x128_1_0_0, p 1⟩,
   ⟨Rect.unit ![0, 0, 0] S1x1x128.size inb_S8x1x128_S1x1x128_0_0_0, p 0⟩]

/-- The body at a point that is not the last: it stores the point's block in each scratch. -/
theorem phaseA (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : ¬cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} f19) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} f19) ∗ (View.loc (c : Thread nD τ) arg22.view ↦[arg22.view.set]{fullShare} arg22.view.writes (Elt F) f22 [⟨Rect.unit (k0_off1 i) S1024x256.size (k0_off1_inb i), k0_pay270 x0 x1 x2⟩]) ∗ (View.loc (c : Thread nD τ) arg23.view ↦[arg23.view.set]{fullShare} arg23.view.writes (Elt F) f23 [⟨Rect.unit (k0_off1 i) S1024x256.size (k0_off1_inb i), k0_pay1 (k0_pay269 x0 x1 x2)⟩]) ∗ (View.loc (c : Thread nD τ) arg24.view ↦[arg24.view.set]{fullShare} arg24.view.writes (Elt F) f24 [⟨Rect.unit (k0_off2 i) S1x1024.size (k0_off2_inb i), k0_pay2 (k0_pay267 x0 x1 x2 x3 x4 x5 x6)⟩])) -∗ K ⟨⟩))
          ⊢ wp frame (wpE (defs₀ (F := F)) Variants.none c none) E (cc0__bag_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have h := (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).2
  rw [runA_H, runA_L, runA_G] at h
  exact h

set_option maxHeartbeats 2000000 in
/-- The body at the last point: the same stores, and the class scores of every bag. -/
theorem phaseB (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S8x1x128 .f32) (harg21 : arg21.IsWhole) (arg22 : Memref sig .tc .vmem S32768x256 .bf16) (harg22 : arg22.IsWhole) (arg23 : Memref sig .tc .vmem S32768x256 .bf16) (harg23 : arg23.IsWhole) (arg24 : Memref sig .tc .vmem S1x32768 .f32) (harg24 : arg24.IsWhole) (hc0 : cond0_0 i) (x0 : Vec F S1x1024x1024 .f32) (x1 : Vec F S1024x256 .f32) (x2 : Vec F S1x256 .f32) (x3 : Vec F S256x256 .f32) (x4 : Vec F S1x256 .f32) (x5 : Vec F S256x1 .f32) (x6 : Vec F S1x1 .f32) (x7 : Vec F S1x256 .f32) (x8 : Vec F S1x256 .f32) (x9 : Vec F S256x256 .f32) (x10 : Vec F S1x256 .f32) (x11 : Vec F S256x256 .f32) (x12 : Vec F S1x256 .f32) (x13 : Vec F S256x1 .f32) (x14 : Vec F S1x1 .f32) (x15 : Vec F S1x256 .f32) (x16 : Vec F S1x256 .f32) (x17 : Vec F S256x128 .f32) (x18 : Vec F S1x128 .f32) (f19 : arg21.view.ty.Contents (Elt F)) (f22 : arg22.view.ty.Contents (Elt F)) (f23 : arg23.view.ty.Contents (Elt F)) (f24 : arg24.view.ty.Contents (Elt F)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} f19) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (View.loc (c : Thread nD τ) arg21.view ↦[arg21.view.set]{fullShare} arg21.view.writes (Elt F) f19 (bagPieces (kBag (arg22.view.read (Elt F) (arg22.view.writes (Elt F) f22 [⟨Rect.unit (k0_off1 i) S1024x256.size (k0_off1_inb i), k0_pay270 x0 x1 x2⟩])) (arg23.view.read (Elt F) (arg23.view.writes (Elt F) f23 [⟨Rect.unit (k0_off1 i) S1024x256.size (k0_off1_inb i), k0_pay1 (k0_pay269 x0 x1 x2)⟩])) (arg24.view.read (Elt F) (arg24.view.writes (Elt F) f24 [⟨Rect.unit (k0_off2 i) S1x1024.size (k0_off2_inb i), k0_pay2 (k0_pay267 x0 x1 x2 x3 x4 x5 x6)⟩])) · x7 x8 x9 x10 x11 x12 x13 x14 x15 x16 x17 x18))) ∗ (View.loc (c : Thread nD τ) arg22.view ↦[arg22.view.set]{fullShare} arg22.view.writes (Elt F) f22 [⟨Rect.unit (k0_off1 i) S1024x256.size (k0_off1_inb i), k0_pay270 x0 x1 x2⟩]) ∗ (View.loc (c : Thread nD τ) arg23.view ↦[arg23.view.set]{fullShare} arg23.view.writes (Elt F) f23 [⟨Rect.unit (k0_off1 i) S1024x256.size (k0_off1_inb i), k0_pay1 (k0_pay269 x0 x1 x2)⟩]) ∗ (View.loc (c : Thread nD τ) arg24.view ↦[arg24.view.set]{fullShare} arg24.view.writes (Elt F) f24 [⟨Rect.unit (k0_off2 i) S1x1024.size (k0_off2_inb i), k0_pay2 (k0_pay267 x0 x1 x2 x3 x4 x5 x6)⟩])) -∗ K ⟨⟩))
          ⊢ wp frame (wpE (defs₀ (F := F)) Variants.none c none) E (cc0__bag_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have h := (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).2
  have qH := (runB_piecesH (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).symm.trans (runB_H (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24)
  have qL := (runB_piecesL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).symm.trans (runB_L (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24)
  have qG := (runB_piecesA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24).symm.trans (runB_G (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 f19 f22 f23 f24)
  have sH : scrH c i arg2 harg2 arg3 harg3 arg4 harg4 arg22 x0 x1 x2 f22 = (arg22.view.read (Elt F) (arg22.view.writes (Elt F) f22 [⟨Rect.unit (k0_off1 i) S1024x256.size (k0_off1_inb i), k0_pay270 x0 x1 x2⟩])) := congrArg (fun l => arg22.view.read (Elt F) (arg22.view.writes (Elt F) f22 l)) qH
  have sL : scrL c i arg2 harg2 arg3 harg3 arg4 harg4 arg23 x0 x1 x2 f23 = (arg23.view.read (Elt F) (arg23.view.writes (Elt F) f23 [⟨Rect.unit (k0_off1 i) S1024x256.size (k0_off1_inb i), k0_pay1 (k0_pay269 x0 x1 x2)⟩])) := congrArg (fun l => arg23.view.read (Elt F) (arg23.view.writes (Elt F) f23 l)) qL
  have sG : scrA c i arg2 harg2 arg3 harg3 arg4 harg4 arg5 harg5 arg6 harg6 arg7 harg7 arg8 harg8 arg24 x0 x1 x2 x3 x4 x5 x6 f24 = (arg24.view.read (Elt F) (arg24.view.writes (Elt F) f24 [⟨Rect.unit (k0_off2 i) S1x1024.size (k0_off2_inb i), k0_pay2 (k0_pay267 x0 x1 x2 x3 x4 x5 x6)⟩])) := congrArg (fun l => arg24.view.read (Elt F) (arg24.view.writes (Elt F) f24 l)) qG
  rw [runB_out, runB_H, runB_L, runB_G, sH, sL, sG] at h
  exact h

end Cert.KernelIdeal.Own

end
-- ==== Proof.Tiles.lean ====
module

public import proofs.«01_k».proof.Proof.Bag
public import proofs.«01_k».proof.Proof.Stage
public import Idealize.ShloMosaic.Lib.WritesUnit
public import Idealize.ShloMosaic.Lib.Pointwise.Index

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratches hold after the first phase -/

theorem lastPt_lt : 31 < cfg0.N := by rw [show cfg0.N = 32 from N_0]; omega

/-- The last point. -/
def lastPt : Fin cfg0.N := ⟨31, lastPt_lt⟩

/-- The point whose block holds row `r` of the bags laid end to end. -/
def ptOf (r : Fin 32768) : Fin cfg0.N := ⟨r.val / 1024, by have := r.isLt; rw [show cfg0.N = 32 from N_0]; omega⟩

/-- The place of row `r` in its block. -/
def inBlk (r : Fin 32768) : Fin 1024 := ⟨r.val % 1024, Nat.mod_lt _ (by omega)⟩

/-- The embeddings of point `t`'s block, rounded. -/
def tileH (c : Dev nD) (t : Fin cfg0.N) : FVec F S1024x256 .bf16 :=
  k0_pay270 (iblk m c 0 t) (iblk m c 1 t) (iblk m c 2 t)

/-- What the rounding of the embeddings of point `t`'s block drops. -/
def tileL (c : Dev nD) (t : Fin cfg0.N) : FVec F S1024x256 .bf16 :=
  k0_pay1 (k0_pay269 (iblk m c 0 t) (iblk m c 1 t) (iblk m c 2 t))

/-- The attention logits of point `t`'s block. -/
def tileG (c : Dev nD) (t : Fin cfg0.N) : FVec F S1x1024 .f32 :=
  k0_pay2 (k0_pay267 (iblk m c 0 t) (iblk m c 1 t) (iblk m c 2 t) (iblk m c 3 t) (iblk m c 4 t) (iblk m c 5 t) (iblk m c 6 t))

/-- All embeddings, rounded. -/
def allH (c : Dev nD) : Vec F S32768x256 .bf16 := fun y => tileH m c (ptOf (y 0)) (ix2 (inBlk (y 0)) (y 1))

/-- All that the rounding drops. -/
def allL (c : Dev nD) : Vec F S32768x256 .bf16 := fun y => tileL m c (ptOf (y 0)) (ix2 (inBlk (y 0)) (y 1))

/-- All attention logits. -/
def allG (c : Dev nD) : Vec F S1x32768 .f32 := fun y => tileG m c (ptOf (y 1)) (ix2 (y 0) (inBlk (y 1)))

/-- The scratches' rows of the first `n` points are in place. -/
def Upto (c : Dev nD) (n : ℕ) (h l : Vec F S32768x256 .bf16) (g : Vec F S1x32768 .f32) : Prop :=
  (∀ y, (y 0).val < 1024 * n → h y = allH m c y) ∧ (∀ y, (y 0).val < 1024 * n → l y = allL m c y)
    ∧ ∀ y, (y 1).val < 1024 * n → g y = allG m c y

/-- Before the first point nothing is asked of the scratches. -/
theorem upto_zero (c : Dev nD) (h l : Vec F S32768x256 .bf16) (g : Vec F S1x32768 .f32) : Upto m c 0 h l g :=
  ⟨fun _ hy => absurd hy (by omega), fun _ hy => absurd hy (by omega), fun _ hy => absurd hy (by omega)⟩

/-- After all points the scratches hold what they should. -/
theorem Upto.all {c : Dev nD} {h l : Vec F S32768x256 .bf16} {g : Vec F S1x32768 .f32} (u : Upto m c 32 h l g) :
    h = allH m c ∧ l = allL m c ∧ g = allG m c := by
  refine ⟨funext fun y => u.1 y ?_, funext fun y => u.2.1 y ?_, funext fun y => u.2.2 y ?_⟩
  · have : (y 0).val < 32768 := (y 0).isLt
    omega
  · have : (y 0).val < 32768 := (y 0).isLt
    omega
  · have : (y 1).val < 32768 := (y 1).isLt
    omega

/-- The row at which point `t` stores. -/
theorem off_val (t : Fin cfg0.N) : 4096 * (grid0.coords t 0).val + 1024 * (grid0.coords t 1).val = 1024 * t.val := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  rw [e0, e1]; omega

theorem off1_eq (t : Fin cfg0.N) : k0_off1 (grid0.coords t) = ![1024 * t.val, 0] := by
  rw [k0_off1_eq, off_val]

theorem off2_eq (t : Fin cfg0.N) : k0_off2 (grid0.coords t) = ![0, 1024 * t.val] := by
  rw [k0_off2_eq, off_val]

theorem ptOf_eq (t : Fin cfg0.N) (r : Fin 32768) (h0 : 1024 * t.val ≤ r.val) (h1 : r.val < 1024 * t.val + 1024) :
    ptOf r = t := Fin.ext (by show r.val / 1024 = t.val; omega)

theorem inBlk_eq (t : Fin cfg0.N) (r : Fin 32768) (h0 : 1024 * t.val ≤ r.val) (h1 : r.val < 1024 * t.val + 1024) :
    inBlk r = ⟨r.val - 1024 * t.val, by omega⟩ := Fin.ext (by show r.val % 1024 = r.val - 1024 * t.val; omega)

/-- Storing a block of rows behind the rows already in place keeps the embedding scratches right. -/
theorem rows_step (a : Memref sig .tc .vmem S32768x256 .bf16) (f : a.view.ty.Contents (Elt F)) (t : Fin cfg0.N)
    (w : Fin cfg0.N → FVec F S1024x256 .bf16) (hi : ∀ a, k0_off1 (grid0.coords t) a + S1024x256.size a ≤ S32768x256.size a)
    (hf : ∀ y, (y 0).val < 1024 * t.val → a.view.read (Elt F) f y = w (ptOf (y 0)) (ix2 (inBlk (y 0)) (y 1))) :
    ∀ y, (y 0).val < 1024 * (t.val + 1) →
      a.view.read (Elt F) (a.view.writes (Elt F) f [⟨Rect.unit (k0_off1 (grid0.coords t)) S1024x256.size hi, w t⟩]) y
        = w (ptOf (y 0)) (ix2 (inBlk (y 0)) (y 1)) := by
  intro y hy
  by_cases h : (y 0).val < 1024 * t.val
  · rw [View.read_writes_cons_unit_of_not_mem a.view f hi (w t) [] y (off1_eq t) 0 (Or.inl h)]
    exact hf y h
  · have h0 : 1024 * t.val ≤ (y 0).val := by omega
    have h1 : (y 0).val < 1024 * t.val + 1024 := by omega
    rw [ptOf_eq t (y 0) h0 h1, inBlk_eq t (y 0) h0 h1]
    refine View.read_writes_cons_unit_of_mem a.view f hi (w t) [] y (ix2 ⟨(y 0).val - 1024 * t.val, by omega⟩ (y 1)) (off1_eq t) ?_
    intro b
    match b with
    | ⟨0, _⟩ => show (y 0).val = 1024 * t.val + ((y 0).val - 1024 * t.val); omega
    | ⟨1, _⟩ => show (y 1).val = 0 + (y 1).val; omega

/-- The same of the logit scratch. -/
theorem lanes_step (a : Memref sig .tc .vmem S1x32768 .f32) (f : a.view.ty.Contents (Elt F)) (t : Fin cfg0.N)
    (w : Fin cfg0.N → FVec F S1x1024 .f32) (hi : ∀ a, k0_off2 (grid0.coords t) a + S1x1024.size a ≤ S1x32768.size a)
    (hf : ∀ y, (y 1).val < 1024 * t.val → a.view.read (Elt F) f y = w (ptOf (y 1)) (ix2 (y 0) (inBlk (y 1)))) :
    ∀ y, (y 1).val < 1024 * (t.val + 1) →
      a.view.read (Elt F) (a.view.writes (Elt F) f [⟨Rect.unit (k0_off2 (grid0.coords t)) S1x1024.size hi, w t⟩]) y
        = w (ptOf (y 1)) (ix2 (y 0) (inBlk (y 1))) := by
  intro y hy
  by_cases h : (y 1).val < 1024 * t.val
  · rw [View.read_writes_cons_unit_of_not_mem a.view f hi (w t) [] y (off2_eq t) 1 (Or.inl h)]
    exact hf y h
  · have h0 : 1024 * t.val ≤ (y 1).val := by omega
    have h1 : (y 1).val < 1024 * t.val + 1024 := by omega
    rw [ptOf_eq t (y 1) h0 h1, inBlk_eq t (y 1) h0 h1]
    refine View.read_writes_cons_unit_of_mem a.view f hi (w t) [] y (ix2 (y 0) ⟨(y 1).val - 1024 * t.val, by omega⟩) (off2_eq t) ?_
    intro b
    match b with
    | ⟨0, _⟩ => show (y 0).val = 0 + (y 0).val; omega
    | ⟨1, _⟩ => show (y 1).val = 1024 * t.val + ((y 1).val - 1024 * t.val); omega

/-- One more point's rows in place. -/
theorem Upto.step {c : Dev nD} (t : Fin cfg0.N) (a b : Memref sig .tc .vmem S32768x256 .bf16) (d : Memref sig .tc .vmem S1x32768 .f32)
    (f : a.view.ty.Contents (Elt F)) (g : b.view.ty.Contents (Elt F)) (e : d.view.ty.Contents (Elt F))
    (hi hi' : ∀ a, k0_off1 (grid0.coords t) a + S1024x256.size a ≤ S32768x256.size a)
    (hj : ∀ a, k0_off2 (grid0.coords t) a + S1x1024.size a ≤ S1x32768.size a)
    (u : Upto m c t.val (a.view.read (Elt F) f) (b.view.read (Elt F) g) (d.view.read (Elt F) e)) :
    Upto m c (t.val + 1)
      (a.view.read (Elt F) (a.view.writes (Elt F) f [⟨Rect.unit (k0_off1 (grid0.coords t)) S1024x256.size hi, tileH m c t⟩]))
      (b.view.read (Elt F) (b.view.writes (Elt F) g [⟨Rect.unit (k0_off1 (grid0.coords t)) S1024x256.size hi', tileL m c t⟩]))
      (d.view.read (Elt F) (d.view.writes (Elt F) e [⟨Rect.unit (k0_off2 (grid0.coords t)) S1x1024.size hj, tileG m c t⟩])) :=
  ⟨rows_step a f t (tileH m c) hi u.1, rows_step b g t (tileL m c) hi' u.2.1, lanes_step d e t (tileG m c) hj u.2.2⟩

/-! ## What the output block holds at the end -/

/-- The output block: each bag's class scores. -/
def outv (c : Dev nD) : Vec F S8x1x128 .f32 := fun y =>
  kBag (allH m c) (allL m c) (allG m c) (y 0) (iblk m c 7 lastPt) (iblk m c 8 lastPt) (iblk m c 9 lastPt) (iblk m c 10 lastPt) (iblk m c 11 lastPt) (iblk m c 12 lastPt) (iblk m c 13 lastPt) (iblk m c 14 lastPt) (iblk m c 15 lastPt) (iblk m c 16 lastPt) (iblk m c 17 lastPt) (iblk m c 18 lastPt) (ix3 0 0 (y 2))

/-- Eight stores, one for each bag, read back. -/
theorem read_bags (a : Memref sig .tc .vmem S8x1x128 .f32) (f : a.view.ty.Contents (Elt F)) (p : Fin 8 → FVec F S1x1x128 .f32) :
    a.view.read (Elt F) (a.view.writes (Elt F) f [
      ⟨Rect.unit ![7, 0, 0] S1x1x128.size inb_S8x1x128_S1x1x128_7_0_0, p 7⟩,
      ⟨Rect.unit ![6, 0, 0] S1x1x128.size inb_S8x1x128_S1x1x128_6_0_0, p 6⟩,
      ⟨Rect.unit ![5, 0, 0] S1x1x128.size inb_S8x1x128_S1x1x128_5_0_0, p 5⟩,
      ⟨Rect.unit ![4, 0, 0] S1x1x128.size inb_S8x1x128_S1x1x128_4_0_0, p 4⟩,
      ⟨Rect.unit ![3, 0, 0] S1x1x128.size inb_S8x1x128_S1x1x128_3_0_0, p 3⟩,
      ⟨Rect.unit ![2, 0, 0] S1x1x128.size inb_S8x1x128_S1x1x128_2_0_0, p 2⟩,
      ⟨Rect.unit ![1, 0, 0] S1x1x128.size inb_S8x1x128_S1x1x128_1_0_0, p 1⟩,
      ⟨Rect.unit ![0, 0, 0] S1x1x128.size inb_S8x1x128_S1x1x128_0_0_0, p 0⟩]) = fun y => p (y 0) (ix3 0 0 (y 2)) := by
  funext y
  have hin : ∀ i : Fin 8, ∀ a : Fin 3, (![i.val, 0, 0] : Fin 3 → ℕ) a + S1x1x128.size a ≤ S8x1x128.size a := by
    decide
  have key := View.read_tilePieces (v := a.view) (f := f) (Val := Elt F) (tsz := S1x1x128.size)
    (off := fun i : Fin 8 => ![i.val, 0, 0]) (inb := hin) (P := p) 8 le_rfl y (y 0) (y 0).isLt (ix3 0 0 (y 2))
    (fun b => match b with
      | ⟨0, _⟩ => (Nat.add_zero _).symm
      | ⟨1, _⟩ => by
          have : (y 1).val < 1 := (y 1).isLt
          show (y 1).val = 0 + 0; omega
      | ⟨2, _⟩ => (Nat.zero_add _).symm)
    0 (fun i' hne => by
      show (y 0).val < i'.val ∨ i'.val + 1 ≤ (y 0).val
      have : i'.val ≠ (y 0).val := fun h => hne (Fin.ext h)
      omega)
  exact key

end Cert.KernelIdeal.Own

end
-- ==== Proof.Data.lean ====
module

public import proofs.«01_k».proof.Proof.Phases
public import proofs.«01_k».proof.Proof.Tiles
public import Idealize.ShloMosaic.Lib.MemrefSat

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- Before point `n`: the scratches hold the rows of the points before it. -/
def inv (c : Dev nD) (n : ℕ) : sProp 𝕄 :=
  iprop(iprop(∃ (f22 : scM0_0.view.ty.Contents (Elt F)) (f23 : scM0_1.view.ty.Contents (Elt F)) (f24 : scM0_2.view.ty.Contents (Elt F)),
      ⌜Upto m c n (scM0_0.view.read (Elt F) f22) (scM0_1.view.read (Elt F) f23) (scM0_2.view.read (Elt F) f24)⌝
      ∗ (View.loc (c : Thread nD τ) scM0_0.view ↦[scM0_0.view.set]{fullShare} f22)
      ∗ (View.loc (c : Thread nD τ) scM0_1.view ↦[scM0_1.view.set]{fullShare} f23)
      ∗ (View.loc (c : Thread nD τ) scM0_2.view ↦[scM0_2.view.set]{fullShare} f24)) ∗ (∃ r, prngReg c r))

/-- The proof data: inputs left in place, the output block as named, the scratches filling up. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => outv m c
    | ⟨_ + 20, h⟩ => absurd h (Nat.not_lt.2 (Nat.le_add_left _ _))
  Φ t := inv m c t.val
  q _ := fullShare
  owed _ := 0

/-- The arrays of the proof data are what the region finds. -/
theorem A_eq (c : Dev nD) (w : Fin cfg0.W) : (dats m 0 c).A w = V m c (Pipeline.arrRef spec0 w) := by
  dsimp only [dats]

/-- Every input block is left in place. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]

/-- The output block is left as named. -/
theorem after0_19 (c : Dev nD) (t : Fin cfg0.N) : (dats m 0 c).after 19 t = outv m c := by dsimp only [dats]

/-- Every input buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- A memref owned at a value is its buffer held at contents that read so. -/
theorem owns_open (c : Thread nD τ) {sp : Space} {sh : Shape} {e : EltTy} (mr : Memref sig c.2.kind sp sh e) (q : PosShare TreeShare)
    (X : sh.Idx → Elt F e) : (owns c mr q X : sProp 𝕄)
      = iprop(∃ f : mr.view.ty.Contents (Elt F), ⌜mr.view.read (Elt F) f = X⌝ ∗ (View.loc c mr.view ↦[mr.view.set]{q} f)) := rfl

/-- Contents that read `X` make the memref owned at `X`. -/
theorem owns_at (c : Thread nD τ) {sp : Space} {sh : Shape} {e : EltTy} (mr : Memref sig c.2.kind sp sh e) (q : PosShare TreeShare)
    (X : sh.Idx → Elt F e) (f : mr.view.ty.Contents (Elt F)) (h : mr.view.read (Elt F) f = X) :
    (View.loc c mr.view ↦[mr.view.set]{q} f : sProp 𝕄) ⊢ owns c mr q X := by
  subst h; exact owns_intro c mr q f

/-- At a point that is not the last the output block is not touched. -/
theorem leaves19_idle (c : Dev nD) (t : Fin cfg0.N) (h0 : ¬t.val % 32 = 31) : (dats m 0 c).leavesExact 19 t
    = iprop(∃ d, owns (c : Thread nD τ) (ms0_19 t) fullShare ((dats m 0 c).before 19 t d)) := by
  refine Dat.leavesExact_idle (dats m 0 c) 19 t ?_ ?_
  · have : ¬k0_cond1 (grid0.coords t) = 1#1 := fun h => h0 ((hcond0_0 t).mp h)
    show (!(k0_cond1 (grid0.coords t) == 1#1)) = true
    simp [this]
  · rw [Bool.eq_false_iff]; exact fun h => h0 ((flush0_19 t).mp h)

/-- At the last point it holds the class scores. -/
theorem leaves19_last (c : Dev nD) (t : Fin cfg0.N) (h0 : t.val % 32 = 31) : (dats m 0 c).leavesExact 19 t
    = owns (c : Thread nD τ) (ms0_19 t) fullShare (outv m c) := by
  have h1 : cfg0.idle 19 (cfg0.grid.coords t) = false := by
    have : k0_cond1 (grid0.coords t) = 1#1 := (hcond0_0 t).mpr h0
    show (!(k0_cond1 (grid0.coords t) == 1#1)) = false
    simp [this]
  unfold Dat.leavesExact; rw [h1, after0_19]

/-- The eight stores read back. -/
theorem read_pieces (a : Memref sig .tc .vmem S8x1x128 .f32) (f : a.view.ty.Contents (Elt F)) (p : Fin 8 → FVec F S1x1x128 .f32) :
    a.view.read (Elt F) (a.view.writes (Elt F) f (bagPieces p)) = fun y => p (y 0) (ix3 0 0 (y 2)) := read_bags a f p

/-- The output block after the last point's stores. -/
theorem out_last (c : Dev nD) (t : Fin cfg0.N) (h0 : t.val % 32 = 31) (a : Memref sig .tc .vmem S8x1x128 .f32)
    (f22 : scM0_0.view.ty.Contents (Elt F)) (f23 : scM0_1.view.ty.Contents (Elt F)) (f24 : scM0_2.view.ty.Contents (Elt F))
    (f19 : a.view.ty.Contents (Elt F))
    (hi hi' : ∀ a, k0_off1 (grid0.coords t) a + S1024x256.size a ≤ S32768x256.size a)
    (hj : ∀ a, k0_off2 (grid0.coords t) a + S1x1024.size a ≤ S1x32768.size a)
    (u : Upto m c t.val (scM0_0.view.read (Elt F) f22) (scM0_1.view.read (Elt F) f23) (scM0_2.view.read (Elt F) f24)) :
    a.view.read (Elt F) (a.view.writes (Elt F) f19 (bagPieces (kBag
      (scM0_0.view.read (Elt F) (scM0_0.view.writes (Elt F) f22 [⟨Rect.unit (k0_off1 (grid0.coords t)) S1024x256.size hi, tileH m c t⟩]))
      (scM0_1.view.read (Elt F) (scM0_1.view.writes (Elt F) f23 [⟨Rect.unit (k0_off1 (grid0.coords t)) S1024x256.size hi', tileL m c t⟩]))
      (scM0_2.view.read (Elt F) (scM0_2.view.writes (Elt F) f24 [⟨Rect.unit (k0_off2 (grid0.coords t)) S1x1024.size hj, tileG m c t⟩]))
      · (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))) ) = outv m c := by
  have ht : t.val = 31 := by
    have : t.val < 32 := Nat.lt_of_lt_of_eq t.isLt N_0
    omega
  have u' := Upto.step m t scM0_0 scM0_1 scM0_2 f22 f23 f24 hi hi' hj u
  rw [ht] at u'
  obtain ⟨e1, e2, e3⟩ := Upto.all m u'
  rw [e1, e2, e3, read_pieces]
  obtain rfl : t = lastPt := Fin.ext ht
  rfl

end Cert.KernelIdeal.Own

end
-- ==== Proof.Body.lean ====
module

public import proofs.«01_k».proof.Proof.Data

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  by_cases h0 : t.val % 32 = 31
  · simp only [owns_open (c : Thread nD τ) (ms0_19 t)]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [leaves19_last m c t h0]
    iintro ⟨⟨⟨%f22, %f23, %f24, %u, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, ⟨%f19, %hf, H19⟩⟩⟩
    iapply (phaseB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) f19 f22 f23 f24 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · iexists _, _, _
        isplitr
        swap
        · isplitl [HS0]
          · iexact HS0
          isplitl [HS1]
          · iexact HS1
          iexact HS2
        ipureintro
        exact Upto.step m t scM0_0 scM0_1 scM0_2 f22 f23 f24 _ _ _ u
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iapply (owns_at (c : Thread nD τ) (ms0_19 t) fullShare _ _ (out_last m c t h0 _ f22 f23 f24 f19 _ _ _ u))
    iexact H19
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [leaves19_idle m c t h0]
    simp only [owns_open (c : Thread nD τ) (ms0_19 t)]
    iintro ⟨⟨⟨%f22, %f23, %f24, %u, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, ⟨%f19, %hf, H19⟩⟩⟩
    iapply (phaseA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) f19 f22 f23 f24 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · iexists _, _, _
        isplitr
        swap
        · isplitl [HS0]
          · iexact HS0
          isplitl [HS1]
          · iexact HS1
          iexact HS2
        ipureintro
        exact Upto.step m t scM0_0 scM0_1 scM0_2 f22 f23 f24 _ _ _ u
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexists d19, f19
    isplitr
    · ipureintro; exact hf
    iexact H19

/-- The body as the region calls it at point `t`. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the region allocates is enough to start, -/
theorem inv_start (c : Dev nD) : Pipeline.ΦA spec0 c ⊢ inv m c 0 := by
  rw [PhiA0_eq]; unfold inv
  simp only [owns_open (c : Thread nD τ)]
  iintro ⟨⟨⟨%d0, %f0, %e0, H0⟩, ⟨%d1, %f1, %e1, H1⟩, ⟨%d2, %f2, %e2, H2⟩⟩, Hg⟩
  isplitl [H0 H1 H2]
  · iexists f0, f1, f2
    isplitr
    · ipureintro; exact upto_zero m c _ _ _
    isplitl [H0]; · iexact H0
    isplitl [H1]; · iexact H1
    iexact H2
  iexact Hg

/-- and what is held at the end gives it back. -/
theorem inv_end (c : Dev nD) (n : ℕ) : inv m c n ⊢ Pipeline.ΦA spec0 c := by
  rw [PhiA0_eq]; unfold inv
  iintro ⟨⟨%f0, %f1, %f2, %u, H0, H1, H2⟩, Hg⟩
  isplitl [H0 H1 H2]
  · isplitl [H0]; · iexists _; iapply (owns_intro (c : Thread nD τ) scM0_0 fullShare f0); iexact H0
    isplitl [H1]; · iexists _; iapply (owns_intro (c : Thread nD τ) scM0_1 fullShare f1); iexact H1
    iexists _; iapply (owns_intro (c : Thread nD τ) scM0_2 fullShare f2); iexact H2
  iexact Hg

set_option backward.isDefEq.respectTransparency.types false in
set_option maxHeartbeats 800000 in
/-- The launch, with every semaphore counter at zero at the end. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_start m) (hout := fun c => inv_end m c _)

end Cert.KernelIdeal.Own

end
-- ==== Proof.Params.lean ====
module

public import proofs.«01_k».proof.Proof.Tiles
public import Idealize.ShloMosaic.Lib.Pipeline.ValueKit
public import Idealize.ShloMosaic.Lib.StableHlo.RunRead
public import Idealize.ShloMosaic.Lib.Routing.OpsPair
public import Idealize.ShloMosaic.Lib.Routing.OpsSet
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F] [Named F]

variable (m : (ℓ : Loc nD τ sig) → Buf (Elt F) ℓ)

/-! ## Host operations before the launch -/

/-- A scatter of a block of two columns at column zero of a matrix puts the block there. -/
theorem pad_apply {α : Type} {R C : Nat} (hC : 2 ≤ C) (d : ScatterDims ⟨2, ![R, C]⟩ ⟨1, ![1]⟩ ⟨2, ![R, 2]⟩)
    (hu : d.updateWindowDims = [0, 1]) (hi : d.insertedWindowDims = []) (hs : d.scatterDimsToOperandDims = [1])
    (x : (⟨2, ![R, C]⟩ : Shape).Idx → α) (idx : IVec ⟨1, ![1]⟩ 32) (h0 : ∀ k, idx k = 0#32) (u : (⟨2, ![R, 2]⟩ : Shape).Idx → α)
    (r : Fin R) (j : Fin 2) : Host.scatter d (fun _ b => b) x idx u (ix2 r ⟨j.val, by omega⟩) = u (ix2 r j) := by
  have st : ∀ k a, d.start k idx a = 0 := by
    intro k a
    unfold ScatterDims.start
    split
    · rw [h0]; rfl
    · rfl
  have w0 : ∀ k : (⟨2, ![R, 2]⟩ : Shape).Idx, d.window k 0 = (k 0).val := by
    intro k
    obtain ⟨_, _, _, _, wf⟩ := d
    subst hu; subst hi; subst hs
    rfl
  have w1 : ∀ k : (⟨2, ![R, 2]⟩ : Shape).Idx, d.window k 1 = (k 1).val := by
    intro k
    obtain ⟨_, _, _, _, wf⟩ := d
    subst hu; subst hi; subst hs
    rfl
  refine Routing.scatter_set_hit d x idx u _ _ (fun k hk => ?_) (ix2 r j) ?_
  · have hh := (Routing.resultIdx?_eq_some d k idx _).1 hk
    refine congrArg u (funext fun a => Fin.ext ?_)
    match a with
    | ⟨0, _⟩ =>
      have := hh 0
      rw [st, w0] at this
      exact Int.ofNat.inj ((Int.zero_add _).symm.trans this)
    | ⟨1, _⟩ =>
      have := hh 1
      rw [st, w1] at this
      exact Int.ofNat.inj ((Int.zero_add _).symm.trans this)
  · refine (Routing.resultIdx?_eq_some d _ idx _).2 fun a => ?_
    match a with
    | ⟨0, _⟩ => exact (congrArg₂ (· + ·) (st _ 0) (congrArg Nat.cast (w0 _))).trans (Int.zero_add _)
    | ⟨1, _⟩ => exact (congrArg₂ (· + ·) (st _ 1) (congrArg Nat.cast (w1 _))).trans (Int.zero_add _)

/-- The padded weights of the output layer hold the weights in their first two columns. -/
theorem V_v2 (c : Dev nD) (r : Fin 256) (j : Fin 2) :
    V m c main_v2 (ix2 r ⟨j.val, by omega⟩) = m ((c.tc : Thread nD τ).loc main_arg17) (ix2 r j) := by
  have h : V m c main_v2 = Host.scatter scatter_S256x128_S1_S256x2_01_n_1_0 (fun _ b => b)
      (broadcastInDim S256x128 ![] bcast_S_S256x128 (constant S_ .f32 0x00000000#32))
      (broadcastInDim S1 ![] bcast_S_S1 (constantI S_ 32 0#32)) (m ((c.tc : Thread nD τ).loc main_arg17)) := by
    unfold V V0
    simp only [List.flatten_cons, List.flatten_nil, List.append_nil]
    after_reads_simp
  rw [h]
  exact pad_apply (by omega) scatter_S256x128_S1_S256x2_01_n_1_0 rfl rfl rfl _ _ (fun _ => rfl) _ r j

/-- The padded bias of the output layer holds the bias in its first two columns. -/
theorem V_v6 (c : Dev nD) (j : Fin 2) :
    V m c main_v6 (ix2 (0 : Fin 1) ⟨j.val, by omega⟩) = m ((c.tc : Thread nD τ).loc main_arg18) (ix1 j) := by
  have h : V m c main_v6 = Host.scatter scatter_S1x128_S1_S1x2_01_n_1_0 (fun _ b => b)
      (broadcastInDim S1x128 ![] bcast_S_S1x128 (constant S_ .f32 0x00000000#32))
      (broadcastInDim S1 ![] bcast_S_S1 (constantI S_ 32 0#32))
      (broadcastInDim S1x2 ![1] bcast_S2_S1x2_1 (m ((c.tc : Thread nD τ).loc main_arg18))) := by
    unfold V V0
    simp only [List.flatten_cons, List.flatten_nil, List.append_nil]
    after_reads_simp
  rw [h]
  refine (pad_apply (by omega) scatter_S1x128_S1_S1x2_01_n_1_0 rfl rfl rfl _ _ (fun _ => rfl) _ (0 : Fin 1) j).trans ?_
  pointwise []

/-- Argument 2 laid out as a row. -/
theorem V_v7 (c : Dev nD) (d : Fin 256) :
    V m c main_v7 (ix2 (0 : Fin 1) d) = m ((c.tc : Thread nD τ).loc main_arg2) (ix1 d) := by
  have h : V m c main_v7 = broadcastInDim S1x256 ![1] bcast_S256_S1x256_1 (m ((c.tc : Thread nD τ).loc main_arg2)) := by
    unfold V V0
    simp only [List.flatten_cons, List.flatten_nil, List.append_nil]
    after_reads_simp
  rw [h]
  pointwise []

/-- Argument 4 laid out as a row. -/
theorem V_v8 (c : Dev nD) (d : Fin 256) :
    V m c main_v8 (ix2 (0 : Fin 1) d) = m ((c.tc : Thread nD τ).loc main_arg4) (ix1 d) := by
  have h : V m c main_v8 = broadcastInDim S1x256 ![1] bcast_S256_S1x256_1 (m ((c.tc : Thread nD τ).loc main_arg4)) := by
    unfold V V0
    simp only [List.flatten_cons, List.flatten_nil, List.append_nil]
    after_reads_simp
  rw [h]
  pointwise []

/-- Argument 6 laid out as a row. -/
theorem V_v9 (c : Dev nD) (d : Fin 1) :
    V m c main_v9 (ix2 (0 : Fin 1) d) = m ((c.tc : Thread nD τ).loc main_arg6) (ix1 d) := by
  have h : V m c main_v9 = broadcastInDim S1x1 ![1] bcast_S1_S1x1_1 (m ((c.tc : Thread nD τ).loc main_arg6)) := by
    unfold V V0
    simp only [List.flatten_cons, List.flatten_nil, List.append_nil]
    after_reads_simp
  rw [h]
  obtain rfl : d = 0 := Subsingleton.elim _ _
  pointwise []

/-- Argument 7 laid out as a row. -/
theorem V_v10 (c : Dev nD) (d : Fin 256) :
    V m c main_v10 (ix2 (0 : Fin 1) d) = m ((c.tc : Thread nD τ).loc main_arg7) (ix1 d) := by
  have h : V m c main_v10 = broadcastInDim S1x256 ![1] bcast_S256_S1x256_1 (m ((c.tc : Thread nD τ).loc main_arg7)) := by
    unfold V V0
    simp only [List.flatten_cons, List.flatten_nil, List.append_nil]
    after_reads_simp
  rw [h]
  pointwise []

/-- Argument 8 laid out as a row. -/
theorem V_v11 (c : Dev nD) (d : Fin 256) :
    V m c main_v11 (ix2 (0 : Fin 1) d) = m ((c.tc : Thread nD τ).loc main_arg8) (ix1 d) := by
  have h : V m c main_v11 = broadcastInDim S1x256 ![1] bcast_S256_S1x256_1 (m ((c.tc : Thread nD τ).loc main_arg8)) := by
    unfold V V0
    simp only [List.flatten_cons, List.flatten_nil, List.append_nil]
    after_reads_simp
  rw [h]
  pointwise []

/-- Argument 10 laid out as a row. -/
theorem V_v12 (c : Dev nD) (d : Fin 256) :
    V m c main_v12 (ix2 (0 : Fin 1) d) = m ((c.tc : Thread nD τ).loc main_arg10) (ix1 d) := by
  have h : V m c main_v12 = broadcastInDim S1x256 ![1] bcast_S256_S1x256_1 (m ((c.tc : Thread nD τ).loc main_arg10)) := by
    unfold V V0
    simp only [List.flatten_cons, List.flatten_nil, List.append_nil]
    after_reads_simp
  rw [h]
  pointwise []

/-- Argument 12 laid out as a row. -/
theorem V_v13 (c : Dev nD) (d : Fin 256) :
    V m c main_v13 (ix2 (0 : Fin 1) d) = m ((c.tc : Thread nD τ).loc main_arg12) (ix1 d) := by
  have h : V m c main_v13 = broadcastInDim S1x256 ![1] bcast_S256_S1x256_1 (m ((c.tc : Thread nD τ).loc main_arg12)) := by
    unfold V V0
    simp only [List.flatten_cons, List.flatten_nil, List.append_nil]
    after_reads_simp
  rw [h]
  pointwise []

/-- Argument 14 laid out as a row. -/
theorem V_v14 (c : Dev nD) (d : Fin 1) :
    V m c main_v14 (ix2 (0 : Fin 1) d) = m ((c.tc : Thread nD τ).loc main_arg14) (ix1 d) := by
  have h : V m c main_v14 = broadcastInDim S1x1 ![1] bcast_S1_S1x1_1 (m ((c.tc : Thread nD τ).loc main_arg14)) := by
    unfold V V0
    simp only [List.flatten_cons, List.flatten_nil, List.append_nil]
    after_reads_simp
  rw [h]
  obtain rfl : d = 0 := Subsingleton.elim _ _
  pointwise []

/-- Argument 15 laid out as a row. -/
theorem V_v15 (c : Dev nD) (d : Fin 256) :
    V m c main_v15 (ix2 (0 : Fin 1) d) = m ((c.tc : Thread nD τ).loc main_arg15) (ix1 d) := by
  have h : V m c main_v15 = broadcastInDim S1x256 ![1] bcast_S256_S1x256_1 (m ((c.tc : Thread nD τ).loc main_arg15)) := by
    unfold V V0
    simp only [List.flatten_cons, List.flatten_nil, List.append_nil]
    after_reads_simp
  rw [h]
  pointwise []

/-- Argument 16 laid out as a row. -/
theorem V_v16 (c : Dev nD) (d : Fin 256) :
    V m c main_v16 (ix2 (0 : Fin 1) d) = m ((c.tc : Thread nD τ).loc main_arg16) (ix1 d) := by
  have h : V m c main_v16 = broadcastInDim S1x256 ![1] bcast_S256_S1x256_1 (m ((c.tc : Thread nD τ).loc main_arg16)) := by
    unfold V V0
    simp only [List.flatten_cons, List.flatten_nil, List.append_nil]
    after_reads_simp
  rw [h]
  pointwise []

/-! ## The blocks the points read -/

/-- Window 1 is its whole array at every point. -/
theorem iblk_1 (c : Dev nD) (t : Fin cfg0.N) : iblk m c 1 t = V m c main_arg1 := by
  have e : ∀ t : Fin cfg0.N, win0_1.index t = ![0, 0] := (by decide +kernel : ∀ t : Fin grid0.N, _)
  funext y
  blk_simp [iblk]
  refine congrArg (V m c main_arg1) (funext fun a => Fin.ext ?_)
  blk_simp [e]
  match a with
  | ⟨0, _⟩ => simp
  | ⟨1, _⟩ => simp

/-- Window 2 is its whole array at every point. -/
theorem iblk_2 (c : Dev nD) (t : Fin cfg0.N) : iblk m c 2 t = V m c main_v7 := by
  have e : ∀ t : Fin cfg0.N, win0_2.index t = ![0, 0] := (by decide +kernel : ∀ t : Fin grid0.N, _)
  funext y
  blk_simp [iblk]
  refine congrArg (V m c main_v7) (funext fun a => Fin.ext ?_)
  blk_simp [e]
  match a with
  | ⟨0, _⟩ => simp
  | ⟨1, _⟩ => simp

/-- Window 3 is its whole array at every point. -/
theorem iblk_3 (c : Dev nD) (t : Fin cfg0.N) : iblk m c 3 t = V m c main_arg3 := by
  have e : ∀ t : Fin cfg0.N, win0_3.index t = ![0, 0] := (by decide +kernel : ∀ t : Fin grid0.N, _)
  funext y
  blk_simp [iblk]
  refine congrArg (V m c main_arg3) (funext fun a => Fin.ext ?_)
  blk_simp [e]
  match a with
  | ⟨0, _⟩ => simp
  | ⟨1, _⟩ => simp

/-- Window 4 is its whole array at every point. -/
theorem iblk_4 (c : Dev nD) (t : Fin cfg0.N) : iblk m c 4 t = V m c main_v8 := by
  have e : ∀ t : Fin cfg0.N, win0_4.index t = ![0, 0] := (by decide +kernel : ∀ t : Fin grid0.N, _)
  funext y
  blk_simp [iblk]
  refine congrArg (V m c main_v8) (funext fun a => Fin.ext ?_)
  blk_simp [e]
  match a with
  | ⟨0, _⟩ => simp
  | ⟨1, _⟩ => simp

/-- Window 5 is its whole array at every point. -/
theorem iblk_5 (c : Dev nD) (t : Fin cfg0.N) : iblk m c 5 t = V m c main_arg5 := by
  have e : ∀ t : Fin cfg0.N, win0_5.index t = ![0, 0] := (by decide +kernel : ∀ t : Fin grid0.N, _)
  funext y
  blk_simp [iblk]
  refine congrArg (V m c main_arg5) (funext fun a => Fin.ext ?_)
  blk_simp [e]
  match a with
  | ⟨0, _⟩ => simp
  | ⟨1, _⟩ => simp

/-- Window 6 is its whole array at every point. -/
theorem iblk_6 (c : Dev nD) (t : Fin cfg0.N) : iblk m c 6 t = V m c main_v9 := by
  have e : ∀ t : Fin cfg0.N, win0_6.index t = ![0, 0] := (by decide +kernel : ∀ t : Fin grid0.N, _)
  funext y
  blk_simp [iblk]
  refine congrArg (V m c main_v9) (funext fun a => Fin.ext ?_)
  blk_simp [e]
  match a with
  | ⟨0, _⟩ => simp
  | ⟨1, _⟩ => simp

/-- Window 7 is its whole array at every point. -/
theorem iblk_7 (c : Dev nD) (t : Fin cfg0.N) : iblk m c 7 t = V m c main_v10 := by
  have e : ∀ t : Fin cfg0.N, win0_7.index t = ![0, 0] := (by decide +kernel : ∀ t : Fin grid0.N, _)
  funext y
  blk_simp [iblk]
  refine congrArg (V m c main_v10) (funext fun a => Fin.ext ?_)
  blk_simp [e]
  match a with
  | ⟨0, _⟩ => simp
  | ⟨1, _⟩ => simp

/-- Window 8 is its whole array at every point. -/
theorem iblk_8 (c : Dev nD) (t : Fin cfg0.N) : iblk m c 8 t = V m c main_v11 := by
  have e : ∀ t : Fin cfg0.N, win0_8.index t = ![0, 0] := (by decide +kernel : ∀ t : Fin grid0.N, _)
  funext y
  blk_simp [iblk]
  refine congrArg (V m c main_v11) (funext fun a => Fin.ext ?_)
  blk_simp [e]
  match a with
  | ⟨0, _⟩ => simp
  | ⟨1, _⟩ => simp

/-- Window 9 is its whole array at every point. -/
theorem iblk_9 (c : Dev nD) (t : Fin cfg0.N) : iblk m c 9 t = V m c main_arg9 := by
  have e : ∀ t : Fin cfg0.N, win0_9.index t = ![0, 0] := (by decide +kernel : ∀ t : Fin grid0.N, _)
  funext y
  blk_simp [iblk]
  refine congrArg (V m c main_arg9) (funext fun a => Fin.ext ?_)
  blk_simp [e]
  match a with
  | ⟨0, _⟩ => simp
  | ⟨1, _⟩ => simp

/-- Window 10 is its whole array at every point. -/
theorem iblk_10 (c : Dev nD) (t : Fin cfg0.N) : iblk m c 10 t = V m c main_v12 := by
  have e : ∀ t : Fin cfg0.N, win0_10.index t = ![0, 0] := (by decide +kernel : ∀ t : Fin grid0.N, _)
  funext y
  blk_simp [iblk]
  refine congrArg (V m c main_v12) (funext fun a => Fin.ext ?_)
  blk_simp [e]
  match a with
  | ⟨0, _⟩ => simp
  | ⟨1, _⟩ => simp

/-- Window 11 is its whole array at every point. -/
theorem iblk_11 (c : Dev nD) (t : Fin cfg0.N) : iblk m c 11 t = V m c main_arg11 := by
  have e : ∀ t : Fin cfg0.N, win0_11.index t = ![0, 0] := (by decide +kernel : ∀ t : Fin grid0.N, _)
  funext y
  blk_simp [iblk]
  refine congrArg (V m c main_arg11) (funext fun a => Fin.ext ?_)
  blk_simp [e]
  match a with
  | ⟨0, _⟩ => simp
  | ⟨1, _⟩ => simp

/-- Window 12 is its whole array at every point. -/
theorem iblk_12 (c : Dev nD) (t : Fin cfg0.N) : iblk m c 12 t = V m c main_v13 := by
  have e : ∀ t : Fin cfg0.N, win0_12.index t = ![0, 0] := (by decide +kernel : ∀ t : Fin grid0.N, _)
  funext y
  blk_simp [iblk]
  refine congrArg (V m c main_v13) (funext fun a => Fin.ext ?_)
  blk_simp [e]
  match a with
  | ⟨0, _⟩ => simp
  | ⟨1, _⟩ => simp

/-- Window 13 is its whole array at every point. -/
theorem iblk_13 (c : Dev nD) (t : Fin cfg0.N) : iblk m c 13 t = V m c main_arg13 := by
  have e : ∀ t : Fin cfg0.N, win0_13.index t = ![0, 0] := (by decide +kernel : ∀ t : Fin grid0.N, _)
  funext y
  blk_simp [iblk]
  refine congrArg (V m c main_arg13) (funext fun a => Fin.ext ?_)
  blk_simp [e]
  match a with
  | ⟨0, _⟩ => simp
  | ⟨1, _⟩ => simp

/-- Window 14 is its whole array at every point. -/
theorem iblk_14 (c : Dev nD) (t : Fin cfg0.N) : iblk m c 14 t = V m c main_v14 := by
  have e : ∀ t : Fin cfg0.N, win0_14.index t = ![0, 0] := (by decide +kernel : ∀ t : Fin grid0.N, _)
  funext y
  blk_simp [iblk]
  refine congrArg (V m c main_v14) (funext fun a => Fin.ext ?_)
  blk_simp [e]
  match a with
  | ⟨0, _⟩ => simp
  | ⟨1, _⟩ => simp

/-- Window 15 is its whole array at every point. -/
theorem iblk_15 (c : Dev nD) (t : Fin cfg0.N) : iblk m c 15 t = V m c main_v15 := by
  have e : ∀ t : Fin cfg0.N, win0_15.index t = ![0, 0] := (by decide +kernel : ∀ t : Fin grid0.N, _)
  funext y
  blk_simp [iblk]
  refine congrArg (V m c main_v15) (funext fun a => Fin.ext ?_)
  blk_simp [e]
  match a with
  | ⟨0, _⟩ => simp
  | ⟨1, _⟩ => simp

/-- Window 16 is its whole array at every point. -/
theorem iblk_16 (c : Dev nD) (t : Fin cfg0.N) : iblk m c 16 t = V m c main_v16 := by
  have e : ∀ t : Fin cfg0.N, win0_16.index t = ![0, 0] := (by decide +kernel : ∀ t : Fin grid0.N, _)
  funext y
  blk_simp [iblk]
  refine congrArg (V m c main_v16) (funext fun a => Fin.ext ?_)
  blk_simp [e]
  match a with
  | ⟨0, _⟩ => simp
  | ⟨1, _⟩ => simp

/-- Window 17 is its whole array at every point. -/
theorem iblk_17 (c : Dev nD) (t : Fin cfg0.N) : iblk m c 17 t = V m c main_v2 := by
  have e : ∀ t : Fin cfg0.N, win0_17.index t = ![0, 0] := (by decide +kernel : ∀ t : Fin grid0.N, _)
  funext y
  blk_simp [iblk]
  refine congrArg (V m c main_v2) (funext fun a => Fin.ext ?_)
  blk_simp [e]
  match a with
  | ⟨0, _⟩ => simp
  | ⟨1, _⟩ => simp

/-- Window 18 is its whole array at every point. -/
theorem iblk_18 (c : Dev nD) (t : Fin cfg0.N) : iblk m c 18 t = V m c main_v6 := by
  have e : ∀ t : Fin cfg0.N, win0_18.index t = ![0, 0] := (by decide +kernel : ∀ t : Fin grid0.N, _)
  funext y
  blk_simp [iblk]
  refine congrArg (V m c main_v6) (funext fun a => Fin.ext ?_)
  blk_simp [e]
  match a with
  | ⟨0, _⟩ => simp
  | ⟨1, _⟩ => simp

/-- Window 0 at a point is the tile of 1024 rows of a bag that the point names. -/
theorem iblk_0 (c : Dev nD) (t : Fin cfg0.N) (r x : Fin 1024) (b : Fin 8) (p : Fin 4096)
    (hb : b.val = t.val / 4) (hp : p.val = 1024 * (t.val % 4) + r.val) :
    iblk m c 0 t (ix3 (0 : Fin 1) r x) = V m c main_arg0 (ix3 b p x) := by
  have e : ∀ t : Fin cfg0.N, win0_0.index t = ![t.val / 4, t.val % 4, 0] := (by decide +kernel : ∀ t : Fin grid0.N, _)
  blk_simp [iblk]
  refine congrArg (V m c main_arg0) (funext fun a => Fin.ext ?_)
  blk_simp [e]
  match a with
  | ⟨0, _⟩ => simp [hb]
  | ⟨1, _⟩ => simp [hp]; omega
  | ⟨2, _⟩ => simp

end Cert.KernelIdeal.Own

end
-- ==== Proof.Final.lean ====
module

public import proofs.«01_k».proof.Proof.Body
public import proofs.«01_k».proof.Proof.Params

@[expose] public section

set_option maxRecDepth 16384

noncomputable section

namespace Cert.KernelIdeal.Own

open Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] [Named F]

variable (m : (ℓ : Loc nD τ sig) → Buf (Elt F) ℓ) (ρ : Dev nD → PrngReg)

/-! ## The result after the run -/

/-- The output window's array after the run: what the last point stored. -/
theorem arr19 (c : Dev nD) : (dats m 0 c).arrAt 19 cfg0.N = outv m c := by
  refine (dats m 0 c).arrAt_eq_of_after_last 19 lastPt (by decide +kernel) _ fun j => ?_
  rw [after0_19]
  rfl

/-- The launch's result: the first two scores of each bag. -/
theorem result19 (c : Dev nD) : Pipeline.afterTail₀ cfgs (dats m) 0 (V0 m) [hostOps1] c main_v19
    = fun y => outv m c (ix3 (y 0) 0 ⟨(y 1).val, by have : (y 1).val < 2 := (y 1).isLt; omega⟩) := by
  have ha : Pipeline.withArrays spec0 c (V0 m c) (fun w => (dats m 0 c).arrAt w cfg0.N) (Proc.devRef .tc main_v17) = outv m c :=
    (Pipeline.withArrays_arr spec0 winFacts0.arr_inj c (V0 m c) (fun w => (dats m 0 c).arrAt w cfg0.N) 19).trans (arr19 m c)
  have h : Pipeline.afterTail₀ cfgs (dats m) 0 (V0 m) [hostOps1] c main_v19
      = shapeCast S8x2 (extractStridedSlice S8x1x2 ![0, 0, 0] (outv m c) slices_S8x1x128_S8x1x2_0_0_0) shapeCasts_S8x1x2_S8x2 := by
    unfold Pipeline.afterTail₀
    simp only [List.flatten_cons, List.flatten_nil, List.append_nil]
    rw [← ha]
    generalize Pipeline.withArrays spec0 c (V0 m c) (fun w => (dats m 0 c).arrAt w cfg0.N) = V
    after_reads_simp
    rfl
  rw [h]
  funext y
  obtain ⟨b, j, rfl⟩ : ∃ b j, y = ix2 b j := ⟨y 0, y 1, by funext a; match a with | ⟨0, _⟩ => rfl | ⟨1, _⟩ => rfl⟩
  pointwise []

/-- Every run leaves the arguments as they were, the first two scores of each bag in the result and every semaphore at zero. -/
theorem outcome : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ (∀ c : Dev nD, r.2.mem ((c.tc : Thread nD τ).loc main_v19)
        = fun y => outv m c (ix3 (y 0) 0 ⟨(y 1).val, by have : (y 1).val < 2 := (y 1).isLt; omega⟩))
      ∧ r.2.sem = fun _ => 0) :=
  θ_run_and (frame_of m ρ (dats m) (A_eq m) ((θ_run defs _ _).mono (fun _ h => h.1) (run_main m ρ)))
    ((θ_run defs _ _).mono (fun _ h => ⟨fun c => ((h.1 c).2 main_v19 (Pipeline.mem_restRefs_of main_v19 (by decide) (by decide))).trans
      (result19 m c), h.2⟩) (run_main m ρ))

end Cert.KernelIdeal.Own

end
-- ==== Proof.RefFacts.lean ====
module

public import proofs.«01_k».proof.ReferenceIdeal
public import Idealize.ShloMosaic.Lib.Decide

@[expose] public section

namespace Cert.ReferenceIdeal.Own

open Idealize.ShloMosaic Idealize.SL.Sem

/-- The shape relations that the reference's operations take. -/
instance facts₀ : Facts₀ where
  bcast_S256_S1x256_1 := by decide
  bcast_S1x256_S1x1x256_1_2 := by decide
  bcast_S1x1x256_S8x4096x256_0_1_2 := by decide
  bcast_S_S8x4096x256 := by decide
  bcast_S_S10 := by decide
  bcast_S10_S10x1_0 := by decide
  bcast_S8x4096x256_S8x4096x1x256_0_1_3 := by decide
  bcast_S8x10x256_S8x1x10x256_0_2_3 := by decide
  bcast_S8x4096x1x256_S8x4096x10x256_0_1_2_3 := by decide
  bcast_S8x1x10x256_S8x4096x10x256_0_1_2_3 := by decide
  reducesTo_S8x4096x10x256_S8x4096x10_d3 := by decide
  h_S_ := by decide
  reducesTo_S8x4096x10_S8x4096_d2 := by decide
  bcast_S8x4096_S8x4096x1_0_1 := by decide
  bcast_S10_S1x10_1 := by decide
  bcast_S1x10_S1x1x10_1_2 := by decide
  bcast_S8x4096x1_S8x4096x10_0_1_2 := by decide
  bcast_S1x1x10_S8x4096x10_0_1_2 := by decide
  bcast_S8x4096x10_S8x4096x10x1_0_1_2 := by decide
  bcast_S8x4096x10x1_S8x4096x10x256_0_1_2_3 := by decide
  bcast_S_S4096x10x256 := by decide
  bcast_S4096x10x256_S8x4096x10x256_1_2_3 := by decide
  reducesTo_S8x4096x10x256_S8x10x256_d1 := by decide
  bcast_S_S4096x1 := by decide
  bcast_S4096x1_S4096x1x1_0_2 := by decide
  bcast_S4096x1x1_S4096x10x1_0_1_2 := by decide
  bcast_S_S4096x10x1 := by decide
  bcast_S4096x10x1_S8x4096x10x1_1_2_3 := by decide
  reducesTo_S8x4096x10x1_S8x10x1_d1 := by decide
  bcast_S_S8x10x1 := by decide
  bcast_S8x10x1_S8x10x256_0_1_2 := by decide
  bcast_S1_S1x1_1 := by decide
  bcast_S1x1_S1x1x1_1_2 := by decide
  bcast_S1x1x1_S8x4096x1_0_1_2 := by decide
  shapeCasts_S8x4096x1_S8x4096 := by decide
  bcast_S_S4096x10 := by decide
  bcast_S4096x10_S8x4096x10_1_2 := by decide
  reducesTo_S8x4096x10_S8x10_d1 := by decide
  bcast_S_S8x4096 := by decide
  bcast_S8x4096x1_S8x4096x1x1_0_1_3 := by decide
  bcast_S8x4096x1x1_S8x4096x10x1_0_1_2_3 := by decide
  shapeCasts_S8x10x1_S8x10 := by decide
  bcast_S8x4096x1_S8x4096x256_0_1_2 := by decide
  bcast_S_S8x10x256 := by decide
  bcast_S1x1x256_S8x10x256_0_1_2 := by decide
  bcast_S256_S1x1x256_2 := by decide
  bcast_S1_S1x1x1_2 := by decide
  bcast_S1x1x1_S8x10x1_0_1_2 := by decide
  reducesTo_S8x10x1_S8x1_d1 := by decide
  bcast_S_S8x1 := by decide
  bcast_S8x1_S8x1x1_0_2 := by decide
  bcast_S8x1x1_S8x10x1_0_1_2 := by decide
  reducesTo_S8x10x256_S8x256_d1 := by decide
  bcast_S_S8x256 := by decide
  bcast_S1x256_S8x256_0_1 := by decide
  bcast_S2_S1x2_1 := by decide
  bcast_S1x2_S8x2_0_1 := by decide
  dot_S8x4096x1024_S1024x256_S8x4096x256_2_0_01_1_n_n_wf := by decide
  gather_S8x4096x256_S10x1_S8x10x256_02_1_n_n_1_1_81256_wf := by decide
  dot_S8x4096x256_S256x256_S8x4096x256_2_0_01_1_n_n_wf := by decide
  dot_S8x4096x256_S256x1_S8x4096x1_2_0_01_1_n_n_wf := by decide
  gather_S8x10_S8x4096x1_S8x4096_n_1_0_0_1_2_11_wf := by decide
  dot_S8x10x256_S256x256_S8x10x256_2_0_01_1_n_n_wf := by decide
  dot_S8x10x256_S256x1_S8x10x1_2_0_01_1_n_n_wf := by decide
  dot_S8x256_S256x2_S8x2_1_0_0_1_n_n_wf := by decide

/-- The reference states no further fact. -/
instance facts : Facts where

end Cert.ReferenceIdeal.Own
-- ==== Proof.RefOps.lean ====
module

public import proofs.«01_k».proof.Proof.RefFacts
public import Idealize.ShloMosaic.Lib.StableHlo.RunHlo
public import Idealize.ShloMosaic.Lib.StableHlo.RunRead

@[expose] public section

set_option maxRecDepth 16384

namespace Cert.ReferenceIdeal.Own

open Idealize.ShloMosaic Idealize.SL.Sem
open Facts₀ Facts

variable {F : FTy → Type} [FloatOps F]

/-- The operations of the encoder and the first centroids. -/
noncomputable abbrev ops0 : List (HloOp τ sig (Elt F)) := [
  StableHlo.nullary main_c (fun i => lit0 (S10.rowMajor i)),
  StableHlo.nullary main_c_0 (constantI S10 1 0#1),
  StableHlo.binary main_arg0 main_arg1 main_v0 ((fun l r => Host.dotGeneral dot_S8x4096x1024_S1024x256_S8x4096x256_2_0_01_1_n_n none l r) : (⟨S8x4096x1024, .f32⟩ : BufTy).Contents (Elt F) → (⟨S1024x256, .f32⟩ : BufTy).Contents (Elt F) → (⟨S8x4096x256, .f32⟩ : BufTy).Contents (Elt F)),
  StableHlo.unary main_arg2 main_v1 (broadcastInDim S1x256 ![1] bcast_S256_S1x256_1 : (⟨S256, .f32⟩ : BufTy).Contents (Elt F) → (⟨S1x256, .f32⟩ : BufTy).Contents (Elt F)),
  StableHlo.unary main_v1 main_v2 (broadcastInDim S1x1x256 ![1, 2] bcast_S1x256_S1x1x256_1_2 : (⟨S1x256, .f32⟩ : BufTy).Contents (Elt F) → (⟨S1x1x256, .f32⟩ : BufTy).Contents (Elt F)),
  StableHlo.unary main_v2 main_v3 (broadcastInDim S8x4096x256 ![0, 1, 2] bcast_S1x1x256_S8x4096x256_0_1_2 : (⟨S1x1x256, .f32⟩ : BufTy).Contents (Elt F) → (⟨S8x4096x256, .f32⟩ : BufTy).Contents (Elt F)),
  StableHlo.binary main_v0 main_v3 main_v4 (addf : (⟨S8x4096x256, .f32⟩ : BufTy).Contents (Elt F) → (⟨S8x4096x256, .f32⟩ : BufTy).Contents (Elt F) → (⟨S8x4096x256, .f32⟩ : BufTy).Contents (Elt F)),
  StableHlo.TRef.nullary main_call0.cst (constant S_ .f32 0x00000000#32),
  StableHlo.TRef.unary main_call0.cst main_call0.v0 (broadcastInDim S8x4096x256 ![] bcast_S_S8x4096x256),
  StableHlo.TRef.binary (.of main_v4 : StableHlo.TRef sig ⟨S8x4096x256, .f32⟩) main_call0.v0 main_call0.v1 maximumf,
  StableHlo.nullary main_c_1 (constantI S_ 32 4096#32),
  StableHlo.unary main_c_1 main_v6 (broadcastInDim S10 ![] bcast_S_S10 : (⟨S_, .i32⟩ : BufTy).Contents (Elt F) → (⟨S10, .i32⟩ : BufTy).Contents (Elt F)),
  StableHlo.binary main_c main_v6 main_v7 (addi : (⟨S10, .i32⟩ : BufTy).Contents (Elt F) → (⟨S10, .i32⟩ : BufTy).Contents (Elt F) → (⟨S10, .i32⟩ : BufTy).Contents (Elt F)),
  StableHlo.ternary main_c_0 main_v7 main_c main_v8 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
  StableHlo.unary main_v8 main_v9 (broadcastInDim S10x1 ![0] bcast_S10_S10x1_0 : (⟨S10, .i32⟩ : BufTy).Contents (Elt F) → (⟨S10x1, .i32⟩ : BufTy).Contents (Elt F)),
  StableHlo.binary main_v5 main_v9 main_v10 ((fun x i => Host.gather gather_S8x4096x256_S10x1_S8x10x256_02_1_n_n_1_1_81256 x i) : (⟨S8x4096x256, .f32⟩ : BufTy).Contents (Elt F) → (⟨S10x1, .i32⟩ : BufTy).Contents (Elt F) → (⟨S8x10x256, .f32⟩ : BufTy).Contents (Elt F))]

/-- The operations of round 1 of the clustering, the labels. -/
noncomputable abbrev ops1 : List (HloOp τ sig (Elt F)) := [
  StableHlo.unary main_v5 main_v11 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.unary main_v10 main_v12 (broadcastInDim S8x1x10x256 ![0, 2, 3] bcast_S8x10x256_S8x1x10x256_0_2_3 : (⟨S8x10x256, .f32⟩ : BufTy).Contents (Elt F) → (⟨S8x1x10x256, .f32⟩ : BufTy).Contents (Elt F)),
  StableHlo.unary main_v11 main_v13 (broadcastInDim S8x4096x10x256 ![0, 1, 2, 3] bcast_S8x4096x1x256_S8x4096x10x256_0_1_2_3 : (⟨S8x4096x1x256, .f32⟩ : BufTy).Contents (Elt F) → (⟨S8x4096x10x256, .f32⟩ : BufTy).Contents (Elt F)),
  StableHlo.unary main_v12 main_v14 (broadcastInDim S8x4096x10x256 ![0, 1, 2, 3] bcast_S8x1x10x256_S8x4096x10x256_0_1_2_3 : (⟨S8x1x10x256, .f32⟩ : BufTy).Contents (Elt F) → (⟨S8x4096x10x256, .f32⟩ : BufTy).Contents (Elt F)),
  StableHlo.binary main_v13 main_v14 main_v15 (subf : (⟨S8x4096x10x256, .f32⟩ : BufTy).Contents (Elt F) → (⟨S8x4096x10x256, .f32⟩ : BufTy).Contents (Elt F) → (⟨S8x4096x10x256, .f32⟩ : BufTy).Contents (Elt F)),
  StableHlo.binary main_v15 main_v15 main_v16 (mulf : (⟨S8x4096x10x256, .f32⟩ : BufTy).Contents (Elt F) → (⟨S8x4096x10x256, .f32⟩ : BufTy).Contents (Elt F) → (⟨S8x4096x10x256, .f32⟩ : BufTy).Contents (Elt F)),
  StableHlo.nullary main_cst (constant S_ .f32 0x00000000#32),
  StableHlo.binary main_v16 main_cst main_v17 ((fun x v => Host.reduceAdd x v reducesTo_S8x4096x10x256_S8x4096x10_d3 h_S_) : (⟨S8x4096x10x256, .f32⟩ : BufTy).Contents (Elt F) → (⟨S_, .f32⟩ : BufTy).Contents (Elt F) → (⟨S8x4096x10, .f32⟩ : BufTy).Contents (Elt F)),
  StableHlo.TRef.nullary main_call1.v0 (iotaInDim S8x4096x10 32 2),
  StableHlo.TRef.nullary main_call1.cst (constant S_ .f32 0x7F800000#32),
  StableHlo.TRef.nullary main_call1.c (constantI S_ 32 0#32),
  StableHlo.TRef.quaternary (.of main_v17 : StableHlo.TRef sig ⟨S8x4096x10, .f32⟩) main_call1.v0 main_call1.cst main_call1.c main_call1.v1_0 (fun x y u v j => (Host.argReduce reducer_argmin_f32_i32 x y u v reducesTo_S8x4096x10_S8x4096_d2 h_S_ j).1),
  StableHlo.TRef.quaternary (.of main_v17 : StableHlo.TRef sig ⟨S8x4096x10, .f32⟩) main_call1.v0 main_call1.cst main_call1.c main_call1.v1_1 (fun x y u v j => (Host.argReduce reducer_argmin_f32_i32 x y u v reducesTo_S8x4096x10_S8x4096_d2 h_S_ j).2)]

/-- The operations of round 1 of the clustering, the means. -/
noncomputable abbrev ops2 : List (HloOp τ sig (Elt F)) := [
  StableHlo.unary main_v18 main_v19 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v20 (iotaInDim S10 32 0),
  StableHlo.unary main_v20 main_v21 (broadcastInDim S1x10 ![1] bcast_S10_S1x10_1 : (⟨S10, .i32⟩ : BufTy).Contents (Elt F) → (⟨S1x10, .i32⟩ : BufTy).Contents (Elt F)),
  StableHlo.unary main_v21 main_v22 (broadcastInDim S1x1x10 ![1, 2] bcast_S1x10_S1x1x10_1_2 : (⟨S1x10, .i32⟩ : BufTy).Contents (Elt F) → (⟨S1x1x10, .i32⟩ : BufTy).Contents (Elt F)),
  StableHlo.unary main_v19 main_v23 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v22 main_v24 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v23 main_v24 main_v25 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v25 main_v26 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v5 main_v27 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.nullary main_cst_2 (constant S_ .f32 0x00000000#32),
  StableHlo.TRef.unary (.of main_cst_2 : StableHlo.TRef sig ⟨S_, .f32⟩) main_call2.v0 id,
  StableHlo.TRef.unary (.of main_v26 : StableHlo.TRef sig ⟨S8x4096x10x1, .i1⟩) main_call2.v1 (broadcastInDim S8x4096x10x256 ![0, 1, 2, 3] bcast_S8x4096x10x1_S8x4096x10x256_0_1_2_3),
  StableHlo.TRef.unary (.of main_v27 : StableHlo.TRef sig ⟨S8x4096x1x256, .f32⟩) main_call2.v2 (broadcastInDim S8x4096x10x256 ![0, 1, 2, 3] bcast_S8x4096x1x256_S8x4096x10x256_0_1_2_3),
  StableHlo.TRef.unary main_call2.v0 main_call2.v3 (broadcastInDim S4096x10x256 ![] bcast_S_S4096x10x256),
  StableHlo.TRef.unary main_call2.v3 main_call2.v4 (broadcastInDim S8x4096x10x256 ![1, 2, 3] bcast_S4096x10x256_S8x4096x10x256_1_2_3),
  StableHlo.TRef.ternary main_call2.v1 main_call2.v2 main_call2.v4 main_call2.v5 select,
  StableHlo.nullary main_cst_3 (constant S_ .f32 0x00000000#32),
  StableHlo.binary main_v28 main_cst_3 main_v29 ((fun x v => Host.reduceAdd x v reducesTo_S8x4096x10x256_S8x10x256_d1 h_S_) : (⟨S8x4096x10x256, .f32⟩ : BufTy).Contents (Elt F) → (⟨S_, .f32⟩ : BufTy).Contents (Elt F) → (⟨S8x10x256, .f32⟩ : BufTy).Contents (Elt F)),
  StableHlo.nullary main_cst_4 (constant S_ .f32 0x3F800000#32),
  StableHlo.unary main_cst_4 main_v30 (broadcastInDim S4096x1 ![] bcast_S_S4096x1 : (⟨S_, .f32⟩ : BufTy).Contents (Elt F) → (⟨S4096x1, .f32⟩ : BufTy).Contents (Elt F)),
  StableHlo.unary main_v18 main_v31 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v32 (iotaInDim S10 32 0),
  StableHlo.unary main_v32 main_v33 (broadcastInDim S1x10 ![1] bcast_S10_S1x10_1 : (⟨S10, .i32⟩ : BufTy).Contents (Elt F) → (⟨S1x10, .i32⟩ : BufTy).Contents (Elt F)),
  StableHlo.unary main_v33 main_v34 (broadcastInDim S1x1x10 ![1, 2] bcast_S1x10_S1x1x10_1_2 : (⟨S1x10, .i32⟩ : BufTy).Contents (Elt F) → (⟨S1x1x10, .i32⟩ : BufTy).Contents (Elt F)),
  StableHlo.unary main_v31 main_v35 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v34 main_v36 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v35 main_v36 main_v37 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v37 main_v38 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v30 main_v39 (broadcastInDim S4096x1x1 ![0, 2] bcast_S4096x1_S4096x1x1_0_2 : (⟨S4096x1, .f32⟩ : BufTy).Contents (Elt F) → (⟨S4096x1x1, .f32⟩ : BufTy).Contents (Elt F)),
  StableHlo.nullary main_cst_5 (constant S_ .f32 0x00000000#32),
  StableHlo.TRef.unary (.of main_cst_5 : StableHlo.TRef sig ⟨S_, .f32⟩) main_call3.v0 id,
  StableHlo.TRef.unary (.of main_v39 : StableHlo.TRef sig ⟨S4096x1x1, .f32⟩) main_call3.v1 (broadcastInDim S4096x10x1 ![0, 1, 2] bcast_S4096x1x1_S4096x10x1_0_1_2),
  StableHlo.TRef.unary main_call3.v0 main_call3.v2 (broadcastInDim S4096x10x1 ![] bcast_S_S4096x10x1),
  StableHlo.TRef.unary main_call3.v2 main_call3.v3 (broadcastInDim S8x4096x10x1 ![1, 2, 3] bcast_S4096x10x1_S8x4096x10x1_1_2_3),
  StableHlo.TRef.unary main_call3.v1 main_call3.v4 (broadcastInDim S8x4096x10x1 ![1, 2, 3] bcast_S4096x10x1_S8x4096x10x1_1_2_3),
  StableHlo.TRef.ternary (.of main_v38 : StableHlo.TRef sig ⟨S8x4096x10x1, .i1⟩) main_call3.v4 main_call3.v3 main_call3.v5 select,
  StableHlo.nullary main_cst_6 (constant S_ .f32 0x00000000#32),
  StableHlo.binary main_v40 main_cst_6 main_v41 ((fun x v => Host.reduceAdd x v reducesTo_S8x4096x10x1_S8x10x1_d1 h_S_) : (⟨S8x4096x10x1, .f32⟩ : BufTy).Contents (Elt F) → (⟨S_, .f32⟩ : BufTy).Contents (Elt F) → (⟨S8x10x1, .f32⟩ : BufTy).Contents (Elt F)),
  StableHlo.nullary main_cst_7 (constant S_ .f32 0x3F800000#32),
  StableHlo.unary main_cst_7 main_v42 (broadcastInDim S8x10x1 ![] bcast_S_S8x10x1 : (⟨S_, .f32⟩ : BufTy).Contents (Elt F) → (⟨S8x10x1, .f32⟩ : BufTy).Contents (Elt F)),
  StableHlo.binary main_v41 main_v42 main_v43 (maximumf : (⟨S8x10x1, .f32⟩ : BufTy).Contents (Elt F) → (⟨S8x10x1, .f32⟩ : BufTy).Contents (Elt F) → (⟨S8x10x1, .f32⟩ : BufTy).Contents (Elt F)),
  StableHlo.unary main_v43 main_v44 (broadcastInDim S8x10x256 ![0, 1, 2] bcast_S8x10x1_S8x10x256_0_1_2 : (⟨S8x10x1, .f32⟩ : BufTy).Contents (Elt F) → (⟨S8x10x256, .f32⟩ : BufTy).Contents (Elt F)),
  StableHlo.binary main_v29 main_v44 main_v45 (Host.divf : (⟨S8x10x256, .f32⟩ : BufTy).Contents (Elt F) → (⟨S8x10x256, .f32⟩ : BufTy).Contents (Elt F) → (⟨S8x10x256, .f32⟩ : BufTy).Contents (Elt F))]

/-- The operations of round 2 of the clustering, the labels, piece 1. -/
noncomputable abbrev ops3a : List (HloOp τ sig (Elt F)) := [
  StableHlo.unary main_v5 main_v46 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.unary main_v45 main_v47 (broadcastInDim S8x1x10x256 ![0, 2, 3] bcast_S8x10x256_S8x1x10x256_0_2_3 : (⟨S8x10x256, .f32⟩ : BufTy).Contents (Elt F) → (⟨S8x1x10x256, .f32⟩ : BufTy).Contents (Elt F)),
  StableHlo.unary main_v46 main_v48 (broadcastInDim S8x4096x10x256 ![0, 1, 2, 3] bcast_S8x4096x1x256_S8x4096x10x256_0_1_2_3 : (⟨S8x4096x1x256, .f32⟩ : BufTy).Contents (Elt F) → (⟨S8x4096x10x256, .f32⟩ : BufTy).Contents (Elt F)),
  StableHlo.unary main_v47 main_v49 (broadcastInDim S8x4096x10x256 ![0, 1, 2, 3] bcast_S8x1x10x256_S8x4096x10x256_0_1_2_3 : (⟨S8x1x10x256, .f32⟩ : BufTy).Contents (Elt F) → (⟨S8x4096x10x256, .f32⟩ : BufTy).Contents (Elt F))]

/-- The operations of round 2 of the clustering, the labels, piece 2. -/
noncomputable abbrev ops3b : List (HloOp τ sig (Elt F)) := [
  StableHlo.binary main_v48 main_v49 main_v50 (subf : (⟨S8x4096x10x256, .f32⟩ : BufTy).Contents (Elt F) → (⟨S8x4096x10x256, .f32⟩ : BufTy).Contents (Elt F) → (⟨S8x4096x10x256, .f32⟩ : BufTy).Contents (Elt F)),
  StableHlo.binary main_v50 main_v50 main_v51 (mulf : (⟨S8x4096x10x256, .f32⟩ : BufTy).Contents (Elt F) → (⟨S8x4096x10x256, .f32⟩ : BufTy).Contents (Elt F) → (⟨S8x4096x10x256, .f32⟩ : BufTy).Contents (Elt F)),
  StableHlo.nullary main_cst_8 (constant S_ .f32 0x00000000#32),
  StableHlo.binary main_v51 main_cst_8 main_v52 ((fun x v => Host.reduceAdd x v reducesTo_S8x4096x10x256_S8x4096x10_d3 h_S_) : (⟨S8x4096x10x256, .f32⟩ : BufTy).Contents (Elt F) → (⟨S_, .f32⟩ : BufTy).Contents (Elt F) → (⟨S8x4096x10, .f32⟩ : BufTy).Contents (Elt F)),
  StableHlo.TRef.nullary main_call4.v0 (iotaInDim S8x4096x10 32 2),
  StableHlo.TRef.nullary main_call4.cst (constant S_ .f32 0x7F800000#32),
  StableHlo.TRef.nullary main_call4.c (constantI S_ 32 0#32),
  StableHlo.TRef.quaternary (.of main_v52 : StableHlo.TRef sig ⟨S8x4096x10, .f32⟩) main_call4.v0 main_call4.cst main_call4.c main_call4.v1_0 (fun x y u v j => (Host.argReduce reducer_argmin_f32_i32 x y u v reducesTo_S8x4096x10_S8x4096_d2 h_S_ j).1),
  StableHlo.TRef.quaternary (.of main_v52 : StableHlo.TRef sig ⟨S8x4096x10, .f32⟩) main_call4.v0 main_call4.cst main_call4.c main_call4.v1_1 (fun x y u v j => (Host.argReduce reducer_argmin_f32_i32 x y u v reducesTo_S8x4096x10_S8x4096_d2 h_S_ j).2)]

/-- The operations of round 2 of the clustering, the means. -/
noncomputable abbrev ops4 : List (HloOp τ sig (Elt F)) := [
  StableHlo.unary main_v53 main_v54 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v55 (iotaInDim S10 32 0),
  StableHlo.unary main_v55 main_v56 (broadcastInDim S1x10 ![1] bcast_S10_S1x10_1 : (⟨S10, .i32⟩ : BufTy).Contents (Elt F) → (⟨S1x10, .i32⟩ : BufTy).Contents (Elt F)),
  StableHlo.unary main_v56 main_v57 (broadcastInDim S1x1x10 ![1, 2] bcast_S1x10_S1x1x10_1_2 : (⟨S1x10, .i32⟩ : BufTy).Contents (Elt F) → (⟨S1x1x10, .i32⟩ : BufTy).Contents (Elt F)),
  StableHlo.unary main_v54 main_v58 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v57 main_v59 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v58 main_v59 main_v60 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v60 main_v61 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v5 main_v62 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.nullary main_cst_9 (constant S_ .f32 0x00000000#32),
  StableHlo.TRef.unary (.of main_cst_9 : StableHlo.TRef sig ⟨S_, .f32⟩) main_call5.v0 id,
  StableHlo.TRef.unary (.of main_v61 : StableHlo.TRef sig ⟨S8x4096x10x1, .i1⟩) main_call5.v1 (broadcastInDim S8x4096x10x256 ![0, 1, 2, 3] bcast_S8x4096x10x1_S8x4096x10x256_0_1_2_3),
  StableHlo.TRef.unary (.of main_v62 : StableHlo.TRef sig ⟨S8x4096x1x256, .f32⟩) main_call5.v2 (broadcastInDim S8x4096x10x256 ![0, 1, 2, 3] bcast_S8x4096x1x256_S8x4096x10x256_0_1_2_3),
  StableHlo.TRef.unary main_call5.v0 main_call5.v3 (broadcastInDim S4096x10x256 ![] bcast_S_S4096x10x256),
  StableHlo.TRef.unary main_call5.v3 main_call5.v4 (broadcastInDim S8x4096x10x256 ![1, 2, 3] bcast_S4096x10x256_S8x4096x10x256_1_2_3),
  StableHlo.TRef.ternary main_call5.v1 main_call5.v2 main_call5.v4 main_call5.v5 select,
  StableHlo.nullary main_cst_10 (constant S_ .f32 0x00000000#32),
  StableHlo.binary main_v63 main_cst_10 main_v64 ((fun x v => Host.reduceAdd x v reducesTo_S8x4096x10x256_S8x10x256_d1 h_S_) : (⟨S8x4096x10x256, .f32⟩ : BufTy).Contents (Elt F) → (⟨S_, .f32⟩ : BufTy).Contents (Elt F) → (⟨S8x10x256, .f32⟩ : BufTy).Contents (Elt F)),
  StableHlo.nullary main_cst_11 (constant S_ .f32 0x3F800000#32),
  StableHlo.unary main_cst_11 main_v65 (broadcastInDim S4096x1 ![] bcast_S_S4096x1 : (⟨S_, .f32⟩ : BufTy).Contents (Elt F) → (⟨S4096x1, .f32⟩ : BufTy).Contents (Elt F)),
  StableHlo.unary main_v53 main_v66 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v67 (iotaInDim S10 32 0),
  StableHlo.unary main_v67 main_v68 (broadcastInDim S1x10 ![1] bcast_S10_S1x10_1 : (⟨S10, .i32⟩ : BufTy).Contents (Elt F) → (⟨S1x10, .i32⟩ : BufTy).Contents (Elt F)),
  StableHlo.unary main_v68 main_v69 (broadcastInDim S1x1x10 ![1, 2] bcast_S1x10_S1x1x10_1_2 : (⟨S1x10, .i32⟩ : BufTy).Contents (Elt F) → (⟨S1x1x10, .i32⟩ : BufTy).Contents (Elt F)),
  StableHlo.unary main_v66 main_v70 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v69 main_v71 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v70 main_v71 main_v72 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v72 main_v73 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v65 main_v74 (broadcastInDim S4096x1x1 ![0, 2] bcast_S4096x1_S4096x1x1_0_2 : (⟨S4096x1, .f32⟩ : BufTy).Contents (Elt F) → (⟨S4096x1x1, .f32⟩ : BufTy).Contents (Elt F)),
  StableHlo.nullary main_cst_12 (constant S_ .f32 0x00000000#32),
  StableHlo.TRef.unary (.of main_cst_12 : StableHlo.TRef sig ⟨S_, .f32⟩) main_call6.v0 id,
  StableHlo.TRef.unary (.of main_v74 : StableHlo.TRef sig ⟨S4096x1x1, .f32⟩) main_call6.v1 (broadcastInDim S4096x10x1 ![0, 1, 2] bcast_S4096x1x1_S4096x10x1_0_1_2),
  StableHlo.TRef.unary main_call6.v0 main_call6.v2 (broadcastInDim S4096x10x1 ![] bcast_S_S4096x10x1),
  StableHlo.TRef.unary main_call6.v2 main_call6.v3 (broadcastInDim S8x4096x10x1 ![1, 2, 3] bcast_S4096x10x1_S8x4096x10x1_1_2_3),
  StableHlo.TRef.unary main_call6.v1 main_call6.v4 (broadcastInDim S8x4096x10x1 ![1, 2, 3] bcast_S4096x10x1_S8x4096x10x1_1_2_3),
  StableHlo.TRef.ternary (.of main_v73 : StableHlo.TRef sig ⟨S8x4096x10x1, .i1⟩) main_call6.v4 main_call6.v3 main_call6.v5 select,
  StableHlo.nullary main_cst_13 (constant S_ .f32 0x00000000#32),
  StableHlo.binary main_v75 main_cst_13 main_v76 ((fun x v => Host.reduceAdd x v reducesTo_S8x4096x10x1_S8x10x1_d1 h_S_) : (⟨S8x4096x10x1, .f32⟩ : BufTy).Contents (Elt F) → (⟨S_, .f32⟩ : BufTy).Contents (Elt F) → (⟨S8x10x1, .f32⟩ : BufTy).Contents (Elt F)),
  StableHlo.nullary main_cst_14 (constant S_ .f32 0x3F800000#32),
  StableHlo.unary main_cst_14 main_v77 (broadcastInDim S8x10x1 ![] bcast_S_S8x10x1 : (⟨S_, .f32⟩ : BufTy).Contents (Elt F) → (⟨S8x10x1, .f32⟩ : BufTy).Contents (Elt F)),
  StableHlo.binary main_v76 main_v77 main_v78 (maximumf : (⟨S8x10x1, .f32⟩ : BufTy).Contents (Elt F) → (⟨S8x10x1, .f32⟩ : BufTy).Contents (Elt F) → (⟨S8x10x1, .f32⟩ : BufTy).Contents (Elt F)),
  StableHlo.unary main_v78 main_v79 (broadcastInDim S8x10x256 ![0, 1, 2] bcast_S8x10x1_S8x10x256_0_1_2 : (⟨S8x10x1, .f32⟩ : BufTy).Contents (Elt F) → (⟨S8x10x256, .f32⟩ : BufTy).Contents (Elt F)),
  StableHlo.binary main_v64 main_v79 main_v80 (Host.divf : (⟨S8x10x256, .f32⟩ : BufTy).Contents (Elt F) → (⟨S8x10x256, .f32⟩ : BufTy).Contents (Elt F) → (⟨S8x10x256, .f32⟩ : BufTy).Contents (Elt F))]

/-- The operations of round 3 of the clustering, the labels. -/
noncomputable abbrev ops5 : List (HloOp τ sig (Elt F)) := [
  StableHlo.unary main_v5 main_v81 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.unary main_v80 main_v82 (broadcastInDim S8x1x10x256 ![0, 2, 3] bcast_S8x10x256_S8x1x10x256_0_2_3 : (⟨S8x10x256, .f32⟩ : BufTy).Contents (Elt F) → (⟨S8x1x10x256, .f32⟩ : BufTy).Contents (Elt F)),
  StableHlo.unary main_v81 main_v83 (broadcastInDim S8x4096x10x256 ![0, 1, 2, 3] bcast_S8x4096x1x256_S8x4096x10x256_0_1_2_3 : (⟨S8x4096x1x256, .f32⟩ : BufTy).Contents (Elt F) → (⟨S8x4096x10x256, .f32⟩ : BufTy).Contents (Elt F)),
  StableHlo.unary main_v82 main_v84 (broadcastInDim S8x4096x10x256 ![0, 1, 2, 3] bcast_S8x1x10x256_S8x4096x10x256_0_1_2_3 : (⟨S8x1x10x256, .f32⟩ : BufTy).Contents (Elt F) → (⟨S8x4096x10x256, .f32⟩ : BufTy).Contents (Elt F)),
  StableHlo.binary main_v83 main_v84 main_v85 (subf : (⟨S8x4096x10x256, .f32⟩ : BufTy).Contents (Elt F) → (⟨S8x4096x10x256, .f32⟩ : BufTy).Contents (Elt F) → (⟨S8x4096x10x256, .f32⟩ : BufTy).Contents (Elt F)),
  StableHlo.binary main_v85 main_v85 main_v86 (mulf : (⟨S8x4096x10x256, .f32⟩ : BufTy).Contents (Elt F) → (⟨S8x4096x10x256, .f32⟩ : BufTy).Contents (Elt F) → (⟨S8x4096x10x256, .f32⟩ : BufTy).Contents (Elt F)),
  StableHlo.nullary main_cst_15 (constant S_ .f32 0x00000000#32),
  StableHlo.binary main_v86 main_cst_15 main_v87 ((fun x v => Host.reduceAdd x v reducesTo_S8x4096x10x256_S8x4096x10_d3 h_S_) : (⟨S8x4096x10x256, .f32⟩ : BufTy).Contents (Elt F) → (⟨S_, .f32⟩ : BufTy).Contents (Elt F) → (⟨S8x4096x10, .f32⟩ : BufTy).Contents (Elt F)),
  StableHlo.TRef.nullary main_call7.v0 (iotaInDim S8x4096x10 32 2),
  StableHlo.TRef.nullary main_call7.cst (constant S_ .f32 0x7F800000#32),
  StableHlo.TRef.nullary main_call7.c (constantI S_ 32 0#32),
  StableHlo.TRef.quaternary (.of main_v87 : StableHlo.TRef sig ⟨S8x4096x10, .f32⟩) main_call7.v0 main_call7.cst main_call7.c main_call7.v1_0 (fun x y u v j => (Host.argReduce reducer_argmin_f32_i32 x y u v reducesTo_S8x4096x10_S8x4096_d2 h_S_ j).1),
  StableHlo.TRef.quaternary (.of main_v87 : StableHlo.TRef sig ⟨S8x4096x10, .f32⟩) main_call7.v0 main_call7.cst main_call7.c main_call7.v1_1 (fun x y u v j => (Host.argReduce reducer_argmin_f32_i32 x y u v reducesTo_S8x4096x10_S8x4096_d2 h_S_ j).2)]

/-- The operations of round 3 of the clustering, the means, piece 1. -/
noncomputable abbrev ops6a : List (HloOp τ sig (Elt F)) := [
  StableHlo.unary main_v88 main_v89 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v90 (iotaInDim S10 32 0),
  StableHlo.unary main_v90 main_v91 (broadcastInDim S1x10 ![1] bcast_S10_S1x10_1 : (⟨S10, .i32⟩ : BufTy).Contents (Elt F) → (⟨S1x10, .i32⟩ : BufTy).Contents (Elt F)),
  StableHlo.unary main_v91 main_v92 (broadcastInDim S1x1x10 ![1, 2] bcast_S1x10_S1x1x10_1_2 : (⟨S1x10, .i32⟩ : BufTy).Contents (Elt F) → (⟨S1x1x10, .i32⟩ : BufTy).Contents (Elt F)),
  StableHlo.unary main_v89 main_v93 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v92 main_v94 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v93 main_v94 main_v95 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v95 main_v96 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v5 main_v97 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.nullary main_cst_16 (constant S_ .f32 0x00000000#32),
  StableHlo.TRef.unary (.of main_cst_16 : StableHlo.TRef sig ⟨S_, .f32⟩) main_call8.v0 id,
  StableHlo.TRef.unary (.of main_v96 : StableHlo.TRef sig ⟨S8x4096x10x1, .i1⟩) main_call8.v1 (broadcastInDim S8x4096x10x256 ![0, 1, 2, 3] bcast_S8x4096x10x1_S8x4096x10x256_0_1_2_3),
  StableHlo.TRef.unary (.of main_v97 : StableHlo.TRef sig ⟨S8x4096x1x256, .f32⟩) main_call8.v2 (broadcastInDim S8x4096x10x256 ![0, 1, 2, 3] bcast_S8x4096x1x256_S8x4096x10x256_0_1_2_3),
  StableHlo.TRef.unary main_call8.v0 main_call8.v3 (broadcastInDim S4096x10x256 ![] bcast_S_S4096x10x256),
  StableHlo.TRef.unary main_call8.v3 main_call8.v4 (broadcastInDim S8x4096x10x256 ![1, 2, 3] bcast_S4096x10x256_S8x4096x10x256_1_2_3),
  StableHlo.TRef.ternary main_call8.v1 main_call8.v2 main_call8.v4 main_call8.v5 select,
  StableHlo.nullary main_cst_17 (constant S_ .f32 0x00000000#32),
  StableHlo.binary main_v98 main_cst_17 main_v99 ((fun x v => Host.reduceAdd x v reducesTo_S8x4096x10x256_S8x10x256_d1 h_S_) : (⟨S8x4096x10x256, .f32⟩ : BufTy).Contents (Elt F) → (⟨S_, .f32⟩ : BufTy).Contents (Elt F) → (⟨S8x10x256, .f32⟩ : BufTy).Contents (Elt F))]

/-- The operations of round 3 of the clustering, the means, piece 2. -/
noncomputable abbrev ops6b : List (HloOp τ sig (Elt F)) := [
  StableHlo.nullary main_cst_18 (constant S_ .f32 0x3F800000#32),
  StableHlo.unary main_cst_18 main_v100 (broadcastInDim S4096x1 ![] bcast_S_S4096x1 : (⟨S_, .f32⟩ : BufTy).Contents (Elt F) → (⟨S4096x1, .f32⟩ : BufTy).Contents (Elt F)),
  StableHlo.unary main_v88 main_v101 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v102 (iotaInDim S10 32 0),
  StableHlo.unary main_v102 main_v103 (broadcastInDim S1x10 ![1] bcast_S10_S1x10_1 : (⟨S10, .i32⟩ : BufTy).Contents (Elt F) → (⟨S1x10, .i32⟩ : BufTy).Contents (Elt F)),
  StableHlo.unary main_v103 main_v104 (broadcastInDim S1x1x10 ![1, 2] bcast_S1x10_S1x1x10_1_2 : (⟨S1x10, .i32⟩ : BufTy).Contents (Elt F) → (⟨S1x1x10, .i32⟩ : BufTy).Contents (Elt F)),
  StableHlo.unary main_v101 main_v105 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v104 main_v106 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v105 main_v106 main_v107 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v107 main_v108 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v100 main_v109 (broadcastInDim S4096x1x1 ![0, 2] bcast_S4096x1_S4096x1x1_0_2 : (⟨S4096x1, .f32⟩ : BufTy).Contents (Elt F) → (⟨S4096x1x1, .f32⟩ : BufTy).Contents (Elt F)),
  StableHlo.nullary main_cst_19 (constant S_ .f32 0x00000000#32),
  StableHlo.TRef.unary (.of main_cst_19 : StableHlo.TRef sig ⟨S_, .f32⟩) main_call9.v0 id,
  StableHlo.TRef.unary (.of main_v109 : StableHlo.TRef sig ⟨S4096x1x1, .f32⟩) main_call9.v1 (broadcastInDim S4096x10x1 ![0, 1, 2] bcast_S4096x1x1_S4096x10x1_0_1_2),
  StableHlo.TRef.unary main_call9.v0 main_call9.v2 (broadcastInDim S4096x10x1 ![] bcast_S_S4096x10x1),
  StableHlo.TRef.unary main_call9.v2 main_call9.v3 (broadcastInDim S8x4096x10x1 ![1, 2, 3] bcast_S4096x10x1_S8x4096x10x1_1_2_3),
  StableHlo.TRef.unary main_call9.v1 main_call9.v4 (broadcastInDim S8x4096x10x1 ![1, 2, 3] bcast_S4096x10x1_S8x4096x10x1_1_2_3),
  StableHlo.TRef.ternary (.of main_v108 : StableHlo.TRef sig ⟨S8x4096x10x1, .i1⟩) main_call9.v4 main_call9.v3 main_call9.v5 select,
  StableHlo.nullary main_cst_20 (constant S_ .f32 0x00000000#32),
  StableHlo.binary main_v110 main_cst_20 main_v111 ((fun x v => Host.reduceAdd x v reducesTo_S8x4096x10x1_S8x10x1_d1 h_S_) : (⟨S8x4096x10x1, .f32⟩ : BufTy).Contents (Elt F) → (⟨S_, .f32⟩ : BufTy).Contents (Elt F) → (⟨S8x10x1, .f32⟩ : BufTy).Contents (Elt F)),
  StableHlo.nullary main_cst_21 (constant S_ .f32 0x3F800000#32),
  StableHlo.unary main_cst_21 main_v112 (broadcastInDim S8x10x1 ![] bcast_S_S8x10x1 : (⟨S_, .f32⟩ : BufTy).Contents (Elt F) → (⟨S8x10x1, .f32⟩ : BufTy).Contents (Elt F)),
  StableHlo.binary main_v111 main_v112 main_v113 (maximumf : (⟨S8x10x1, .f32⟩ : BufTy).Contents (Elt F) → (⟨S8x10x1, .f32⟩ : BufTy).Contents (Elt F) → (⟨S8x10x1, .f32⟩ : BufTy).Contents (Elt F)),
  StableHlo.unary main_v113 main_v114 (broadcastInDim S8x10x256 ![0, 1, 2] bcast_S8x10x1_S8x10x256_0_1_2 : (⟨S8x10x1, .f32⟩ : BufTy).Contents (Elt F) → (⟨S8x10x256, .f32⟩ : BufTy).Contents (Elt F)),
  StableHlo.binary main_v99 main_v114 main_v115 (Host.divf : (⟨S8x10x256, .f32⟩ : BufTy).Contents (Elt F) → (⟨S8x10x256, .f32⟩ : BufTy).Contents (Elt F) → (⟨S8x10x256, .f32⟩ : BufTy).Contents (Elt F))]

/-- The operations of round 4 of the clustering, the labels. -/
noncomputable abbrev ops7 : List (HloOp τ sig (Elt F)) := [
  StableHlo.unary main_v5 main_v116 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.unary main_v115 main_v117 (broadcastInDim S8x1x10x256 ![0, 2, 3] bcast_S8x10x256_S8x1x10x256_0_2_3 : (⟨S8x10x256, .f32⟩ : BufTy).Contents (Elt F) → (⟨S8x1x10x256, .f32⟩ : BufTy).Contents (Elt F)),
  StableHlo.unary main_v116 main_v118 (broadcastInDim S8x4096x10x256 ![0, 1, 2, 3] bcast_S8x4096x1x256_S8x4096x10x256_0_1_2_3 : (⟨S8x4096x1x256, .f32⟩ : BufTy).Contents (Elt F) → (⟨S8x4096x10x256, .f32⟩ : BufTy).Contents (Elt F)),
  StableHlo.unary main_v117 main_v119 (broadcastInDim S8x4096x10x256 ![0, 1, 2, 3] bcast_S8x1x10x256_S8x4096x10x256_0_1_2_3 : (⟨S8x1x10x256, .f32⟩ : BufTy).Contents (Elt F) → (⟨S8x4096x10x256, .f32⟩ : BufTy).Contents (Elt F)),
  StableHlo.binary main_v118 main_v119 main_v120 (subf : (⟨S8x4096x10x256, .f32⟩ : BufTy).Contents (Elt F) → (⟨S8x4096x10x256, .f32⟩ : BufTy).Contents (Elt F) → (⟨S8x4096x10x256, .f32⟩ : BufTy).Contents (Elt F)),
  StableHlo.binary main_v120 main_v120 main_v121 (mulf : (⟨S8x4096x10x256, .f32⟩ : BufTy).Contents (Elt F) → (⟨S8x4096x10x256, .f32⟩ : BufTy).Contents (Elt F) → (⟨S8x4096x10x256, .f32⟩ : BufTy).Contents (Elt F)),
  StableHlo.nullary main_cst_22 (constant S_ .f32 0x00000000#32),
  StableHlo.binary main_v121 main_cst_22 main_v122 ((fun x v => Host.reduceAdd x v reducesTo_S8x4096x10x256_S8x4096x10_d3 h_S_) : (⟨S8x4096x10x256, .f32⟩ : BufTy).Contents (Elt F) → (⟨S_, .f32⟩ : BufTy).Contents (Elt F) → (⟨S8x4096x10, .f32⟩ : BufTy).Contents (Elt F)),
  StableHlo.TRef.nullary main_call10.v0 (iotaInDim S8x4096x10 32 2),
  StableHlo.TRef.nullary main_call10.cst (constant S_ .f32 0x7F800000#32),
  StableHlo.TRef.nullary main_call10.c (constantI S_ 32 0#32),
  StableHlo.TRef.quaternary (.of main_v122 : StableHlo.TRef sig ⟨S8x4096x10, .f32⟩) main_call10.v0 main_call10.cst main_call10.c main_call10.v1_0 (fun x y u v j => (Host.argReduce reducer_argmin_f32_i32 x y u v reducesTo_S8x4096x10_S8x4096_d2 h_S_ j).1),
  StableHlo.TRef.quaternary (.of main_v122 : StableHlo.TRef sig ⟨S8x4096x10, .f32⟩) main_call10.v0 main_call10.cst main_call10.c main_call10.v1_1 (fun x y u v j => (Host.argReduce reducer_argmin_f32_i32 x y u v reducesTo_S8x4096x10_S8x4096_d2 h_S_ j).2)]

/-- The operations of round 4 of the clustering, the means, piece 1. -/
noncomputable abbrev ops8a : List (HloOp τ sig (Elt F)) := [
  StableHlo.unary main_v123 main_v124 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v125 (iotaInDim S10 32 0),
  StableHlo.unary main_v125 main_v126 (broadcastInDim S1x10 ![1] bcast_S10_S1x10_1 : (⟨S10, .i32⟩ : BufTy).Contents (Elt F) → (⟨S1x10, .i32⟩ : BufTy).Contents (Elt F)),
  StableHlo.unary main_v126 main_v127 (broadcastInDim S1x1x10 ![1, 2] bcast_S1x10_S1x1x10_1_2 : (⟨S1x10, .i32⟩ : BufTy).Contents (Elt F) → (⟨S1x1x10, .i32⟩ : BufTy).Contents (Elt F)),
  StableHlo.unary main_v124 main_v128 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v127 main_v129 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v128 main_v129 main_v130 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v130 main_v131 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v5 main_v132 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.nullary main_cst_23 (constant S_ .f32 0x00000000#32),
  StableHlo.TRef.unary (.of main_cst_23 : StableHlo.TRef sig ⟨S_, .f32⟩) main_call11.v0 id,
  StableHlo.TRef.unary (.of main_v131 : StableHlo.TRef sig ⟨S8x4096x10x1, .i1⟩) main_call11.v1 (broadcastInDim S8x4096x10x256 ![0, 1, 2, 3] bcast_S8x4096x10x1_S8x4096x10x256_0_1_2_3),
  StableHlo.TRef.unary (.of main_v132 : StableHlo.TRef sig ⟨S8x4096x1x256, .f32⟩) main_call11.v2 (broadcastInDim S8x4096x10x256 ![0, 1, 2, 3] bcast_S8x4096x1x256_S8x4096x10x256_0_1_2_3),
  StableHlo.TRef.unary main_call11.v0 main_call11.v3 (broadcastInDim S4096x10x256 ![] bcast_S_S4096x10x256),
  StableHlo.TRef.unary main_call11.v3 main_call11.v4 (broadcastInDim S8x4096x10x256 ![1, 2, 3] bcast_S4096x10x256_S8x4096x10x256_1_2_3),
  StableHlo.TRef.ternary main_call11.v1 main_call11.v2 main_call11.v4 main_call11.v5 select,
  StableHlo.nullary main_cst_24 (constant S_ .f32 0x00000000#32),
  StableHlo.binary main_v133 main_cst_24 main_v134 ((fun x v => Host.reduceAdd x v reducesTo_S8x4096x10x256_S8x10x256_d1 h_S_) : (⟨S8x4096x10x256, .f32⟩ : BufTy).Contents (Elt F) → (⟨S_, .f32⟩ : BufTy).Contents (Elt F) → (⟨S8x10x256, .f32⟩ : BufTy).Contents (Elt F)),
  StableHlo.nullary main_cst_25 (constant S_ .f32 0x3F800000#32),
  StableHlo.unary main_cst_25 main_v135 (broadcastInDim S4096x1 ![] bcast_S_S4096x1 : (⟨S_, .f32⟩ : BufTy).Contents (Elt F) → (⟨S4096x1, .f32⟩ : BufTy).Contents (Elt F)),
  StableHlo.unary main_v123 main_v136 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v137 (iotaInDim S10 32 0),
  StableHlo.unary main_v137 main_v138 (broadcastInDim S1x10 ![1] bcast_S10_S1x10_1 : (⟨S10, .i32⟩ : BufTy).Contents (Elt F) → (⟨S1x10, .i32⟩ : BufTy).Contents (Elt F)),
  StableHlo.unary main_v138 main_v139 (broadcastInDim S1x1x10 ![1, 2] bcast_S1x10_S1x1x10_1_2 : (⟨S1x10, .i32⟩ : BufTy).Contents (Elt F) → (⟨S1x1x10, .i32⟩ : BufTy).Contents (Elt F)),
  StableHlo.unary main_v136 main_v140 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v139 main_v141 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v140 main_v141 main_v142 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v142 main_v143 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v135 main_v144 (broadcastInDim S4096x1x1 ![0, 2] bcast_S4096x1_S4096x1x1_0_2 : (⟨S4096x1, .f32⟩ : BufTy).Contents (Elt F) → (⟨S4096x1x1, .f32⟩ : BufTy).Contents (Elt F)),
  StableHlo.nullary main_cst_26 (constant S_ .f32 0x00000000#32),
  StableHlo.TRef.unary (.of main_cst_26 : StableHlo.TRef sig ⟨S_, .f32⟩) main_call12.v0 id,
  StableHlo.TRef.unary (.of main_v144 : StableHlo.TRef sig ⟨S4096x1x1, .f32⟩) main_call12.v1 (broadcastInDim S4096x10x1 ![0, 1, 2] bcast_S4096x1x1_S4096x10x1_0_1_2),
  StableHlo.TRef.unary main_call12.v0 main_call12.v2 (broadcastInDim S4096x10x1 ![] bcast_S_S4096x10x1),
  StableHlo.TRef.unary main_call12.v2 main_call12.v3 (broadcastInDim S8x4096x10x1 ![1, 2, 3] bcast_S4096x10x1_S8x4096x10x1_1_2_3),
  StableHlo.TRef.unary main_call12.v1 main_call12.v4 (broadcastInDim S8x4096x10x1 ![1, 2, 3] bcast_S4096x10x1_S8x4096x10x1_1_2_3),
  StableHlo.TRef.ternary (.of main_v143 : StableHlo.TRef sig ⟨S8x4096x10x1, .i1⟩) main_call12.v4 main_call12.v3 main_call12.v5 select,
  StableHlo.nullary main_cst_27 (constant S_ .f32 0x00000000#32),
  StableHlo.binary main_v145 main_cst_27 main_v146 ((fun x v => Host.reduceAdd x v reducesTo_S8x4096x10x1_S8x10x1_d1 h_S_) : (⟨S8x4096x10x1, .f32⟩ : BufTy).Contents (Elt F) → (⟨S_, .f32⟩ : BufTy).Contents (Elt F) → (⟨S8x10x1, .f32⟩ : BufTy).Contents (Elt F)),
  StableHlo.nullary main_cst_28 (constant S_ .f32 0x3F800000#32),
  StableHlo.unary main_cst_28 main_v147 (broadcastInDim S8x10x1 ![] bcast_S_S8x10x1 : (⟨S_, .f32⟩ : BufTy).Contents (Elt F) → (⟨S8x10x1, .f32⟩ : BufTy).Contents (Elt F)),
  StableHlo.binary main_v146 main_v147 main_v148 (maximumf : (⟨S8x10x1, .f32⟩ : BufTy).Contents (Elt F) → (⟨S8x10x1, .f32⟩ : BufTy).Contents (Elt F) → (⟨S8x10x1, .f32⟩ : BufTy).Contents (Elt F))]

/-- The operations of round 4 of the clustering, the means, piece 2. -/
noncomputable abbrev ops8b : List (HloOp τ sig (Elt F)) := [
  StableHlo.unary main_v148 main_v149 (broadcastInDim S8x10x256 ![0, 1, 2] bcast_S8x10x1_S8x10x256_0_1_2 : (⟨S8x10x1, .f32⟩ : BufTy).Contents (Elt F) → (⟨S8x10x256, .f32⟩ : BufTy).Contents (Elt F)),
  StableHlo.binary main_v134 main_v149 main_v150 (Host.divf : (⟨S8x10x256, .f32⟩ : BufTy).Contents (Elt F) → (⟨S8x10x256, .f32⟩ : BufTy).Contents (Elt F) → (⟨S8x10x256, .f32⟩ : BufTy).Contents (Elt F))]

/-- The operations of round 5 of the clustering, the labels. -/
noncomputable abbrev ops9 : List (HloOp τ sig (Elt F)) := [
  StableHlo.unary main_v5 main_v151 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.unary main_v150 main_v152 (broadcastInDim S8x1x10x256 ![0, 2, 3] bcast_S8x10x256_S8x1x10x256_0_2_3 : (⟨S8x10x256, .f32⟩ : BufTy).Contents (Elt F) → (⟨S8x1x10x256, .f32⟩ : BufTy).Contents (Elt F)),
  StableHlo.unary main_v151 main_v153 (broadcastInDim S8x4096x10x256 ![0, 1, 2, 3] bcast_S8x4096x1x256_S8x4096x10x256_0_1_2_3 : (⟨S8x4096x1x256, .f32⟩ : BufTy).Contents (Elt F) → (⟨S8x4096x10x256, .f32⟩ : BufTy).Contents (Elt F)),
  StableHlo.unary main_v152 main_v154 (broadcastInDim S8x4096x10x256 ![0, 1, 2, 3] bcast_S8x1x10x256_S8x4096x10x256_0_1_2_3 : (⟨S8x1x10x256, .f32⟩ : BufTy).Contents (Elt F) → (⟨S8x4096x10x256, .f32⟩ : BufTy).Contents (Elt F)),
  StableHlo.binary main_v153 main_v154 main_v155 (subf : (⟨S8x4096x10x256, .f32⟩ : BufTy).Contents (Elt F) → (⟨S8x4096x10x256, .f32⟩ : BufTy).Contents (Elt F) → (⟨S8x4096x10x256, .f32⟩ : BufTy).Contents (Elt F)),
  StableHlo.binary main_v155 main_v155 main_v156 (mulf : (⟨S8x4096x10x256, .f32⟩ : BufTy).Contents (Elt F) → (⟨S8x4096x10x256, .f32⟩ : BufTy).Contents (Elt F) → (⟨S8x4096x10x256, .f32⟩ : BufTy).Contents (Elt F)),
  StableHlo.nullary main_cst_29 (constant S_ .f32 0x00000000#32),
  StableHlo.binary main_v156 main_cst_29 main_v157 ((fun x v => Host.reduceAdd x v reducesTo_S8x4096x10x256_S8x4096x10_d3 h_S_) : (⟨S8x4096x10x256, .f32⟩ : BufTy).Contents (Elt F) → (⟨S_, .f32⟩ : BufTy).Contents (Elt F) → (⟨S8x4096x10, .f32⟩ : BufTy).Contents (Elt F)),
  StableHlo.TRef.nullary main_call13.v0 (iotaInDim S8x4096x10 32 2),
  StableHlo.TRef.nullary main_call13.cst (constant S_ .f32 0x7F800000#32),
  StableHlo.TRef.nullary main_call13.c (constantI S_ 32 0#32),
  StableHlo.TRef.quaternary (.of main_v157 : StableHlo.TRef sig ⟨S8x4096x10, .f32⟩) main_call13.v0 main_call13.cst main_call13.c main_call13.v1_0 (fun x y u v j => (Host.argReduce reducer_argmin_f32_i32 x y u v reducesTo_S8x4096x10_S8x4096_d2 h_S_ j).1),
  StableHlo.TRef.quaternary (.of main_v157 : StableHlo.TRef sig ⟨S8x4096x10, .f32⟩) main_call13.v0 main_call13.cst main_call13.c main_call13.v1_1 (fun x y u v j => (Host.argReduce reducer_argmin_f32_i32 x y u v reducesTo_S8x4096x10_S8x4096_d2 h_S_ j).2)]

/-- The operations of round 5 of the clustering, the means. -/
noncomputable abbrev ops10 : List (HloOp τ sig (Elt F)) := [
  StableHlo.unary main_v158 main_v159 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v160 (iotaInDim S10 32 0),
  StableHlo.unary main_v160 main_v161 (broadcastInDim S1x10 ![1] bcast_S10_S1x10_1 : (⟨S10, .i32⟩ : BufTy).Contents (Elt F) → (⟨S1x10, .i32⟩ : BufTy).Contents (Elt F)),
  StableHlo.unary main_v161 main_v162 (broadcastInDim S1x1x10 ![1, 2] bcast_S1x10_S1x1x10_1_2 : (⟨S1x10, .i32⟩ : BufTy).Contents (Elt F) → (⟨S1x1x10, .i32⟩ : BufTy).Contents (Elt F)),
  StableHlo.unary main_v159 main_v163 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v162 main_v164 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v163 main_v164 main_v165 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v165 main_v166 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v5 main_v167 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.nullary main_cst_30 (constant S_ .f32 0x00000000#32),
  StableHlo.TRef.unary (.of main_cst_30 : StableHlo.TRef sig ⟨S_, .f32⟩) main_call14.v0 id,
  StableHlo.TRef.unary (.of main_v166 : StableHlo.TRef sig ⟨S8x4096x10x1, .i1⟩) main_call14.v1 (broadcastInDim S8x4096x10x256 ![0, 1, 2, 3] bcast_S8x4096x10x1_S8x4096x10x256_0_1_2_3),
  StableHlo.TRef.unary (.of main_v167 : StableHlo.TRef sig ⟨S8x4096x1x256, .f32⟩) main_call14.v2 (broadcastInDim S8x4096x10x256 ![0, 1, 2, 3] bcast_S8x4096x1x256_S8x4096x10x256_0_1_2_3),
  StableHlo.TRef.unary main_call14.v0 main_call14.v3 (broadcastInDim S4096x10x256 ![] bcast_S_S4096x10x256),
  StableHlo.TRef.unary main_call14.v3 main_call14.v4 (broadcastInDim S8x4096x10x256 ![1, 2, 3] bcast_S4096x10x256_S8x4096x10x256_1_2_3),
  StableHlo.TRef.ternary main_call14.v1 main_call14.v2 main_call14.v4 main_call14.v5 select,
  StableHlo.nullary main_cst_31 (constant S_ .f32 0x00000000#32),
  StableHlo.binary main_v168 main_cst_31 main_v169 ((fun x v => Host.reduceAdd x v reducesTo_S8x4096x10x256_S8x10x256_d1 h_S_) : (⟨S8x4096x10x256, .f32⟩ : BufTy).Contents (Elt F) → (⟨S_, .f32⟩ : BufTy).Contents (Elt F) → (⟨S8x10x256, .f32⟩ : BufTy).Contents (Elt F)),
  StableHlo.nullary main_cst_32 (constant S_ .f32 0x3F800000#32),
  StableHlo.unary main_cst_32 main_v170 (broadcastInDim S4096x1 ![] bcast_S_S4096x1 : (⟨S_, .f32⟩ : BufTy).Contents (Elt F) → (⟨S4096x1, .f32⟩ : BufTy).Contents (Elt F)),
  StableHlo.unary main_v158 main_v171 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v172 (iotaInDim S10 32 0),
  StableHlo.unary main_v172 main_v173 (broadcastInDim S1x10 ![1] bcast_S10_S1x10_1 : (⟨S10, .i32⟩ : BufTy).Contents (Elt F) → (⟨S1x10, .i32⟩ : BufTy).Contents (Elt F)),
  StableHlo.unary main_v173 main_v174 (broadcastInDim S1x1x10 ![1, 2] bcast_S1x10_S1x1x10_1_2 : (⟨S1x10, .i32⟩ : BufTy).Contents (Elt F) → (⟨S1x1x10, .i32⟩ : BufTy).Contents (Elt F)),
  StableHlo.unary main_v171 main_v175 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v174 main_v176 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v175 main_v176 main_v177 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v177 main_v178 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v170 main_v179 (broadcastInDim S4096x1x1 ![0, 2] bcast_S4096x1_S4096x1x1_0_2 : (⟨S4096x1, .f32⟩ : BufTy).Contents (Elt F) → (⟨S4096x1x1, .f32⟩ : BufTy).Contents (Elt F)),
  StableHlo.nullary main_cst_33 (constant S_ .f32 0x00000000#32),
  StableHlo.TRef.unary (.of main_cst_33 : StableHlo.TRef sig ⟨S_, .f32⟩) main_call15.v0 id,
  StableHlo.TRef.unary (.of main_v179 : StableHlo.TRef sig ⟨S4096x1x1, .f32⟩) main_call15.v1 (broadcastInDim S4096x10x1 ![0, 1, 2] bcast_S4096x1x1_S4096x10x1_0_1_2),
  StableHlo.TRef.unary main_call15.v0 main_call15.v2 (broadcastInDim S4096x10x1 ![] bcast_S_S4096x10x1),
  StableHlo.TRef.unary main_call15.v2 main_call15.v3 (broadcastInDim S8x4096x10x1 ![1, 2, 3] bcast_S4096x10x1_S8x4096x10x1_1_2_3),
  StableHlo.TRef.unary main_call15.v1 main_call15.v4 (broadcastInDim S8x4096x10x1 ![1, 2, 3] bcast_S4096x10x1_S8x4096x10x1_1_2_3),
  StableHlo.TRef.ternary (.of main_v178 : StableHlo.TRef sig ⟨S8x4096x10x1, .i1⟩) main_call15.v4 main_call15.v3 main_call15.v5 select,
  StableHlo.nullary main_cst_34 (constant S_ .f32 0x00000000#32),
  StableHlo.binary main_v180 main_cst_34 main_v181 ((fun x v => Host.reduceAdd x v reducesTo_S8x4096x10x1_S8x10x1_d1 h_S_) : (⟨S8x4096x10x1, .f32⟩ : BufTy).Contents (Elt F) → (⟨S_, .f32⟩ : BufTy).Contents (Elt F) → (⟨S8x10x1, .f32⟩ : BufTy).Contents (Elt F)),
  StableHlo.nullary main_cst_35 (constant S_ .f32 0x3F800000#32),
  StableHlo.unary main_cst_35 main_v182 (broadcastInDim S8x10x1 ![] bcast_S_S8x10x1 : (⟨S_, .f32⟩ : BufTy).Contents (Elt F) → (⟨S8x10x1, .f32⟩ : BufTy).Contents (Elt F)),
  StableHlo.binary main_v181 main_v182 main_v183 (maximumf : (⟨S8x10x1, .f32⟩ : BufTy).Contents (Elt F) → (⟨S8x10x1, .f32⟩ : BufTy).Contents (Elt F) → (⟨S8x10x1, .f32⟩ : BufTy).Contents (Elt F)),
  StableHlo.unary main_v183 main_v184 (broadcastInDim S8x10x256 ![0, 1, 2] bcast_S8x10x1_S8x10x256_0_1_2 : (⟨S8x10x1, .f32⟩ : BufTy).Contents (Elt F) → (⟨S8x10x256, .f32⟩ : BufTy).Contents (Elt F)),
  StableHlo.binary main_v169 main_v184 main_v185 (Host.divf : (⟨S8x10x256, .f32⟩ : BufTy).Contents (Elt F) → (⟨S8x10x256, .f32⟩ : BufTy).Contents (Elt F) → (⟨S8x10x256, .f32⟩ : BufTy).Contents (Elt F))]

/-- The operations of the final labels. -/
noncomputable abbrev ops11 : List (HloOp τ sig (Elt F)) := [
  StableHlo.unary main_v5 main_v186 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.unary main_v185 main_v187 (broadcastInDim S8x1x10x256 ![0, 2, 3] bcast_S8x10x256_S8x1x10x256_0_2_3 : (⟨S8x10x256, .f32⟩ : BufTy).Contents (Elt F) → (⟨S8x1x10x256, .f32⟩ : BufTy).Contents (Elt F)),
  StableHlo.unary main_v186 main_v188 (broadcastInDim S8x4096x10x256 ![0, 1, 2, 3] bcast_S8x4096x1x256_S8x4096x10x256_0_1_2_3 : (⟨S8x4096x1x256, .f32⟩ : BufTy).Contents (Elt F) → (⟨S8x4096x10x256, .f32⟩ : BufTy).Contents (Elt F)),
  StableHlo.unary main_v187 main_v189 (broadcastInDim S8x4096x10x256 ![0, 1, 2, 3] bcast_S8x1x10x256_S8x4096x10x256_0_1_2_3 : (⟨S8x1x10x256, .f32⟩ : BufTy).Contents (Elt F) → (⟨S8x4096x10x256, .f32⟩ : BufTy).Contents (Elt F)),
  StableHlo.binary main_v188 main_v189 main_v190 (subf : (⟨S8x4096x10x256, .f32⟩ : BufTy).Contents (Elt F) → (⟨S8x4096x10x256, .f32⟩ : BufTy).Contents (Elt F) → (⟨S8x4096x10x256, .f32⟩ : BufTy).Contents (Elt F)),
  StableHlo.binary main_v190 main_v190 main_v191 (mulf : (⟨S8x4096x10x256, .f32⟩ : BufTy).Contents (Elt F) → (⟨S8x4096x10x256, .f32⟩ : BufTy).Contents (Elt F) → (⟨S8x4096x10x256, .f32⟩ : BufTy).Contents (Elt F)),
  StableHlo.nullary main_cst_36 (constant S_ .f32 0x00000000#32),
  StableHlo.binary main_v191 main_cst_36 main_v192 ((fun x v => Host.reduceAdd x v reducesTo_S8x4096x10x256_S8x4096x10_d3 h_S_) : (⟨S8x4096x10x256, .f32⟩ : BufTy).Contents (Elt F) → (⟨S_, .f32⟩ : BufTy).Contents (Elt F) → (⟨S8x4096x10, .f32⟩ : BufTy).Contents (Elt F)),
  StableHlo.TRef.nullary main_call16.v0 (iotaInDim S8x4096x10 32 2),
  StableHlo.TRef.nullary main_call16.cst (constant S_ .f32 0x7F800000#32),
  StableHlo.TRef.nullary main_call16.c (constantI S_ 32 0#32),
  StableHlo.TRef.quaternary (.of main_v192 : StableHlo.TRef sig ⟨S8x4096x10, .f32⟩) main_call16.v0 main_call16.cst main_call16.c main_call16.v1_0 (fun x y u v j => (Host.argReduce reducer_argmin_f32_i32 x y u v reducesTo_S8x4096x10_S8x4096_d2 h_S_ j).1),
  StableHlo.TRef.quaternary (.of main_v192 : StableHlo.TRef sig ⟨S8x4096x10, .f32⟩) main_call16.v0 main_call16.cst main_call16.c main_call16.v1_1 (fun x y u v j => (Host.argReduce reducer_argmin_f32_i32 x y u v reducesTo_S8x4096x10_S8x4096_d2 h_S_ j).2)]

/-- The operations of the attention logits, piece 1. -/
noncomputable abbrev ops12a : List (HloOp τ sig (Elt F)) := [
  StableHlo.binary main_v5 main_arg3 main_v194 ((fun l r => Host.dotGeneral dot_S8x4096x256_S256x256_S8x4096x256_2_0_01_1_n_n none l r) : (⟨S8x4096x256, .f32⟩ : BufTy).Contents (Elt F) → (⟨S256x256, .f32⟩ : BufTy).Contents (Elt F) → (⟨S8x4096x256, .f32⟩ : BufTy).Contents (Elt F)),
  StableHlo.unary main_arg4 main_v195 (broadcastInDim S1x256 ![1] bcast_S256_S1x256_1 : (⟨S256, .f32⟩ : BufTy).Contents (Elt F) → (⟨S1x256, .f32⟩ : BufTy).Contents (Elt F)),
  StableHlo.unary main_v195 main_v196 (broadcastInDim S1x1x256 ![1, 2] bcast_S1x256_S1x1x256_1_2 : (⟨S1x256, .f32⟩ : BufTy).Contents (Elt F) → (⟨S1x1x256, .f32⟩ : BufTy).Contents (Elt F)),
  StableHlo.unary main_v196 main_v197 (broadcastInDim S8x4096x256 ![0, 1, 2] bcast_S1x1x256_S8x4096x256_0_1_2 : (⟨S1x1x256, .f32⟩ : BufTy).Contents (Elt F) → (⟨S8x4096x256, .f32⟩ : BufTy).Contents (Elt F)),
  StableHlo.binary main_v194 main_v197 main_v198 (addf : (⟨S8x4096x256, .f32⟩ : BufTy).Contents (Elt F) → (⟨S8x4096x256, .f32⟩ : BufTy).Contents (Elt F) → (⟨S8x4096x256, .f32⟩ : BufTy).Contents (Elt F)),
  StableHlo.unary main_v198 main_v199 (Host.tanh : (⟨S8x4096x256, .f32⟩ : BufTy).Contents (Elt F) → (⟨S8x4096x256, .f32⟩ : BufTy).Contents (Elt F)),
  StableHlo.binary main_v199 main_arg5 main_v200 ((fun l r => Host.dotGeneral dot_S8x4096x256_S256x1_S8x4096x1_2_0_01_1_n_n none l r) : (⟨S8x4096x256, .f32⟩ : BufTy).Contents (Elt F) → (⟨S256x1, .f32⟩ : BufTy).Contents (Elt F) → (⟨S8x4096x1, .f32⟩ : BufTy).Contents (Elt F))]

/-- The operations of the attention logits, piece 2. -/
noncomputable abbrev ops12b : List (HloOp τ sig (Elt F)) := [
  StableHlo.unary main_arg6 main_v201 (broadcastInDim S1x1 ![1] bcast_S1_S1x1_1 : (⟨S1, .f32⟩ : BufTy).Contents (Elt F) → (⟨S1x1, .f32⟩ : BufTy).Contents (Elt F)),
  StableHlo.unary main_v201 main_v202 (broadcastInDim S1x1x1 ![1, 2] bcast_S1x1_S1x1x1_1_2 : (⟨S1x1, .f32⟩ : BufTy).Contents (Elt F) → (⟨S1x1x1, .f32⟩ : BufTy).Contents (Elt F)),
  StableHlo.unary main_v202 main_v203 (broadcastInDim S8x4096x1 ![0, 1, 2] bcast_S1x1x1_S8x4096x1_0_1_2 : (⟨S1x1x1, .f32⟩ : BufTy).Contents (Elt F) → (⟨S8x4096x1, .f32⟩ : BufTy).Contents (Elt F)),
  StableHlo.binary main_v200 main_v203 main_v204 (addf : (⟨S8x4096x1, .f32⟩ : BufTy).Contents (Elt F) → (⟨S8x4096x1, .f32⟩ : BufTy).Contents (Elt F) → (⟨S8x4096x1, .f32⟩ : BufTy).Contents (Elt F)),
  StableHlo.reshape main_v204 main_v205 (rfl : (.f32 : EltTy) = .f32) shapeCasts_S8x4096x1_S8x4096]

/-- The operations of the softmax numerators. -/
noncomputable abbrev ops13 : List (HloOp τ sig (Elt F)) := [
  StableHlo.unary main_v193 main_v206 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v207 (iotaInDim S10 32 0),
  StableHlo.unary main_v207 main_v208 (broadcastInDim S1x10 ![1] bcast_S10_S1x10_1 : (⟨S10, .i32⟩ : BufTy).Contents (Elt F) → (⟨S1x10, .i32⟩ : BufTy).Contents (Elt F)),
  StableHlo.unary main_v208 main_v209 (broadcastInDim S1x1x10 ![1, 2] bcast_S1x10_S1x1x10_1_2 : (⟨S1x10, .i32⟩ : BufTy).Contents (Elt F) → (⟨S1x1x10, .i32⟩ : BufTy).Contents (Elt F)),
  StableHlo.unary main_v206 main_v210 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v209 main_v211 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v210 main_v211 main_v212 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v205 main_v213 (broadcastInDim S8x4096x1 ![0, 1] bcast_S8x4096_S8x4096x1_0_1 : (⟨S8x4096, .f32⟩ : BufTy).Contents (Elt F) → (⟨S8x4096x1, .f32⟩ : BufTy).Contents (Elt F)),
  StableHlo.nullary main_cst_37 (constant S_ .f32 0xFF800000#32),
  StableHlo.TRef.unary (.of main_cst_37 : StableHlo.TRef sig ⟨S_, .f32⟩) main_call17.v0 id,
  StableHlo.TRef.unary (.of main_v213 : StableHlo.TRef sig ⟨S8x4096x1, .f32⟩) main_call17.v1 (broadcastInDim S8x4096x10 ![0, 1, 2] bcast_S8x4096x1_S8x4096x10_0_1_2),
  StableHlo.TRef.unary main_call17.v0 main_call17.v2 (broadcastInDim S4096x10 ![] bcast_S_S4096x10),
  StableHlo.TRef.unary main_call17.v2 main_call17.v3 (broadcastInDim S8x4096x10 ![1, 2] bcast_S4096x10_S8x4096x10_1_2),
  StableHlo.TRef.ternary (.of main_v212 : StableHlo.TRef sig ⟨S8x4096x10, .i1⟩) main_call17.v1 main_call17.v3 main_call17.v4 select,
  StableHlo.nullary main_cst_38 (constant S_ .f32 0xFF800000#32),
  StableHlo.binary main_v214 main_cst_38 main_v215 ((fun x v => Host.reduce FloatOps.maximumf x v reducesTo_S8x4096x10_S8x10_d1 h_S_) : (⟨S8x4096x10, .f32⟩ : BufTy).Contents (Elt F) → (⟨S_, .f32⟩ : BufTy).Contents (Elt F) → (⟨S8x10, .f32⟩ : BufTy).Contents (Elt F)),
  StableHlo.nullary main_c_39 (constantI S_ 32 0#32),
  StableHlo.unary main_c_39 main_v216 (broadcastInDim S8x4096 ![] bcast_S_S8x4096 : (⟨S_, .i32⟩ : BufTy).Contents (Elt F) → (⟨S8x4096, .i32⟩ : BufTy).Contents (Elt F)),
  StableHlo.binary main_v193 main_v216 main_v217 (cmpi .slt : (⟨S8x4096, .i32⟩ : BufTy).Contents (Elt F) → (⟨S8x4096, .i32⟩ : BufTy).Contents (Elt F) → (⟨S8x4096, .i1⟩ : BufTy).Contents (Elt F)),
  StableHlo.nullary main_c_40 (constantI S_ 32 10#32),
  StableHlo.unary main_c_40 main_v218 (broadcastInDim S8x4096 ![] bcast_S_S8x4096 : (⟨S_, .i32⟩ : BufTy).Contents (Elt F) → (⟨S8x4096, .i32⟩ : BufTy).Contents (Elt F)),
  StableHlo.binary main_v193 main_v218 main_v219 (addi : (⟨S8x4096, .i32⟩ : BufTy).Contents (Elt F) → (⟨S8x4096, .i32⟩ : BufTy).Contents (Elt F) → (⟨S8x4096, .i32⟩ : BufTy).Contents (Elt F)),
  StableHlo.ternary main_v217 main_v219 main_v193 main_v220 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
  StableHlo.unary main_v220 main_v221 (broadcastInDim S8x4096x1 ![0, 1] bcast_S8x4096_S8x4096x1_0_1 : (⟨S8x4096, .i32⟩ : BufTy).Contents (Elt F) → (⟨S8x4096x1, .i32⟩ : BufTy).Contents (Elt F)),
  StableHlo.binary main_v215 main_v221 main_v222 ((fun x i => Host.gather gather_S8x10_S8x4096x1_S8x4096_n_1_0_0_1_2_11 x i) : (⟨S8x10, .f32⟩ : BufTy).Contents (Elt F) → (⟨S8x4096x1, .i32⟩ : BufTy).Contents (Elt F) → (⟨S8x4096, .f32⟩ : BufTy).Contents (Elt F)),
  StableHlo.binary main_v205 main_v222 main_v223 (subf : (⟨S8x4096, .f32⟩ : BufTy).Contents (Elt F) → (⟨S8x4096, .f32⟩ : BufTy).Contents (Elt F) → (⟨S8x4096, .f32⟩ : BufTy).Contents (Elt F)),
  StableHlo.unary main_v223 main_v224 (Host.exp : (⟨S8x4096, .f32⟩ : BufTy).Contents (Elt F) → (⟨S8x4096, .f32⟩ : BufTy).Contents (Elt F))]

/-- The operations of the softmax weights. -/
noncomputable abbrev ops14 : List (HloOp τ sig (Elt F)) := [
  StableHlo.unary main_v224 main_v225 (broadcastInDim S8x4096x1 ![0, 1] bcast_S8x4096_S8x4096x1_0_1 : (⟨S8x4096, .f32⟩ : BufTy).Contents (Elt F) → (⟨S8x4096x1, .f32⟩ : BufTy).Contents (Elt F)),
  StableHlo.unary main_v193 main_v226 (broadcastInDim S8x4096x1 ![0, 1] bcast_S8x4096_S8x4096x1_0_1 : (⟨S8x4096, .i32⟩ : BufTy).Contents (Elt F) → (⟨S8x4096x1, .i32⟩ : BufTy).Contents (Elt F)),
  StableHlo.nullary main_v227 (iotaInDim S10 32 0),
  StableHlo.unary main_v227 main_v228 (broadcastInDim S1x10 ![1] bcast_S10_S1x10_1 : (⟨S10, .i32⟩ : BufTy).Contents (Elt F) → (⟨S1x10, .i32⟩ : BufTy).Contents (Elt F)),
  StableHlo.unary main_v228 main_v229 (broadcastInDim S1x1x10 ![1, 2] bcast_S1x10_S1x1x10_1_2 : (⟨S1x10, .i32⟩ : BufTy).Contents (Elt F) → (⟨S1x1x10, .i32⟩ : BufTy).Contents (Elt F)),
  StableHlo.unary main_v226 main_v230 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v229 main_v231 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v230 main_v231 main_v232 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v232 main_v233 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v225 main_v234 (broadcastInDim S8x4096x1x1 ![0, 1, 3] bcast_S8x4096x1_S8x4096x1x1_0_1_3 : (⟨S8x4096x1, .f32⟩ : BufTy).Contents (Elt F) → (⟨S8x4096x1x1, .f32⟩ : BufTy).Contents (Elt F)),
  StableHlo.nullary main_cst_41 (constant S_ .f32 0x00000000#32),
  StableHlo.TRef.unary (.of main_cst_41 : StableHlo.TRef sig ⟨S_, .f32⟩) main_call18.v0 id,
  StableHlo.TRef.unary (.of main_v234 : StableHlo.TRef sig ⟨S8x4096x1x1, .f32⟩) main_call18.v1 (broadcastInDim S8x4096x10x1 ![0, 1, 2, 3] bcast_S8x4096x1x1_S8x4096x10x1_0_1_2_3),
  StableHlo.TRef.unary main_call18.v0 main_call18.v2 (broadcastInDim S4096x10x1 ![] bcast_S_S4096x10x1),
  StableHlo.TRef.unary main_call18.v2 main_call18.v3 (broadcastInDim S8x4096x10x1 ![1, 2, 3] bcast_S4096x10x1_S8x4096x10x1_1_2_3),
  StableHlo.TRef.ternary (.of main_v233 : StableHlo.TRef sig ⟨S8x4096x10x1, .i1⟩) main_call18.v1 main_call18.v3 main_call18.v4 select,
  StableHlo.nullary main_cst_42 (constant S_ .f32 0x00000000#32),
  StableHlo.binary main_v235 main_cst_42 main_v236 ((fun x v => Host.reduceAdd x v reducesTo_S8x4096x10x1_S8x10x1_d1 h_S_) : (⟨S8x4096x10x1, .f32⟩ : BufTy).Contents (Elt F) → (⟨S_, .f32⟩ : BufTy).Contents (Elt F) → (⟨S8x10x1, .f32⟩ : BufTy).Contents (Elt F)),
  StableHlo.reshape main_v236 main_v237 (rfl : (.f32 : EltTy) = .f32) shapeCasts_S8x10x1_S8x10,
  StableHlo.nullary main_c_43 (constantI S_ 32 0#32),
  StableHlo.unary main_c_43 main_v238 (broadcastInDim S8x4096 ![] bcast_S_S8x4096 : (⟨S_, .i32⟩ : BufTy).Contents (Elt F) → (⟨S8x4096, .i32⟩ : BufTy).Contents (Elt F)),
  StableHlo.binary main_v193 main_v238 main_v239 (cmpi .slt : (⟨S8x4096, .i32⟩ : BufTy).Contents (Elt F) → (⟨S8x4096, .i32⟩ : BufTy).Contents (Elt F) → (⟨S8x4096, .i1⟩ : BufTy).Contents (Elt F)),
  StableHlo.nullary main_c_44 (constantI S_ 32 10#32),
  StableHlo.unary main_c_44 main_v240 (broadcastInDim S8x4096 ![] bcast_S_S8x4096 : (⟨S_, .i32⟩ : BufTy).Contents (Elt F) → (⟨S8x4096, .i32⟩ : BufTy).Contents (Elt F)),
  StableHlo.binary main_v193 main_v240 main_v241 (addi : (⟨S8x4096, .i32⟩ : BufTy).Contents (Elt F) → (⟨S8x4096, .i32⟩ : BufTy).Contents (Elt F) → (⟨S8x4096, .i32⟩ : BufTy).Contents (Elt F)),
  StableHlo.ternary main_v239 main_v241 main_v193 main_v242 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
  StableHlo.unary main_v242 main_v243 (broadcastInDim S8x4096x1 ![0, 1] bcast_S8x4096_S8x4096x1_0_1 : (⟨S8x4096, .i32⟩ : BufTy).Contents (Elt F) → (⟨S8x4096x1, .i32⟩ : BufTy).Contents (Elt F)),
  StableHlo.binary main_v237 main_v243 main_v244 ((fun x i => Host.gather gather_S8x10_S8x4096x1_S8x4096_n_1_0_0_1_2_11 x i) : (⟨S8x10, .f32⟩ : BufTy).Contents (Elt F) → (⟨S8x4096x1, .i32⟩ : BufTy).Contents (Elt F) → (⟨S8x4096, .f32⟩ : BufTy).Contents (Elt F)),
  StableHlo.nullary main_cst_45 (constant S_ .f32 0x2B8CBCCC#32),
  StableHlo.unary main_cst_45 main_v245 (broadcastInDim S8x4096 ![] bcast_S_S8x4096 : (⟨S_, .f32⟩ : BufTy).Contents (Elt F) → (⟨S8x4096, .f32⟩ : BufTy).Contents (Elt F)),
  StableHlo.binary main_v244 main_v245 main_v246 (maximumf : (⟨S8x4096, .f32⟩ : BufTy).Contents (Elt F) → (⟨S8x4096, .f32⟩ : BufTy).Contents (Elt F) → (⟨S8x4096, .f32⟩ : BufTy).Contents (Elt F)),
  StableHlo.binary main_v224 main_v246 main_v247 (Host.divf : (⟨S8x4096, .f32⟩ : BufTy).Contents (Elt F) → (⟨S8x4096, .f32⟩ : BufTy).Contents (Elt F) → (⟨S8x4096, .f32⟩ : BufTy).Contents (Elt F)),
  StableHlo.unary main_v247 main_v248 (broadcastInDim S8x4096x1 ![0, 1] bcast_S8x4096_S8x4096x1_0_1 : (⟨S8x4096, .f32⟩ : BufTy).Contents (Elt F) → (⟨S8x4096x1, .f32⟩ : BufTy).Contents (Elt F)),
  StableHlo.unary main_v248 main_v249 (broadcastInDim S8x4096x256 ![0, 1, 2] bcast_S8x4096x1_S8x4096x256_0_1_2 : (⟨S8x4096x1, .f32⟩ : BufTy).Contents (Elt F) → (⟨S8x4096x256, .f32⟩ : BufTy).Contents (Elt F))]

/-- The operations of the regions, piece 1. -/
noncomputable abbrev ops15a : List (HloOp τ sig (Elt F)) := [
  StableHlo.binary main_v249 main_v5 main_v250 (mulf : (⟨S8x4096x256, .f32⟩ : BufTy).Contents (Elt F) → (⟨S8x4096x256, .f32⟩ : BufTy).Contents (Elt F) → (⟨S8x4096x256, .f32⟩ : BufTy).Contents (Elt F)),
  StableHlo.unary main_v193 main_v251 (broadcastInDim S8x4096x1 ![0, 1] bcast_S8x4096_S8x4096x1_0_1 : (⟨S8x4096, .i32⟩ : BufTy).Contents (Elt F) → (⟨S8x4096x1, .i32⟩ : BufTy).Contents (Elt F))]

/-- The operations of the regions, piece 2. -/
noncomputable abbrev ops15b : List (HloOp τ sig (Elt F)) := [
  StableHlo.nullary main_v252 (iotaInDim S10 32 0),
  StableHlo.unary main_v252 main_v253 (broadcastInDim S1x10 ![1] bcast_S10_S1x10_1 : (⟨S10, .i32⟩ : BufTy).Contents (Elt F) → (⟨S1x10, .i32⟩ : BufTy).Contents (Elt F)),
  StableHlo.unary main_v253 main_v254 (broadcastInDim S1x1x10 ![1, 2] bcast_S1x10_S1x1x10_1_2 : (⟨S1x10, .i32⟩ : BufTy).Contents (Elt F) → (⟨S1x1x10, .i32⟩ : BufTy).Contents (Elt F)),
  StableHlo.unary main_v251 main_v255 (broadcastInDim S8x4096x10 ![0, 1, 2] bcast_S8x4096x1_S8x4096x10_0_1_2 : (⟨S8x4096x1, .i32⟩ : BufTy).Contents (Elt F) → (⟨S8x4096x10, .i32⟩ : BufTy).Contents (Elt F)),
  StableHlo.unary main_v254 main_v256 (broadcastInDim S8x4096x10 ![0, 1, 2] bcast_S1x1x10_S8x4096x10_0_1_2 : (⟨S1x1x10, .i32⟩ : BufTy).Contents (Elt F) → (⟨S8x4096x10, .i32⟩ : BufTy).Contents (Elt F)),
  StableHlo.binary main_v255 main_v256 main_v257 (cmpi .eq : (⟨S8x4096x10, .i32⟩ : BufTy).Contents (Elt F) → (⟨S8x4096x10, .i32⟩ : BufTy).Contents (Elt F) → (⟨S8x4096x10, .i1⟩ : BufTy).Contents (Elt F)),
  StableHlo.unary main_v257 main_v258 (broadcastInDim S8x4096x10x1 ![0, 1, 2] bcast_S8x4096x10_S8x4096x10x1_0_1_2 : (⟨S8x4096x10, .i1⟩ : BufTy).Contents (Elt F) → (⟨S8x4096x10x1, .i1⟩ : BufTy).Contents (Elt F)),
  StableHlo.unary main_v250 main_v259 (broadcastInDim S8x4096x1x256 ![0, 1, 3] bcast_S8x4096x256_S8x4096x1x256_0_1_3 : (⟨S8x4096x256, .f32⟩ : BufTy).Contents (Elt F) → (⟨S8x4096x1x256, .f32⟩ : BufTy).Contents (Elt F)),
  StableHlo.nullary main_cst_46 (constant S_ .f32 0x00000000#32),
  StableHlo.TRef.unary (.of main_cst_46 : StableHlo.TRef sig ⟨S_, .f32⟩) main_call19.v0 id,
  StableHlo.TRef.unary (.of main_v258 : StableHlo.TRef sig ⟨S8x4096x10x1, .i1⟩) main_call19.v1 (broadcastInDim S8x4096x10x256 ![0, 1, 2, 3] bcast_S8x4096x10x1_S8x4096x10x256_0_1_2_3),
  StableHlo.TRef.unary (.of main_v259 : StableHlo.TRef sig ⟨S8x4096x1x256, .f32⟩) main_call19.v2 (broadcastInDim S8x4096x10x256 ![0, 1, 2, 3] bcast_S8x4096x1x256_S8x4096x10x256_0_1_2_3),
  StableHlo.TRef.unary main_call19.v0 main_call19.v3 (broadcastInDim S4096x10x256 ![] bcast_S_S4096x10x256),
  StableHlo.TRef.unary main_call19.v3 main_call19.v4 (broadcastInDim S8x4096x10x256 ![1, 2, 3] bcast_S4096x10x256_S8x4096x10x256_1_2_3),
  StableHlo.TRef.ternary main_call19.v1 main_call19.v2 main_call19.v4 main_call19.v5 select,
  StableHlo.nullary main_cst_47 (constant S_ .f32 0x00000000#32),
  StableHlo.binary main_v260 main_cst_47 main_v261 ((fun x v => Host.reduceAdd x v reducesTo_S8x4096x10x256_S8x10x256_d1 h_S_) : (⟨S8x4096x10x256, .f32⟩ : BufTy).Contents (Elt F) → (⟨S_, .f32⟩ : BufTy).Contents (Elt F) → (⟨S8x10x256, .f32⟩ : BufTy).Contents (Elt F)),
  StableHlo.nullary main_cst_48 (constant S_ .f32 0x3F800054#32)]

/-- The operations of the two batch norms, the region attention and the classifier, piece 1. -/
noncomputable abbrev ops16a : List (HloOp τ sig (Elt F)) := [
  StableHlo.unary main_cst_48 main_v262 (Host.sqrt : (⟨S_, .f32⟩ : BufTy).Contents (Elt F) → (⟨S_, .f32⟩ : BufTy).Contents (Elt F)),
  StableHlo.unary main_v262 main_v263 (id : (⟨S_, .f32⟩ : BufTy).Contents (Elt F) → (⟨S_, .f32⟩ : BufTy).Contents (Elt F)),
  StableHlo.unary main_v263 main_v264 (broadcastInDim S8x10x256 ![] bcast_S_S8x10x256 : (⟨S_, .f32⟩ : BufTy).Contents (Elt F) → (⟨S8x10x256, .f32⟩ : BufTy).Contents (Elt F)),
  StableHlo.binary main_v261 main_v264 main_v265 (Host.divf : (⟨S8x10x256, .f32⟩ : BufTy).Contents (Elt F) → (⟨S8x10x256, .f32⟩ : BufTy).Contents (Elt F) → (⟨S8x10x256, .f32⟩ : BufTy).Contents (Elt F)),
  StableHlo.unary main_arg7 main_v266 (broadcastInDim S1x256 ![1] bcast_S256_S1x256_1 : (⟨S256, .f32⟩ : BufTy).Contents (Elt F) → (⟨S1x256, .f32⟩ : BufTy).Contents (Elt F)),
  StableHlo.unary main_v266 main_v267 (broadcastInDim S1x1x256 ![1, 2] bcast_S1x256_S1x1x256_1_2 : (⟨S1x256, .f32⟩ : BufTy).Contents (Elt F) → (⟨S1x1x256, .f32⟩ : BufTy).Contents (Elt F)),
  StableHlo.unary main_v267 main_v268 (broadcastInDim S8x10x256 ![0, 1, 2] bcast_S1x1x256_S8x10x256_0_1_2 : (⟨S1x1x256, .f32⟩ : BufTy).Contents (Elt F) → (⟨S8x10x256, .f32⟩ : BufTy).Contents (Elt F)),
  StableHlo.binary main_v265 main_v268 main_v269 (mulf : (⟨S8x10x256, .f32⟩ : BufTy).Contents (Elt F) → (⟨S8x10x256, .f32⟩ : BufTy).Contents (Elt F) → (⟨S8x10x256, .f32⟩ : BufTy).Contents (Elt F)),
  StableHlo.unary main_arg8 main_v270 (broadcastInDim S1x256 ![1] bcast_S256_S1x256_1 : (⟨S256, .f32⟩ : BufTy).Contents (Elt F) → (⟨S1x256, .f32⟩ : BufTy).Contents (Elt F)),
  StableHlo.unary main_v270 main_v271 (broadcastInDim S1x1x256 ![1, 2] bcast_S1x256_S1x1x256_1_2 : (⟨S1x256, .f32⟩ : BufTy).Contents (Elt F) → (⟨S1x1x256, .f32⟩ : BufTy).Contents (Elt F)),
  StableHlo.unary main_v271 main_v272 (broadcastInDim S8x10x256 ![0, 1, 2] bcast_S1x1x256_S8x10x256_0_1_2 : (⟨S1x1x256, .f32⟩ : BufTy).Contents (Elt F) → (⟨S8x10x256, .f32⟩ : BufTy).Contents (Elt F)),
  StableHlo.binary main_v269 main_v272 main_v273 (addf : (⟨S8x10x256, .f32⟩ : BufTy).Contents (Elt F) → (⟨S8x10x256, .f32⟩ : BufTy).Contents (Elt F) → (⟨S8x10x256, .f32⟩ : BufTy).Contents (Elt F)),
  StableHlo.binary main_v273 main_arg9 main_v274 ((fun l r => Host.dotGeneral dot_S8x10x256_S256x256_S8x10x256_2_0_01_1_n_n none l r) : (⟨S8x10x256, .f32⟩ : BufTy).Contents (Elt F) → (⟨S256x256, .f32⟩ : BufTy).Contents (Elt F) → (⟨S8x10x256, .f32⟩ : BufTy).Contents (Elt F)),
  StableHlo.unary main_arg10 main_v275 (broadcastInDim S1x256 ![1] bcast_S256_S1x256_1 : (⟨S256, .f32⟩ : BufTy).Contents (Elt F) → (⟨S1x256, .f32⟩ : BufTy).Contents (Elt F)),
  StableHlo.unary main_v275 main_v276 (broadcastInDim S1x1x256 ![1, 2] bcast_S1x256_S1x1x256_1_2 : (⟨S1x256, .f32⟩ : BufTy).Contents (Elt F) → (⟨S1x1x256, .f32⟩ : BufTy).Contents (Elt F)),
  StableHlo.unary main_v276 main_v277 (broadcastInDim S8x10x256 ![0, 1, 2] bcast_S1x1x256_S8x10x256_0_1_2 : (⟨S1x1x256, .f32⟩ : BufTy).Contents (Elt F) → (⟨S8x10x256, .f32⟩ : BufTy).Contents (Elt F)),
  StableHlo.binary main_v274 main_v277 main_v278 (addf : (⟨S8x10x256, .f32⟩ : BufTy).Contents (Elt F) → (⟨S8x10x256, .f32⟩ : BufTy).Contents (Elt F) → (⟨S8x10x256, .f32⟩ : BufTy).Contents (Elt F)),
  StableHlo.binary main_v278 main_arg11 main_v279 ((fun l r => Host.dotGeneral dot_S8x10x256_S256x256_S8x10x256_2_0_01_1_n_n none l r) : (⟨S8x10x256, .f32⟩ : BufTy).Contents (Elt F) → (⟨S256x256, .f32⟩ : BufTy).Contents (Elt F) → (⟨S8x10x256, .f32⟩ : BufTy).Contents (Elt F)),
  StableHlo.unary main_arg12 main_v280 (broadcastInDim S1x1x256 ![2] bcast_S256_S1x1x256_2 : (⟨S256, .f32⟩ : BufTy).Contents (Elt F) → (⟨S1x1x256, .f32⟩ : BufTy).Contents (Elt F)),
  StableHlo.unary main_v280 main_v281 (broadcastInDim S8x10x256 ![0, 1, 2] bcast_S1x1x256_S8x10x256_0_1_2 : (⟨S1x1x256, .f32⟩ : BufTy).Contents (Elt F) → (⟨S8x10x256, .f32⟩ : BufTy).Contents (Elt F)),
  StableHlo.binary main_v279 main_v281 main_v282 (addf : (⟨S8x10x256, .f32⟩ : BufTy).Contents (Elt F) → (⟨S8x10x256, .f32⟩ : BufTy).Contents (Elt F) → (⟨S8x10x256, .f32⟩ : BufTy).Contents (Elt F)),
  StableHlo.unary main_v282 main_v283 (Host.tanh : (⟨S8x10x256, .f32⟩ : BufTy).Contents (Elt F) → (⟨S8x10x256, .f32⟩ : BufTy).Contents (Elt F)),
  StableHlo.binary main_v283 main_arg13 main_v284 ((fun l r => Host.dotGeneral dot_S8x10x256_S256x1_S8x10x1_2_0_01_1_n_n none l r) : (⟨S8x10x256, .f32⟩ : BufTy).Contents (Elt F) → (⟨S256x1, .f32⟩ : BufTy).Contents (Elt F) → (⟨S8x10x1, .f32⟩ : BufTy).Contents (Elt F)),
  StableHlo.unary main_arg14 main_v285 (broadcastInDim S1x1x1 ![2] bcast_S1_S1x1x1_2 : (⟨S1, .f32⟩ : BufTy).Contents (Elt F) → (⟨S1x1x1, .f32⟩ : BufTy).Contents (Elt F)),
  StableHlo.unary main_v285 main_v286 (broadcastInDim S8x10x1 ![0, 1, 2] bcast_S1x1x1_S8x10x1_0_1_2 : (⟨S1x1x1, .f32⟩ : BufTy).Contents (Elt F) → (⟨S8x10x1, .f32⟩ : BufTy).Contents (Elt F)),
  StableHlo.binary main_v284 main_v286 main_v287 (addf : (⟨S8x10x1, .f32⟩ : BufTy).Contents (Elt F) → (⟨S8x10x1, .f32⟩ : BufTy).Contents (Elt F) → (⟨S8x10x1, .f32⟩ : BufTy).Contents (Elt F)),
  StableHlo.nullary main_cst_49 (constant S_ .f32 0xFF800000#32),
  StableHlo.binary main_v287 main_cst_49 main_v288 ((fun x v => Host.reduce FloatOps.maximumf x v reducesTo_S8x10x1_S8x1_d1 h_S_) : (⟨S8x10x1, .f32⟩ : BufTy).Contents (Elt F) → (⟨S_, .f32⟩ : BufTy).Contents (Elt F) → (⟨S8x1, .f32⟩ : BufTy).Contents (Elt F)),
  StableHlo.nullary main_cst_50 (constant S_ .f32 0xFF800000#32),
  StableHlo.unary main_cst_50 main_v289 (broadcastInDim S8x1 ![] bcast_S_S8x1 : (⟨S_, .f32⟩ : BufTy).Contents (Elt F) → (⟨S8x1, .f32⟩ : BufTy).Contents (Elt F)),
  StableHlo.binary main_v289 main_v288 main_v290 (maximumf : (⟨S8x1, .f32⟩ : BufTy).Contents (Elt F) → (⟨S8x1, .f32⟩ : BufTy).Contents (Elt F) → (⟨S8x1, .f32⟩ : BufTy).Contents (Elt F)),
  StableHlo.unary main_v290 main_v291 (broadcastInDim S8x1x1 ![0, 2] bcast_S8x1_S8x1x1_0_2 : (⟨S8x1, .f32⟩ : BufTy).Contents (Elt F) → (⟨S8x1x1, .f32⟩ : BufTy).Contents (Elt F)),
  StableHlo.unary main_v291 main_v292 (broadcastInDim S8x10x1 ![0, 1, 2] bcast_S8x1x1_S8x10x1_0_1_2 : (⟨S8x1x1, .f32⟩ : BufTy).Contents (Elt F) → (⟨S8x10x1, .f32⟩ : BufTy).Contents (Elt F)),
  StableHlo.binary main_v287 main_v292 main_v293 (subf : (⟨S8x10x1, .f32⟩ : BufTy).Contents (Elt F) → (⟨S8x10x1, .f32⟩ : BufTy).Contents (Elt F) → (⟨S8x10x1, .f32⟩ : BufTy).Contents (Elt F)),
  StableHlo.unary main_v293 main_v294 (Host.exp : (⟨S8x10x1, .f32⟩ : BufTy).Contents (Elt F) → (⟨S8x10x1, .f32⟩ : BufTy).Contents (Elt F)),
  StableHlo.nullary main_cst_51 (constant S_ .f32 0x00000000#32),
  StableHlo.binary main_v294 main_cst_51 main_v295 ((fun x v => Host.reduceAdd x v reducesTo_S8x10x1_S8x1_d1 h_S_) : (⟨S8x10x1, .f32⟩ : BufTy).Contents (Elt F) → (⟨S_, .f32⟩ : BufTy).Contents (Elt F) → (⟨S8x1, .f32⟩ : BufTy).Contents (Elt F)),
  StableHlo.unary main_v295 main_v296 (broadcastInDim S8x1x1 ![0, 2] bcast_S8x1_S8x1x1_0_2 : (⟨S8x1, .f32⟩ : BufTy).Contents (Elt F) → (⟨S8x1x1, .f32⟩ : BufTy).Contents (Elt F)),
  StableHlo.unary main_v296 main_v297 (broadcastInDim S8x10x1 ![0, 1, 2] bcast_S8x1x1_S8x10x1_0_1_2 : (⟨S8x1x1, .f32⟩ : BufTy).Contents (Elt F) → (⟨S8x10x1, .f32⟩ : BufTy).Contents (Elt F)),
  StableHlo.binary main_v294 main_v297 main_v298 (Host.divf : (⟨S8x10x1, .f32⟩ : BufTy).Contents (Elt F) → (⟨S8x10x1, .f32⟩ : BufTy).Contents (Elt F) → (⟨S8x10x1, .f32⟩ : BufTy).Contents (Elt F)),
  StableHlo.unary main_v298 main_v299 (broadcastInDim S8x10x256 ![0, 1, 2] bcast_S8x10x1_S8x10x256_0_1_2 : (⟨S8x10x1, .f32⟩ : BufTy).Contents (Elt F) → (⟨S8x10x256, .f32⟩ : BufTy).Contents (Elt F)),
  StableHlo.binary main_v299 main_v278 main_v300 (mulf : (⟨S8x10x256, .f32⟩ : BufTy).Contents (Elt F) → (⟨S8x10x256, .f32⟩ : BufTy).Contents (Elt F) → (⟨S8x10x256, .f32⟩ : BufTy).Contents (Elt F)),
  StableHlo.nullary main_cst_52 (constant S_ .f32 0x00000000#32),
  StableHlo.binary main_v300 main_cst_52 main_v301 ((fun x v => Host.reduceAdd x v reducesTo_S8x10x256_S8x256_d1 h_S_) : (⟨S8x10x256, .f32⟩ : BufTy).Contents (Elt F) → (⟨S_, .f32⟩ : BufTy).Contents (Elt F) → (⟨S8x256, .f32⟩ : BufTy).Contents (Elt F)),
  StableHlo.nullary main_cst_53 (constant S_ .f32 0x3F800054#32),
  StableHlo.unary main_cst_53 main_v302 (Host.sqrt : (⟨S_, .f32⟩ : BufTy).Contents (Elt F) → (⟨S_, .f32⟩ : BufTy).Contents (Elt F)),
  StableHlo.unary main_v302 main_v303 (id : (⟨S_, .f32⟩ : BufTy).Contents (Elt F) → (⟨S_, .f32⟩ : BufTy).Contents (Elt F))]

/-- The operations of the two batch norms, the region attention and the classifier, piece 2. -/
noncomputable abbrev ops16b : List (HloOp τ sig (Elt F)) := [
  StableHlo.unary main_v303 main_v304 (broadcastInDim S8x256 ![] bcast_S_S8x256 : (⟨S_, .f32⟩ : BufTy).Contents (Elt F) → (⟨S8x256, .f32⟩ : BufTy).Contents (Elt F)),
  StableHlo.binary main_v301 main_v304 main_v305 (Host.divf : (⟨S8x256, .f32⟩ : BufTy).Contents (Elt F) → (⟨S8x256, .f32⟩ : BufTy).Contents (Elt F) → (⟨S8x256, .f32⟩ : BufTy).Contents (Elt F)),
  StableHlo.unary main_arg15 main_v306 (broadcastInDim S1x256 ![1] bcast_S256_S1x256_1 : (⟨S256, .f32⟩ : BufTy).Contents (Elt F) → (⟨S1x256, .f32⟩ : BufTy).Contents (Elt F)),
  StableHlo.unary main_v306 main_v307 (broadcastInDim S8x256 ![0, 1] bcast_S1x256_S8x256_0_1 : (⟨S1x256, .f32⟩ : BufTy).Contents (Elt F) → (⟨S8x256, .f32⟩ : BufTy).Contents (Elt F)),
  StableHlo.binary main_v305 main_v307 main_v308 (mulf : (⟨S8x256, .f32⟩ : BufTy).Contents (Elt F) → (⟨S8x256, .f32⟩ : BufTy).Contents (Elt F) → (⟨S8x256, .f32⟩ : BufTy).Contents (Elt F)),
  StableHlo.unary main_arg16 main_v309 (broadcastInDim S1x256 ![1] bcast_S256_S1x256_1 : (⟨S256, .f32⟩ : BufTy).Contents (Elt F) → (⟨S1x256, .f32⟩ : BufTy).Contents (Elt F)),
  StableHlo.unary main_v309 main_v310 (broadcastInDim S8x256 ![0, 1] bcast_S1x256_S8x256_0_1 : (⟨S1x256, .f32⟩ : BufTy).Contents (Elt F) → (⟨S8x256, .f32⟩ : BufTy).Contents (Elt F)),
  StableHlo.binary main_v308 main_v310 main_v311 (addf : (⟨S8x256, .f32⟩ : BufTy).Contents (Elt F) → (⟨S8x256, .f32⟩ : BufTy).Contents (Elt F) → (⟨S8x256, .f32⟩ : BufTy).Contents (Elt F)),
  StableHlo.binary main_v311 main_arg17 main_v312 ((fun l r => Host.dotGeneral dot_S8x256_S256x2_S8x2_1_0_0_1_n_n none l r) : (⟨S8x256, .f32⟩ : BufTy).Contents (Elt F) → (⟨S256x2, .f32⟩ : BufTy).Contents (Elt F) → (⟨S8x2, .f32⟩ : BufTy).Contents (Elt F)),
  StableHlo.unary main_arg18 main_v313 (broadcastInDim S1x2 ![1] bcast_S2_S1x2_1 : (⟨S2, .f32⟩ : BufTy).Contents (Elt F) → (⟨S1x2, .f32⟩ : BufTy).Contents (Elt F)),
  StableHlo.unary main_v313 main_v314 (broadcastInDim S8x2 ![0, 1] bcast_S1x2_S8x2_0_1 : (⟨S1x2, .f32⟩ : BufTy).Contents (Elt F) → (⟨S8x2, .f32⟩ : BufTy).Contents (Elt F)),
  StableHlo.binary main_v312 main_v314 main_v315 (addf : (⟨S8x2, .f32⟩ : BufTy).Contents (Elt F) → (⟨S8x2, .f32⟩ : BufTy).Contents (Elt F) → (⟨S8x2, .f32⟩ : BufTy).Contents (Elt F))]

/-- Window 0 of the reference is a straight line of operations. -/
theorem part0_seq (d : Dev nD) : main_part0 (F := F) d = StableHlo.seq (ops0 ++ (ops1 ++ (ops2 ++ (ops3a)))) := rfl

/-- Window 1 of the reference is a straight line of operations. -/
theorem part1_seq (d : Dev nD) : main_part1 (F := F) d = StableHlo.seq (ops3b ++ (ops4 ++ (ops5 ++ (ops6a)))) := rfl

/-- Window 2 of the reference is a straight line of operations. -/
theorem part2_seq (d : Dev nD) : main_part2 (F := F) d = StableHlo.seq (ops6b ++ (ops7 ++ (ops8a))) := rfl

/-- Window 3 of the reference is a straight line of operations. -/
theorem part3_seq (d : Dev nD) : main_part3 (F := F) d = StableHlo.seq (ops8b ++ (ops9 ++ (ops10 ++ (ops11 ++ (ops12a))))) := rfl

/-- Window 4 of the reference is a straight line of operations. -/
theorem part4_seq (d : Dev nD) : main_part4 (F := F) d = StableHlo.seq (ops12b ++ (ops13 ++ (ops14 ++ (ops15a)))) := rfl

/-- Window 5 of the reference is a straight line of operations. -/
theorem part5_seq (d : Dev nD) : main_part5 (F := F) d = StableHlo.seq (ops15b ++ (ops16a)) := rfl

/-- Window 6 of the reference is a straight line of operations. -/
theorem part6_seq (d : Dev nD) : main_part6 (F := F) d = StableHlo.seq (ops16b) := rfl

end Cert.ReferenceIdeal.Own
-- ==== Proof.RefRun.lean ====
module

public import proofs.«01_k».proof.Proof.RefOps
public import Idealize.ShloMosaic.Lib.Quiescent

@[expose] public section

set_option maxRecDepth 16384

namespace Cert.ReferenceIdeal.Own

open Idealize.ShloMosaic Idealize.SL.Sem
open Facts₀ Facts

variable {F : FTy → Type} [FloatOps F]

/-- Every operation of a list writes exactly one buffer, of an index from `lo` on. -/
def From (lo : ℕ) (ops : List (HloOp τ sig (Elt F))) : Prop :=
  ops.Forall fun op => ∃ y : Ref sig .tc, op.writes = {Proc.devRef .tc y} ∧ lo ≤ y.idx.val

/-- A buffer of a smaller index keeps its contents through such a list. -/
theorem From.keeps {lo : ℕ} {ops : List (HloOp τ sig (Elt F))} (h : From lo ops) (b : Ref sig .tc) (hb : b.idx.val < lo)
    (V : Valuation τ sig (Elt F)) : StableHlo.after ops V (Proc.devRef .tc b) = V (Proc.devRef .tc b) :=
  StableHlo.after_of_forall_not_mem ops V fun op hop hmem => by
    obtain ⟨y, hy, hle⟩ := (List.forall_iff_forall_mem.mp h) op hop
    rw [hy, Finset.mem_singleton] at hmem
    rw [Proc.devRef_injective _ hmem] at hb
    exact absurd hle (by omega)

/-- Two such lists in a row are such a list. -/
theorem From.append {lo : ℕ} {l₁ l₂ : List (HloOp τ sig (Elt F))} (h₁ : From lo l₁) (h₂ : From lo l₂) : From lo (l₁ ++ l₂) := by
  rw [From, List.forall_iff_forall_mem] at *
  intro op hop
  rcases List.mem_append.mp hop with h | h
  exacts [h₁ op h, h₂ op h]

/-- Such a list is one for any smaller bound. -/
theorem From.mono {lo lo' : ℕ} {l : List (HloOp τ sig (Elt F))} (h : From lo l) (hl : lo' ≤ lo) : From lo' l := by
  rw [From, List.forall_iff_forall_mem] at *
  intro op hop
  obtain ⟨y, hy, hle⟩ := h op hop
  exact ⟨y, hy, hl.trans hle⟩

/-- The contents after two lists in a row are those after the second from those after the first. -/
theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- A list whose operations touch the core's buffers only and determine what they write. -/
def Plain (ops : List (HloOp τ sig (Elt F))) : Prop :=
  (∀ op ∈ ops, op.bufs ⊆ StableHlo.tcRefs τ sig) ∧ ∀ op ∈ ops, op.fresh = ∅

/-- Two such lists in a row are such a list. -/
theorem Plain.append {l₁ l₂ : List (HloOp τ sig (Elt F))} (h₁ : Plain l₁) (h₂ : Plain l₂) : Plain (l₁ ++ l₂) :=
  ⟨fun op hop => (List.mem_append.mp hop).elim (h₁.1 op) (h₂.1 op),
   fun op hop => (List.mem_append.mp hop).elim (h₁.2 op) (h₂.2 op)⟩

/-- Where the operations of `ops0` write. -/
theorem ops0_from : From 19 (ops0 (F := F)) :=
  ⟨⟨main_c, rfl, by decide⟩, ⟨main_c_0, rfl, by decide⟩, ⟨main_v0, rfl, by decide⟩, ⟨main_v1, rfl, by decide⟩, ⟨main_v2, rfl, by decide⟩, ⟨main_v3, rfl, by decide⟩, ⟨main_v4, rfl, by decide⟩, ⟨main_call0_cst, rfl, by decide⟩, ⟨main_call0_v0, rfl, by decide⟩, ⟨main_v5, rfl, by decide⟩, ⟨main_c_1, rfl, by decide⟩, ⟨main_v6, rfl, by decide⟩, ⟨main_v7, rfl, by decide⟩, ⟨main_v8, rfl, by decide⟩, ⟨main_v9, rfl, by decide⟩, ⟨main_v10, rfl, by decide⟩⟩

/-- What the operations of `ops0` touch. -/
theorem ops0_plain : Plain (ops0 (F := F)) :=
  ⟨List.forall_iff_forall_mem.mp ⟨StableHlo.nullary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩,
   List.forall_iff_forall_mem.mp ⟨rfl, rfl, rfl, rfl, rfl, rfl, rfl, rfl, rfl, rfl, rfl, rfl, rfl, rfl, rfl, rfl⟩⟩

/-- Where the operations of `ops1` write. -/
theorem ops1_from : From 35 (ops1 (F := F)) :=
  ⟨⟨main_v11, rfl, by decide⟩, ⟨main_v12, rfl, by decide⟩, ⟨main_v13, rfl, by decide⟩, ⟨main_v14, rfl, by decide⟩, ⟨main_v15, rfl, by decide⟩, ⟨main_v16, rfl, by decide⟩, ⟨main_cst, rfl, by decide⟩, ⟨main_v17, rfl, by decide⟩, ⟨main_call1_v0, rfl, by decide⟩, ⟨main_call1_cst, rfl, by decide⟩, ⟨main_call1_c, rfl, by decide⟩, ⟨main_call1_v1_0, rfl, by decide⟩, ⟨main_v18, rfl, by decide⟩⟩

/-- What the operations of `ops1` touch. -/
theorem ops1_plain : Plain (ops1 (F := F)) :=
  ⟨List.forall_iff_forall_mem.mp ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩,
   List.forall_iff_forall_mem.mp ⟨rfl, rfl, rfl, rfl, rfl, rfl, rfl, rfl, rfl, rfl, rfl, rfl, rfl⟩⟩

/-- Where the operations of `ops2` write. -/
theorem ops2_from : From 48 (ops2 (F := F)) :=
  ⟨⟨main_v19, rfl, by decide⟩, ⟨main_v20, rfl, by decide⟩, ⟨main_v21, rfl, by decide⟩, ⟨main_v22, rfl, by decide⟩, ⟨main_v23, rfl, by decide⟩, ⟨main_v24, rfl, by decide⟩, ⟨main_v25, rfl, by decide⟩, ⟨main_v26, rfl, by decide⟩, ⟨main_v27, rfl, by decide⟩, ⟨main_cst_2, rfl, by decide⟩, ⟨main_call2_v0, rfl, by decide⟩, ⟨main_call2_v1, rfl, by decide⟩, ⟨main_call2_v2, rfl, by decide⟩, ⟨main_call2_v3, rfl, by decide⟩, ⟨main_call2_v4, rfl, by decide⟩, ⟨main_v28, rfl, by decide⟩, ⟨main_cst_3, rfl, by decide⟩, ⟨main_v29, rfl, by decide⟩, ⟨main_cst_4, rfl, by decide⟩, ⟨main_v30, rfl, by decide⟩, ⟨main_v31, rfl, by decide⟩, ⟨main_v32, rfl, by decide⟩, ⟨main_v33, rfl, by decide⟩, ⟨main_v34, rfl, by decide⟩, ⟨main_v35, rfl, by decide⟩, ⟨main_v36, rfl, by decide⟩, ⟨main_v37, rfl, by decide⟩, ⟨main_v38, rfl, by decide⟩, ⟨main_v39, rfl, by decide⟩, ⟨main_cst_5, rfl, by decide⟩, ⟨main_call3_v0, rfl, by decide⟩, ⟨main_call3_v1, rfl, by decide⟩, ⟨main_call3_v2, rfl, by decide⟩, ⟨main_call3_v3, rfl, by decide⟩, ⟨main_call3_v4, rfl, by decide⟩, ⟨main_v40, rfl, by decide⟩, ⟨main_cst_6, rfl, by decide⟩, ⟨main_v41, rfl, by decide⟩, ⟨main_cst_7, rfl, by decide⟩, ⟨main_v42, rfl, by decide⟩, ⟨main_v43, rfl, by decide⟩, ⟨main_v44, rfl, by decide⟩, ⟨main_v45, rfl, by decide⟩⟩

/-- What the operations of `ops2` touch. -/
theorem ops2_plain : Plain (ops2 (F := F)) :=
  ⟨List.forall_iff_forall_mem.mp ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops3a` write. -/
theorem ops3a_from : From 91 (ops3a (F := F)) :=
  ⟨⟨main_v46, rfl, by decide⟩, ⟨main_v47, rfl, by decide⟩, ⟨main_v48, rfl, by decide⟩, ⟨main_v49, rfl, by decide⟩⟩

/-- What the operations of `ops3a` touch. -/
theorem ops3a_plain : Plain (ops3a (F := F)) :=
  ⟨List.forall_iff_forall_mem.mp ⟨StableHlo.unary_bufs_sub .., StableHlo.unary_bufs_sub .., StableHlo.unary_bufs_sub .., StableHlo.unary_bufs_sub ..⟩,
   List.forall_iff_forall_mem.mp ⟨rfl, rfl, rfl, rfl⟩⟩

/-- Where the operations of `ops3b` write. -/
theorem ops3b_from : From 91 (ops3b (F := F)) :=
  ⟨⟨main_v50, rfl, by decide⟩, ⟨main_v51, rfl, by decide⟩, ⟨main_cst_8, rfl, by decide⟩, ⟨main_v52, rfl, by decide⟩, ⟨main_call4_v0, rfl, by decide⟩, ⟨main_call4_cst, rfl, by decide⟩, ⟨main_call4_c, rfl, by decide⟩, ⟨main_call4_v1_0, rfl, by decide⟩, ⟨main_v53, rfl, by decide⟩⟩

/-- What the operations of `ops3b` touch. -/
theorem ops3b_plain : Plain (ops3b (F := F)) :=
  ⟨List.forall_iff_forall_mem.mp ⟨StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩,
   List.forall_iff_forall_mem.mp ⟨rfl, rfl, rfl, rfl, rfl, rfl, rfl, rfl, rfl⟩⟩

/-- Where the operations of `ops4` write. -/
theorem ops4_from : From 104 (ops4 (F := F)) :=
  ⟨⟨main_v54, rfl, by decide⟩, ⟨main_v55, rfl, by decide⟩, ⟨main_v56, rfl, by decide⟩, ⟨main_v57, rfl, by decide⟩, ⟨main_v58, rfl, by decide⟩, ⟨main_v59, rfl, by decide⟩, ⟨main_v60, rfl, by decide⟩, ⟨main_v61, rfl, by decide⟩, ⟨main_v62, rfl, by decide⟩, ⟨main_cst_9, rfl, by decide⟩, ⟨main_call5_v0, rfl, by decide⟩, ⟨main_call5_v1, rfl, by decide⟩, ⟨main_call5_v2, rfl, by decide⟩, ⟨main_call5_v3, rfl, by decide⟩, ⟨main_call5_v4, rfl, by decide⟩, ⟨main_v63, rfl, by decide⟩, ⟨main_cst_10, rfl, by decide⟩, ⟨main_v64, rfl, by decide⟩, ⟨main_cst_11, rfl, by decide⟩, ⟨main_v65, rfl, by decide⟩, ⟨main_v66, rfl, by decide⟩, ⟨main_v67, rfl, by decide⟩, ⟨main_v68, rfl, by decide⟩, ⟨main_v69, rfl, by decide⟩, ⟨main_v70, rfl, by decide⟩, ⟨main_v71, rfl, by decide⟩, ⟨main_v72, rfl, by decide⟩, ⟨main_v73, rfl, by decide⟩, ⟨main_v74, rfl, by decide⟩, ⟨main_cst_12, rfl, by decide⟩, ⟨main_call6_v0, rfl, by decide⟩, ⟨main_call6_v1, rfl, by decide⟩, ⟨main_call6_v2, rfl, by decide⟩, ⟨main_call6_v3, rfl, by decide⟩, ⟨main_call6_v4, rfl, by decide⟩, ⟨main_v75, rfl, by decide⟩, ⟨main_cst_13, rfl, by decide⟩, ⟨main_v76, rfl, by decide⟩, ⟨main_cst_14, rfl, by decide⟩, ⟨main_v77, rfl, by decide⟩, ⟨main_v78, rfl, by decide⟩, ⟨main_v79, rfl, by decide⟩, ⟨main_v80, rfl, by decide⟩⟩

/-- What the operations of `ops4` touch. -/
theorem ops4_plain : Plain (ops4 (F := F)) :=
  ⟨List.forall_iff_forall_mem.mp ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops5` write. -/
theorem ops5_from : From 147 (ops5 (F := F)) :=
  ⟨⟨main_v81, rfl, by decide⟩, ⟨main_v82, rfl, by decide⟩, ⟨main_v83, rfl, by decide⟩, ⟨main_v84, rfl, by decide⟩, ⟨main_v85, rfl, by decide⟩, ⟨main_v86, rfl, by decide⟩, ⟨main_cst_15, rfl, by decide⟩, ⟨main_v87, rfl, by decide⟩, ⟨main_call7_v0, rfl, by decide⟩, ⟨main_call7_cst, rfl, by decide⟩, ⟨main_call7_c, rfl, by decide⟩, ⟨main_call7_v1_0, rfl, by decide⟩, ⟨main_v88, rfl, by decide⟩⟩

/-- What the operations of `ops5` touch. -/
theorem ops5_plain : Plain (ops5 (F := F)) :=
  ⟨List.forall_iff_forall_mem.mp ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩,
   List.forall_iff_forall_mem.mp ⟨rfl, rfl, rfl, rfl, rfl, rfl, rfl, rfl, rfl, rfl, rfl, rfl, rfl⟩⟩

/-- Where the operations of `ops6a` write. -/
theorem ops6a_from : From 160 (ops6a (F := F)) :=
  ⟨⟨main_v89, rfl, by decide⟩, ⟨main_v90, rfl, by decide⟩, ⟨main_v91, rfl, by decide⟩, ⟨main_v92, rfl, by decide⟩, ⟨main_v93, rfl, by decide⟩, ⟨main_v94, rfl, by decide⟩, ⟨main_v95, rfl, by decide⟩, ⟨main_v96, rfl, by decide⟩, ⟨main_v97, rfl, by decide⟩, ⟨main_cst_16, rfl, by decide⟩, ⟨main_call8_v0, rfl, by decide⟩, ⟨main_call8_v1, rfl, by decide⟩, ⟨main_call8_v2, rfl, by decide⟩, ⟨main_call8_v3, rfl, by decide⟩, ⟨main_call8_v4, rfl, by decide⟩, ⟨main_v98, rfl, by decide⟩, ⟨main_cst_17, rfl, by decide⟩, ⟨main_v99, rfl, by decide⟩⟩

/-- What the operations of `ops6a` touch. -/
theorem ops6a_plain : Plain (ops6a (F := F)) :=
  ⟨List.forall_iff_forall_mem.mp ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub ..⟩,
   List.forall_iff_forall_mem.mp ⟨rfl, rfl, rfl, rfl, rfl, rfl, rfl, rfl, rfl, rfl, rfl, rfl, rfl, rfl, rfl, rfl, rfl, rfl⟩⟩

/-- Where the operations of `ops6b` write. -/
theorem ops6b_from : From 160 (ops6b (F := F)) :=
  ⟨⟨main_cst_18, rfl, by decide⟩, ⟨main_v100, rfl, by decide⟩, ⟨main_v101, rfl, by decide⟩, ⟨main_v102, rfl, by decide⟩, ⟨main_v103, rfl, by decide⟩, ⟨main_v104, rfl, by decide⟩, ⟨main_v105, rfl, by decide⟩, ⟨main_v106, rfl, by decide⟩, ⟨main_v107, rfl, by decide⟩, ⟨main_v108, rfl, by decide⟩, ⟨main_v109, rfl, by decide⟩, ⟨main_cst_19, rfl, by decide⟩, ⟨main_call9_v0, rfl, by decide⟩, ⟨main_call9_v1, rfl, by decide⟩, ⟨main_call9_v2, rfl, by decide⟩, ⟨main_call9_v3, rfl, by decide⟩, ⟨main_call9_v4, rfl, by decide⟩, ⟨main_v110, rfl, by decide⟩, ⟨main_cst_20, rfl, by decide⟩, ⟨main_v111, rfl, by decide⟩, ⟨main_cst_21, rfl, by decide⟩, ⟨main_v112, rfl, by decide⟩, ⟨main_v113, rfl, by decide⟩, ⟨main_v114, rfl, by decide⟩, ⟨main_v115, rfl, by decide⟩⟩

/-- What the operations of `ops6b` touch. -/
theorem ops6b_plain : Plain (ops6b (F := F)) :=
  ⟨List.forall_iff_forall_mem.mp ⟨StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl⟩⟩

/-- Where the operations of `ops7` write. -/
theorem ops7_from : From 203 (ops7 (F := F)) :=
  ⟨⟨main_v116, rfl, by decide⟩, ⟨main_v117, rfl, by decide⟩, ⟨main_v118, rfl, by decide⟩, ⟨main_v119, rfl, by decide⟩, ⟨main_v120, rfl, by decide⟩, ⟨main_v121, rfl, by decide⟩, ⟨main_cst_22, rfl, by decide⟩, ⟨main_v122, rfl, by decide⟩, ⟨main_call10_v0, rfl, by decide⟩, ⟨main_call10_cst, rfl, by decide⟩, ⟨main_call10_c, rfl, by decide⟩, ⟨main_call10_v1_0, rfl, by decide⟩, ⟨main_v123, rfl, by decide⟩⟩

/-- What the operations of `ops7` touch. -/
theorem ops7_plain : Plain (ops7 (F := F)) :=
  ⟨List.forall_iff_forall_mem.mp ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩,
   List.forall_iff_forall_mem.mp ⟨rfl, rfl, rfl, rfl, rfl, rfl, rfl, rfl, rfl, rfl, rfl, rfl, rfl⟩⟩

/-- Where the operations of `ops8a` write. -/
theorem ops8a_from : From 216 (ops8a (F := F)) :=
  ⟨⟨main_v124, rfl, by decide⟩, ⟨main_v125, rfl, by decide⟩, ⟨main_v126, rfl, by decide⟩, ⟨main_v127, rfl, by decide⟩, ⟨main_v128, rfl, by decide⟩, ⟨main_v129, rfl, by decide⟩, ⟨main_v130, rfl, by decide⟩, ⟨main_v131, rfl, by decide⟩, ⟨main_v132, rfl, by decide⟩, ⟨main_cst_23, rfl, by decide⟩, ⟨main_call11_v0, rfl, by decide⟩, ⟨main_call11_v1, rfl, by decide⟩, ⟨main_call11_v2, rfl, by decide⟩, ⟨main_call11_v3, rfl, by decide⟩, ⟨main_call11_v4, rfl, by decide⟩, ⟨main_v133, rfl, by decide⟩, ⟨main_cst_24, rfl, by decide⟩, ⟨main_v134, rfl, by decide⟩, ⟨main_cst_25, rfl, by decide⟩, ⟨main_v135, rfl, by decide⟩, ⟨main_v136, rfl, by decide⟩, ⟨main_v137, rfl, by decide⟩, ⟨main_v138, rfl, by decide⟩, ⟨main_v139, rfl, by decide⟩, ⟨main_v140, rfl, by decide⟩, ⟨main_v141, rfl, by decide⟩, ⟨main_v142, rfl, by decide⟩, ⟨main_v143, rfl, by decide⟩, ⟨main_v144, rfl, by decide⟩, ⟨main_cst_26, rfl, by decide⟩, ⟨main_call12_v0, rfl, by decide⟩, ⟨main_call12_v1, rfl, by decide⟩, ⟨main_call12_v2, rfl, by decide⟩, ⟨main_call12_v3, rfl, by decide⟩, ⟨main_call12_v4, rfl, by decide⟩, ⟨main_v145, rfl, by decide⟩, ⟨main_cst_27, rfl, by decide⟩, ⟨main_v146, rfl, by decide⟩, ⟨main_cst_28, rfl, by decide⟩, ⟨main_v147, rfl, by decide⟩, ⟨main_v148, rfl, by decide⟩⟩

/-- What the operations of `ops8a` touch. -/
theorem ops8a_plain : Plain (ops8a (F := F)) :=
  ⟨List.forall_iff_forall_mem.mp ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops8b` write. -/
theorem ops8b_from : From 216 (ops8b (F := F)) :=
  ⟨⟨main_v149, rfl, by decide⟩, ⟨main_v150, rfl, by decide⟩⟩

/-- What the operations of `ops8b` touch. -/
theorem ops8b_plain : Plain (ops8b (F := F)) :=
  ⟨List.forall_iff_forall_mem.mp ⟨StableHlo.unary_bufs_sub .., StableHlo.binary_bufs_sub ..⟩,
   List.forall_iff_forall_mem.mp ⟨rfl, rfl⟩⟩

/-- Where the operations of `ops9` write. -/
theorem ops9_from : From 259 (ops9 (F := F)) :=
  ⟨⟨main_v151, rfl, by decide⟩, ⟨main_v152, rfl, by decide⟩, ⟨main_v153, rfl, by decide⟩, ⟨main_v154, rfl, by decide⟩, ⟨main_v155, rfl, by decide⟩, ⟨main_v156, rfl, by decide⟩, ⟨main_cst_29, rfl, by decide⟩, ⟨main_v157, rfl, by decide⟩, ⟨main_call13_v0, rfl, by decide⟩, ⟨main_call13_cst, rfl, by decide⟩, ⟨main_call13_c, rfl, by decide⟩, ⟨main_call13_v1_0, rfl, by decide⟩, ⟨main_v158, rfl, by decide⟩⟩

/-- What the operations of `ops9` touch. -/
theorem ops9_plain : Plain (ops9 (F := F)) :=
  ⟨List.forall_iff_forall_mem.mp ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩,
   List.forall_iff_forall_mem.mp ⟨rfl, rfl, rfl, rfl, rfl, rfl, rfl, rfl, rfl, rfl, rfl, rfl, rfl⟩⟩

/-- Where the operations of `ops10` write. -/
theorem ops10_from : From 272 (ops10 (F := F)) :=
  ⟨⟨main_v159, rfl, by decide⟩, ⟨main_v160, rfl, by decide⟩, ⟨main_v161, rfl, by decide⟩, ⟨main_v162, rfl, by decide⟩, ⟨main_v163, rfl, by decide⟩, ⟨main_v164, rfl, by decide⟩, ⟨main_v165, rfl, by decide⟩, ⟨main_v166, rfl, by decide⟩, ⟨main_v167, rfl, by decide⟩, ⟨main_cst_30, rfl, by decide⟩, ⟨main_call14_v0, rfl, by decide⟩, ⟨main_call14_v1, rfl, by decide⟩, ⟨main_call14_v2, rfl, by decide⟩, ⟨main_call14_v3, rfl, by decide⟩, ⟨main_call14_v4, rfl, by decide⟩, ⟨main_v168, rfl, by decide⟩, ⟨main_cst_31, rfl, by decide⟩, ⟨main_v169, rfl, by decide⟩, ⟨main_cst_32, rfl, by decide⟩, ⟨main_v170, rfl, by decide⟩, ⟨main_v171, rfl, by decide⟩, ⟨main_v172, rfl, by decide⟩, ⟨main_v173, rfl, by decide⟩, ⟨main_v174, rfl, by decide⟩, ⟨main_v175, rfl, by decide⟩, ⟨main_v176, rfl, by decide⟩, ⟨main_v177, rfl, by decide⟩, ⟨main_v178, rfl, by decide⟩, ⟨main_v179, rfl, by decide⟩, ⟨main_cst_33, rfl, by decide⟩, ⟨main_call15_v0, rfl, by decide⟩, ⟨main_call15_v1, rfl, by decide⟩, ⟨main_call15_v2, rfl, by decide⟩, ⟨main_call15_v3, rfl, by decide⟩, ⟨main_call15_v4, rfl, by decide⟩, ⟨main_v180, rfl, by decide⟩, ⟨main_cst_34, rfl, by decide⟩, ⟨main_v181, rfl, by decide⟩, ⟨main_cst_35, rfl, by decide⟩, ⟨main_v182, rfl, by decide⟩, ⟨main_v183, rfl, by decide⟩, ⟨main_v184, rfl, by decide⟩, ⟨main_v185, rfl, by decide⟩⟩

/-- What the operations of `ops10` touch. -/
theorem ops10_plain : Plain (ops10 (F := F)) :=
  ⟨List.forall_iff_forall_mem.mp ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops11` write. -/
theorem ops11_from : From 315 (ops11 (F := F)) :=
  ⟨⟨main_v186, rfl, by decide⟩, ⟨main_v187, rfl, by decide⟩, ⟨main_v188, rfl, by decide⟩, ⟨main_v189, rfl, by decide⟩, ⟨main_v190, rfl, by decide⟩, ⟨main_v191, rfl, by decide⟩, ⟨main_cst_36, rfl, by decide⟩, ⟨main_v192, rfl, by decide⟩, ⟨main_call16_v0, rfl, by decide⟩, ⟨main_call16_cst, rfl, by decide⟩, ⟨main_call16_c, rfl, by decide⟩, ⟨main_call16_v1_0, rfl, by decide⟩, ⟨main_v193, rfl, by decide⟩⟩

/-- What the operations of `ops11` touch. -/
theorem ops11_plain : Plain (ops11 (F := F)) :=
  ⟨List.forall_iff_forall_mem.mp ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩,
   List.forall_iff_forall_mem.mp ⟨rfl, rfl, rfl, rfl, rfl, rfl, rfl, rfl, rfl, rfl, rfl, rfl, rfl⟩⟩

/-- Where the operations of `ops12a` write. -/
theorem ops12a_from : From 328 (ops12a (F := F)) :=
  ⟨⟨main_v194, rfl, by decide⟩, ⟨main_v195, rfl, by decide⟩, ⟨main_v196, rfl, by decide⟩, ⟨main_v197, rfl, by decide⟩, ⟨main_v198, rfl, by decide⟩, ⟨main_v199, rfl, by decide⟩, ⟨main_v200, rfl, by decide⟩⟩

/-- What the operations of `ops12a` touch. -/
theorem ops12a_plain : Plain (ops12a (F := F)) :=
  ⟨List.forall_iff_forall_mem.mp ⟨StableHlo.binary_bufs_sub .., StableHlo.unary_bufs_sub .., StableHlo.unary_bufs_sub .., StableHlo.unary_bufs_sub .., StableHlo.binary_bufs_sub .., StableHlo.unary_bufs_sub .., StableHlo.binary_bufs_sub ..⟩,
   List.forall_iff_forall_mem.mp ⟨rfl, rfl, rfl, rfl, rfl, rfl, rfl⟩⟩

/-- Where the operations of `ops12b` write. -/
theorem ops12b_from : From 328 (ops12b (F := F)) :=
  ⟨⟨main_v201, rfl, by decide⟩, ⟨main_v202, rfl, by decide⟩, ⟨main_v203, rfl, by decide⟩, ⟨main_v204, rfl, by decide⟩, ⟨main_v205, rfl, by decide⟩⟩

/-- What the operations of `ops12b` touch. -/
theorem ops12b_plain : Plain (ops12b (F := F)) :=
  ⟨List.forall_iff_forall_mem.mp ⟨StableHlo.unary_bufs_sub .., StableHlo.unary_bufs_sub .., StableHlo.unary_bufs_sub .., StableHlo.binary_bufs_sub .., StableHlo.reshape_bufs_sub ..⟩,
   List.forall_iff_forall_mem.mp ⟨rfl, rfl, rfl, rfl, rfl⟩⟩

/-- Where the operations of `ops13` write. -/
theorem ops13_from : From 340 (ops13 (F := F)) :=
  ⟨⟨main_v206, rfl, by decide⟩, ⟨main_v207, rfl, by decide⟩, ⟨main_v208, rfl, by decide⟩, ⟨main_v209, rfl, by decide⟩, ⟨main_v210, rfl, by decide⟩, ⟨main_v211, rfl, by decide⟩, ⟨main_v212, rfl, by decide⟩, ⟨main_v213, rfl, by decide⟩, ⟨main_cst_37, rfl, by decide⟩, ⟨main_call17_v0, rfl, by decide⟩, ⟨main_call17_v1, rfl, by decide⟩, ⟨main_call17_v2, rfl, by decide⟩, ⟨main_call17_v3, rfl, by decide⟩, ⟨main_v214, rfl, by decide⟩, ⟨main_cst_38, rfl, by decide⟩, ⟨main_v215, rfl, by decide⟩, ⟨main_c_39, rfl, by decide⟩, ⟨main_v216, rfl, by decide⟩, ⟨main_v217, rfl, by decide⟩, ⟨main_c_40, rfl, by decide⟩, ⟨main_v218, rfl, by decide⟩, ⟨main_v219, rfl, by decide⟩, ⟨main_v220, rfl, by decide⟩, ⟨main_v221, rfl, by decide⟩, ⟨main_v222, rfl, by decide⟩, ⟨main_v223, rfl, by decide⟩, ⟨main_v224, rfl, by decide⟩⟩

/-- What the operations of `ops13` touch. -/
theorem ops13_plain : Plain (ops13 (F := F)) :=
  ⟨List.forall_iff_forall_mem.mp ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops14` write. -/
theorem ops14_from : From 367 (ops14 (F := F)) :=
  ⟨⟨main_v225, rfl, by decide⟩, ⟨main_v226, rfl, by decide⟩, ⟨main_v227, rfl, by decide⟩, ⟨main_v228, rfl, by decide⟩, ⟨main_v229, rfl, by decide⟩, ⟨main_v230, rfl, by decide⟩, ⟨main_v231, rfl, by decide⟩, ⟨main_v232, rfl, by decide⟩, ⟨main_v233, rfl, by decide⟩, ⟨main_v234, rfl, by decide⟩, ⟨main_cst_41, rfl, by decide⟩, ⟨main_call18_v0, rfl, by decide⟩, ⟨main_call18_v1, rfl, by decide⟩, ⟨main_call18_v2, rfl, by decide⟩, ⟨main_call18_v3, rfl, by decide⟩, ⟨main_v235, rfl, by decide⟩, ⟨main_cst_42, rfl, by decide⟩, ⟨main_v236, rfl, by decide⟩, ⟨main_v237, rfl, by decide⟩, ⟨main_c_43, rfl, by decide⟩, ⟨main_v238, rfl, by decide⟩, ⟨main_v239, rfl, by decide⟩, ⟨main_c_44, rfl, by decide⟩, ⟨main_v240, rfl, by decide⟩, ⟨main_v241, rfl, by decide⟩, ⟨main_v242, rfl, by decide⟩, ⟨main_v243, rfl, by decide⟩, ⟨main_v244, rfl, by decide⟩, ⟨main_cst_45, rfl, by decide⟩, ⟨main_v245, rfl, by decide⟩, ⟨main_v246, rfl, by decide⟩, ⟨main_v247, rfl, by decide⟩, ⟨main_v248, rfl, by decide⟩, ⟨main_v249, rfl, by decide⟩⟩

/-- What the operations of `ops14` touch. -/
theorem ops14_plain : Plain (ops14 (F := F)) :=
  ⟨List.forall_iff_forall_mem.mp ⟨StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops15a` write. -/
theorem ops15a_from : From 401 (ops15a (F := F)) :=
  ⟨⟨main_v250, rfl, by decide⟩, ⟨main_v251, rfl, by decide⟩⟩

/-- What the operations of `ops15a` touch. -/
theorem ops15a_plain : Plain (ops15a (F := F)) :=
  ⟨List.forall_iff_forall_mem.mp ⟨StableHlo.binary_bufs_sub .., StableHlo.unary_bufs_sub ..⟩,
   List.forall_iff_forall_mem.mp ⟨rfl, rfl⟩⟩

/-- Where the operations of `ops15b` write. -/
theorem ops15b_from : From 401 (ops15b (F := F)) :=
  ⟨⟨main_v252, rfl, by decide⟩, ⟨main_v253, rfl, by decide⟩, ⟨main_v254, rfl, by decide⟩, ⟨main_v255, rfl, by decide⟩, ⟨main_v256, rfl, by decide⟩, ⟨main_v257, rfl, by decide⟩, ⟨main_v258, rfl, by decide⟩, ⟨main_v259, rfl, by decide⟩, ⟨main_cst_46, rfl, by decide⟩, ⟨main_call19_v0, rfl, by decide⟩, ⟨main_call19_v1, rfl, by decide⟩, ⟨main_call19_v2, rfl, by decide⟩, ⟨main_call19_v3, rfl, by decide⟩, ⟨main_call19_v4, rfl, by decide⟩, ⟨main_v260, rfl, by decide⟩, ⟨main_cst_47, rfl, by decide⟩, ⟨main_v261, rfl, by decide⟩, ⟨main_cst_48, rfl, by decide⟩⟩

/-- What the operations of `ops15b` touch. -/
theorem ops15b_plain : Plain (ops15b (F := F)) :=
  ⟨List.forall_iff_forall_mem.mp ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub ..⟩,
   List.forall_iff_forall_mem.mp ⟨rfl, rfl, rfl, rfl, rfl, rfl, rfl, rfl, rfl, rfl, rfl, rfl, rfl, rfl, rfl, rfl, rfl, rfl⟩⟩

/-- Where the operations of `ops16a` write. -/
theorem ops16a_from : From 421 (ops16a (F := F)) :=
  ⟨⟨main_v262, rfl, by decide⟩, ⟨main_v263, rfl, by decide⟩, ⟨main_v264, rfl, by decide⟩, ⟨main_v265, rfl, by decide⟩, ⟨main_v266, rfl, by decide⟩, ⟨main_v267, rfl, by decide⟩, ⟨main_v268, rfl, by decide⟩, ⟨main_v269, rfl, by decide⟩, ⟨main_v270, rfl, by decide⟩, ⟨main_v271, rfl, by decide⟩, ⟨main_v272, rfl, by decide⟩, ⟨main_v273, rfl, by decide⟩, ⟨main_v274, rfl, by decide⟩, ⟨main_v275, rfl, by decide⟩, ⟨main_v276, rfl, by decide⟩, ⟨main_v277, rfl, by decide⟩, ⟨main_v278, rfl, by decide⟩, ⟨main_v279, rfl, by decide⟩, ⟨main_v280, rfl, by decide⟩, ⟨main_v281, rfl, by decide⟩, ⟨main_v282, rfl, by decide⟩, ⟨main_v283, rfl, by decide⟩, ⟨main_v284, rfl, by decide⟩, ⟨main_v285, rfl, by decide⟩, ⟨main_v286, rfl, by decide⟩, ⟨main_v287, rfl, by decide⟩, ⟨main_cst_49, rfl, by decide⟩, ⟨main_v288, rfl, by decide⟩, ⟨main_cst_50, rfl, by decide⟩, ⟨main_v289, rfl, by decide⟩, ⟨main_v290, rfl, by decide⟩, ⟨main_v291, rfl, by decide⟩, ⟨main_v292, rfl, by decide⟩, ⟨main_v293, rfl, by decide⟩, ⟨main_v294, rfl, by decide⟩, ⟨main_cst_51, rfl, by decide⟩, ⟨main_v295, rfl, by decide⟩, ⟨main_v296, rfl, by decide⟩, ⟨main_v297, rfl, by decide⟩, ⟨main_v298, rfl, by decide⟩, ⟨main_v299, rfl, by decide⟩, ⟨main_v300, rfl, by decide⟩, ⟨main_cst_52, rfl, by decide⟩, ⟨main_v301, rfl, by decide⟩, ⟨main_cst_53, rfl, by decide⟩, ⟨main_v302, rfl, by decide⟩, ⟨main_v303, rfl, by decide⟩⟩

/-- What the operations of `ops16a` touch. -/
theorem ops16a_plain : Plain (ops16a (F := F)) :=
  ⟨List.forall_iff_forall_mem.mp ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub ..⟩,
   List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- Where the operations of `ops16b` write. -/
theorem ops16b_from : From 421 (ops16b (F := F)) :=
  ⟨⟨main_v304, rfl, by decide⟩, ⟨main_v305, rfl, by decide⟩, ⟨main_v306, rfl, by decide⟩, ⟨main_v307, rfl, by decide⟩, ⟨main_v308, rfl, by decide⟩, ⟨main_v309, rfl, by decide⟩, ⟨main_v310, rfl, by decide⟩, ⟨main_v311, rfl, by decide⟩, ⟨main_v312, rfl, by decide⟩, ⟨main_v313, rfl, by decide⟩, ⟨main_v314, rfl, by decide⟩, ⟨main_v315, rfl, by decide⟩⟩

/-- What the operations of `ops16b` touch. -/
theorem ops16b_plain : Plain (ops16b (F := F)) :=
  ⟨List.forall_iff_forall_mem.mp ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩,
   List.forall_iff_forall_mem.mp ⟨rfl, rfl, rfl, rfl, rfl, rfl, rfl, rfl, rfl, rfl, rfl, rfl⟩⟩

/-- Stretch 0 of the program. -/
noncomputable abbrev seg0 : List (HloOp τ sig (Elt F)) := ops0
/-- Where stretch 0 writes. -/
theorem seg0_from : From 19 (seg0 (F := F)) := ops0_from
/-- What stretch 0 touches. -/
theorem seg0_plain : Plain (seg0 (F := F)) := ops0_plain

/-- Stretch 1 of the program. -/
noncomputable abbrev seg1 : List (HloOp τ sig (Elt F)) := ops1
/-- Where stretch 1 writes. -/
theorem seg1_from : From 35 (seg1 (F := F)) := ops1_from
/-- What stretch 1 touches. -/
theorem seg1_plain : Plain (seg1 (F := F)) := ops1_plain

/-- Stretch 2 of the program. -/
noncomputable abbrev seg2 : List (HloOp τ sig (Elt F)) := ops2
/-- Where stretch 2 writes. -/
theorem seg2_from : From 48 (seg2 (F := F)) := ops2_from
/-- What stretch 2 touches. -/
theorem seg2_plain : Plain (seg2 (F := F)) := ops2_plain

/-- Stretch 3 of the program. -/
noncomputable abbrev seg3 : List (HloOp τ sig (Elt F)) := ops3a ++ ops3b
/-- Where stretch 3 writes. -/
theorem seg3_from : From 91 (seg3 (F := F)) := ops3a_from.append ops3b_from
/-- What stretch 3 touches. -/
theorem seg3_plain : Plain (seg3 (F := F)) := ops3a_plain.append ops3b_plain

/-- Stretch 4 of the program. -/
noncomputable abbrev seg4 : List (HloOp τ sig (Elt F)) := ops4
/-- Where stretch 4 writes. -/
theorem seg4_from : From 104 (seg4 (F := F)) := ops4_from
/-- What stretch 4 touches. -/
theorem seg4_plain : Plain (seg4 (F := F)) := ops4_plain

/-- Stretch 5 of the program. -/
noncomputable abbrev seg5 : List (HloOp τ sig (Elt F)) := ops5
/-- Where stretch 5 writes. -/
theorem seg5_from : From 147 (seg5 (F := F)) := ops5_from
/-- What stretch 5 touches. -/
theorem seg5_plain : Plain (seg5 (F := F)) := ops5_plain

/-- Stretch 6 of the program. -/
noncomputable abbrev seg6 : List (HloOp τ sig (Elt F)) := ops6a ++ ops6b
/-- Where stretch 6 writes. -/
theorem seg6_from : From 160 (seg6 (F := F)) := ops6a_from.append ops6b_from
/-- What stretch 6 touches. -/
theorem seg6_plain : Plain (seg6 (F := F)) := ops6a_plain.append ops6b_plain

/-- Stretch 7 of the program. -/
noncomputable abbrev seg7 : List (HloOp τ sig (Elt F)) := ops7
/-- Where stretch 7 writes. -/
theorem seg7_from : From 203 (seg7 (F := F)) := ops7_from
/-- What stretch 7 touches. -/
theorem seg7_plain : Plain (seg7 (F := F)) := ops7_plain

/-- Stretch 8 of the program. -/
noncomputable abbrev seg8 : List (HloOp τ sig (Elt F)) := ops8a ++ ops8b
/-- Where stretch 8 writes. -/
theorem seg8_from : From 216 (seg8 (F := F)) := ops8a_from.append ops8b_from
/-- What stretch 8 touches. -/
theorem seg8_plain : Plain (seg8 (F := F)) := ops8a_plain.append ops8b_plain

/-- Stretch 9 of the program. -/
noncomputable abbrev seg9 : List (HloOp τ sig (Elt F)) := ops9
/-- Where stretch 9 writes. -/
theorem seg9_from : From 259 (seg9 (F := F)) := ops9_from
/-- What stretch 9 touches. -/
theorem seg9_plain : Plain (seg9 (F := F)) := ops9_plain

/-- Stretch 10 of the program. -/
noncomputable abbrev seg10 : List (HloOp τ sig (Elt F)) := ops10
/-- Where stretch 10 writes. -/
theorem seg10_from : From 272 (seg10 (F := F)) := ops10_from
/-- What stretch 10 touches. -/
theorem seg10_plain : Plain (seg10 (F := F)) := ops10_plain

/-- Stretch 11 of the program. -/
noncomputable abbrev seg11 : List (HloOp τ sig (Elt F)) := ops11
/-- Where stretch 11 writes. -/
theorem seg11_from : From 315 (seg11 (F := F)) := ops11_from
/-- What stretch 11 touches. -/
theorem seg11_plain : Plain (seg11 (F := F)) := ops11_plain

/-- Stretch 12 of the program. -/
noncomputable abbrev seg12 : List (HloOp τ sig (Elt F)) := ops12a ++ ops12b
/-- Where stretch 12 writes. -/
theorem seg12_from : From 328 (seg12 (F := F)) := ops12a_from.append ops12b_from
/-- What stretch 12 touches. -/
theorem seg12_plain : Plain (seg12 (F := F)) := ops12a_plain.append ops12b_plain

/-- Stretch 13 of the program. -/
noncomputable abbrev seg13 : List (HloOp τ sig (Elt F)) := ops13
/-- Where stretch 13 writes. -/
theorem seg13_from : From 340 (seg13 (F := F)) := ops13_from
/-- What stretch 13 touches. -/
theorem seg13_plain : Plain (seg13 (F := F)) := ops13_plain

/-- Stretch 14 of the program. -/
noncomputable abbrev seg14 : List (HloOp τ sig (Elt F)) := ops14
/-- Where stretch 14 writes. -/
theorem seg14_from : From 367 (seg14 (F := F)) := ops14_from
/-- What stretch 14 touches. -/
theorem seg14_plain : Plain (seg14 (F := F)) := ops14_plain

/-- Stretch 15 of the program. -/
noncomputable abbrev seg15 : List (HloOp τ sig (Elt F)) := ops15a ++ ops15b
/-- Where stretch 15 writes. -/
theorem seg15_from : From 401 (seg15 (F := F)) := ops15a_from.append ops15b_from
/-- What stretch 15 touches. -/
theorem seg15_plain : Plain (seg15 (F := F)) := ops15a_plain.append ops15b_plain

/-- Stretch 16 of the program. -/
noncomputable abbrev seg16 : List (HloOp τ sig (Elt F)) := ops16a ++ ops16b
/-- Where stretch 16 writes. -/
theorem seg16_from : From 421 (seg16 (F := F)) := ops16a_from.append ops16b_from
/-- What stretch 16 touches. -/
theorem seg16_plain : Plain (seg16 (F := F)) := ops16a_plain.append ops16b_plain

/-- All the operations of the program. -/
noncomputable abbrev allOps : List (HloOp τ sig (Elt F)) := seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16))))))))))))))))

/-- The program is the sequence of its operations. -/
theorem main_seq (d : Dev nD) : main (F := F) d = StableHlo.seq allOps := by
  unfold main allOps
  simp only [part0_seq, part1_seq, part2_seq, part3_seq, part4_seq, part5_seq, part6_seq]
  simp only [← StableHlo.seq_append, List.append_assoc]

/-- Where the program writes: past its arguments. -/
theorem allOps_from : From 19 (allOps (F := F)) :=
  ((seg0_from.mono (by decide)).append ((seg1_from.mono (by decide)).append ((seg2_from.mono (by decide)).append ((seg3_from.mono (by decide)).append ((seg4_from.mono (by decide)).append ((seg5_from.mono (by decide)).append ((seg6_from.mono (by decide)).append ((seg7_from.mono (by decide)).append ((seg8_from.mono (by decide)).append ((seg9_from.mono (by decide)).append ((seg10_from.mono (by decide)).append ((seg11_from.mono (by decide)).append ((seg12_from.mono (by decide)).append ((seg13_from.mono (by decide)).append ((seg14_from.mono (by decide)).append ((seg15_from.mono (by decide)).append (seg16_from.mono (by decide))))))))))))))))))

/-- What the program touches. -/
theorem allOps_plain : Plain (allOps (F := F)) :=
  (seg0_plain.append (seg1_plain.append (seg2_plain.append (seg3_plain.append (seg4_plain.append (seg5_plain.append (seg6_plain.append (seg7_plain.append (seg8_plain.append (seg9_plain.append (seg10_plain.append (seg11_plain.append (seg12_plain.append (seg13_plain.append (seg14_plain.append (seg15_plain.append seg16_plain))))))))))))))))

/-- Every execution of the reference ends with each buffer at the fold of its operations over the initial contents, and
    every counter at zero. -/
theorem run (m : (ℓ : Loc nD τ sig) → Buf (Elt F) ℓ) (ρ : Dev nD → PrngReg) :
    θ_run (defs (F := F)) (onTc (τ := τ) main) ⟨m, fun _ => 0, ρ⟩ fun r =>
      (∀ (d : Dev nD) (b : Ref sig .tc), r.2.mem ((d.tc : Thread nD τ).loc b)
          = StableHlo.after allOps (StableHlo.launchContents m d) (Proc.devRef .tc b))
        ∧ r.2.sem = fun _ => 0 :=
  θ_run_mono (StableHlo.run_seq (by decide) (by decide) defs main (fun _ => allOps) main_seq
    (fun _ => List.forall_iff_forall_mem.mpr allOps_plain.1) m ρ (fun _ => allOps_plain.2))
    fun _ h => ⟨h, sem_eq_zero_of_no_sems (by decide) _⟩

/-- The reference's arguments are among the buffers it does not write. -/
theorem kept (m : (ℓ : Loc nD τ sig) → Buf (Elt F) ℓ) (d : Dev nD) (b : Ref sig .tc) (hb : b.idx.val < 19) :
    StableHlo.after allOps (StableHlo.launchContents m d) (Proc.devRef .tc b) = m ((d.tc : Thread nD τ).loc b) :=
  allOps_from.keeps b hb _

end Cert.ReferenceIdeal.Own

end
-- ==== Proof.RefVal.lean ====
module

public import proofs.«01_k».proof.Proof.RefRun

@[expose] public section

set_option maxRecDepth 16384

namespace Cert.ReferenceIdeal.Own

open Idealize.ShloMosaic Idealize.SL.Sem
open Facts₀ Facts

variable {F : FTy → Type} [FloatOps F]

/-- The embeddings of every patch: encoder product, bias, and the positive part. -/
noncomputable def rEmb (arg0 : (⟨S8x4096x1024, .f32⟩ : BufTy).Contents (Elt F)) (arg1 : (⟨S1024x256, .f32⟩ : BufTy).Contents (Elt F)) (arg2 : (⟨S256, .f32⟩ : BufTy).Contents (Elt F)) : (⟨S8x4096x256, .f32⟩ : BufTy).Contents (Elt F) :=
  let v0 : (⟨S8x4096x256, .f32⟩ : BufTy).Contents (Elt F) := ((fun l r => Host.dotGeneral dot_S8x4096x1024_S1024x256_S8x4096x256_2_0_01_1_n_n none l r)) arg0 arg1
  let v1 : (⟨S1x256, .f32⟩ : BufTy).Contents (Elt F) := (broadcastInDim S1x256 ![1] bcast_S256_S1x256_1) arg2
  let v2 : (⟨S1x1x256, .f32⟩ : BufTy).Contents (Elt F) := (broadcastInDim S1x1x256 ![1, 2] bcast_S1x256_S1x1x256_1_2) v1
  let v3 : (⟨S8x4096x256, .f32⟩ : BufTy).Contents (Elt F) := (broadcastInDim S8x4096x256 ![0, 1, 2] bcast_S1x1x256_S8x4096x256_0_1_2) v2
  let v4 : (⟨S8x4096x256, .f32⟩ : BufTy).Contents (Elt F) := (addf) v0 v3
  let call0_cst : (⟨S_, .f32⟩ : BufTy).Contents (Elt F) := (constant S_ .f32 0x00000000#32)
  let call0_v0 : (⟨S8x4096x256, .f32⟩ : BufTy).Contents (Elt F) := (broadcastInDim S8x4096x256 ![] bcast_S_S8x4096x256) call0_cst
  let v5 : (⟨S8x4096x256, .f32⟩ : BufTy).Contents (Elt F) := maximumf v4 call0_v0
  v5

/-- The first centroids: the embeddings of ten evenly spaced patches. -/
noncomputable def rCent0 (v5 : (⟨S8x4096x256, .f32⟩ : BufTy).Contents (Elt F)) : (⟨S8x10x256, .f32⟩ : BufTy).Contents (Elt F) :=
  let c : (⟨S10, .i32⟩ : BufTy).Contents (Elt F) := (fun i => lit0 (S10.rowMajor i))
  let c_0 : (⟨S10, .i1⟩ : BufTy).Contents (Elt F) := (constantI S10 1 0#1)
  let c_1 : (⟨S_, .i32⟩ : BufTy).Contents (Elt F) := (constantI S_ 32 4096#32)
  let v6 : (⟨S10, .i32⟩ : BufTy).Contents (Elt F) := (broadcastInDim S10 ![] bcast_S_S10) c_1
  let v7 : (⟨S10, .i32⟩ : BufTy).Contents (Elt F) := (addi) c v6
  let v8 : (⟨S10, .i32⟩ : BufTy).Contents (Elt F) := (select) c_0 v7 c
  let v9 : (⟨S10x1, .i32⟩ : BufTy).Contents (Elt F) := (broadcastInDim S10x1 ![0] bcast_S10_S10x1_0) v8
  let v10 : (⟨S8x10x256, .f32⟩ : BufTy).Contents (Elt F) := ((fun x i => Host.gather gather_S8x4096x256_S10x1_S8x10x256_02_1_n_n_1_1_81256 x i)) v5 v9
  v10

/-- The squared distances of every patch to every centroid. -/
noncomputable def rDist (v5 : (⟨S8x4096x256, .f32⟩ : BufTy).Contents (Elt F)) (v10 : (⟨S8x10x256, .f32⟩ : BufTy).Contents (Elt F)) : (⟨S8x4096x10, .f32⟩ : BufTy).Contents (Elt F) :=
  let v11 : (⟨S8x4096x1x256, .f32⟩ : BufTy).Contents (Elt F) := (broadcastInDim S8x4096x1x256 ![0, 1, 3] bcast_S8x4096x256_S8x4096x1x256_0_1_3) v5
  let v12 : (⟨S8x1x10x256, .f32⟩ : BufTy).Contents (Elt F) := (broadcastInDim S8x1x10x256 ![0, 2, 3] bcast_S8x10x256_S8x1x10x256_0_2_3) v10
  let v13 : (⟨S8x4096x10x256, .f32⟩ : BufTy).Contents (Elt F) := (broadcastInDim S8x4096x10x256 ![0, 1, 2, 3] bcast_S8x4096x1x256_S8x4096x10x256_0_1_2_3) v11
  let v14 : (⟨S8x4096x10x256, .f32⟩ : BufTy).Contents (Elt F) := (broadcastInDim S8x4096x10x256 ![0, 1, 2, 3] bcast_S8x1x10x256_S8x4096x10x256_0_1_2_3) v12
  let v15 : (⟨S8x4096x10x256, .f32⟩ : BufTy).Contents (Elt F) := (subf) v13 v14
  let v16 : (⟨S8x4096x10x256, .f32⟩ : BufTy).Contents (Elt F) := (mulf) v15 v15
  let cst : (⟨S_, .f32⟩ : BufTy).Contents (Elt F) := (constant S_ .f32 0x00000000#32)
  let v17 : (⟨S8x4096x10, .f32⟩ : BufTy).Contents (Elt F) := ((fun x v => Host.reduceAdd x v reducesTo_S8x4096x10x256_S8x4096x10_d3 h_S_)) v16 cst
  v17

/-- The label of every patch: its nearest centroid. -/
noncomputable def rLab (v17 : (⟨S8x4096x10, .f32⟩ : BufTy).Contents (Elt F)) : (⟨S8x4096, .i32⟩ : BufTy).Contents (Elt F) :=
  let call1_v0 : (⟨S8x4096x10, .i32⟩ : BufTy).Contents (Elt F) := (iotaInDim S8x4096x10 32 2)
  let call1_cst : (⟨S_, .f32⟩ : BufTy).Contents (Elt F) := (constant S_ .f32 0x7F800000#32)
  let call1_c : (⟨S_, .i32⟩ : BufTy).Contents (Elt F) := (constantI S_ 32 0#32)
  let v18 : (⟨S8x4096, .i32⟩ : BufTy).Contents (Elt F) := (fun x y u v j => (Host.argReduce reducer_argmin_f32_i32 x y u v reducesTo_S8x4096x10_S8x4096_d2 h_S_ j).2) v17 call1_v0 call1_cst call1_c
  v18

/-- Which cluster every patch belongs to. -/
noncomputable def rMem (v18 : (⟨S8x4096, .i32⟩ : BufTy).Contents (Elt F)) : (⟨S8x4096x10, .i1⟩ : BufTy).Contents (Elt F) :=
  let v19 : (⟨S8x4096x1, .i32⟩ : BufTy).Contents (Elt F) := (broadcastInDim S8x4096x1 ![0, 1] bcast_S8x4096_S8x4096x1_0_1) v18
  let v20 : (⟨S10, .i32⟩ : BufTy).Contents (Elt F) := (iotaInDim S10 32 0)
  let v21 : (⟨S1x10, .i32⟩ : BufTy).Contents (Elt F) := (broadcastInDim S1x10 ![1] bcast_S10_S1x10_1) v20
  let v22 : (⟨S1x1x10, .i32⟩ : BufTy).Contents (Elt F) := (broadcastInDim S1x1x10 ![1, 2] bcast_S1x10_S1x1x10_1_2) v21
  let v23 : (⟨S8x4096x10, .i32⟩ : BufTy).Contents (Elt F) := (broadcastInDim S8x4096x10 ![0, 1, 2] bcast_S8x4096x1_S8x4096x10_0_1_2) v19
  let v24 : (⟨S8x4096x10, .i32⟩ : BufTy).Contents (Elt F) := (broadcastInDim S8x4096x10 ![0, 1, 2] bcast_S1x1x10_S8x4096x10_0_1_2) v22
  let v25 : (⟨S8x4096x10, .i1⟩ : BufTy).Contents (Elt F) := (cmpi .eq) v23 v24
  v25

/-- The sum of the embeddings of every cluster. -/
noncomputable def rSum (v25 : (⟨S8x4096x10, .i1⟩ : BufTy).Contents (Elt F)) (v5 : (⟨S8x4096x256, .f32⟩ : BufTy).Contents (Elt F)) : (⟨S8x10x256, .f32⟩ : BufTy).Contents (Elt F) :=
  let v26 : (⟨S8x4096x10x1, .i1⟩ : BufTy).Contents (Elt F) := (broadcastInDim S8x4096x10x1 ![0, 1, 2] bcast_S8x4096x10_S8x4096x10x1_0_1_2) v25
  let v27 : (⟨S8x4096x1x256, .f32⟩ : BufTy).Contents (Elt F) := (broadcastInDim S8x4096x1x256 ![0, 1, 3] bcast_S8x4096x256_S8x4096x1x256_0_1_3) v5
  let cst_2 : (⟨S_, .f32⟩ : BufTy).Contents (Elt F) := (constant S_ .f32 0x00000000#32)
  let call2_v0 : (⟨S_, .f32⟩ : BufTy).Contents (Elt F) := id cst_2
  let call2_v1 : (⟨S8x4096x10x256, .i1⟩ : BufTy).Contents (Elt F) := (broadcastInDim S8x4096x10x256 ![0, 1, 2, 3] bcast_S8x4096x10x1_S8x4096x10x256_0_1_2_3) v26
  let call2_v2 : (⟨S8x4096x10x256, .f32⟩ : BufTy).Contents (Elt F) := (broadcastInDim S8x4096x10x256 ![0, 1, 2, 3] bcast_S8x4096x1x256_S8x4096x10x256_0_1_2_3) v27
  let call2_v3 : (⟨S4096x10x256, .f32⟩ : BufTy).Contents (Elt F) := (broadcastInDim S4096x10x256 ![] bcast_S_S4096x10x256) call2_v0
  let call2_v4 : (⟨S8x4096x10x256, .f32⟩ : BufTy).Contents (Elt F) := (broadcastInDim S8x4096x10x256 ![1, 2, 3] bcast_S4096x10x256_S8x4096x10x256_1_2_3) call2_v3
  let v28 : (⟨S8x4096x10x256, .f32⟩ : BufTy).Contents (Elt F) := select call2_v1 call2_v2 call2_v4
  let cst_3 : (⟨S_, .f32⟩ : BufTy).Contents (Elt F) := (constant S_ .f32 0x00000000#32)
  let v29 : (⟨S8x10x256, .f32⟩ : BufTy).Contents (Elt F) := ((fun x v => Host.reduceAdd x v reducesTo_S8x4096x10x256_S8x10x256_d1 h_S_)) v28 cst_3
  v29

/-- The number of patches of every cluster. -/
noncomputable def rCnt (v37 : (⟨S8x4096x10, .i1⟩ : BufTy).Contents (Elt F)) (v30 : (⟨S4096x1, .f32⟩ : BufTy).Contents (Elt F)) : (⟨S8x10x1, .f32⟩ : BufTy).Contents (Elt F) :=
  let v38 : (⟨S8x4096x10x1, .i1⟩ : BufTy).Contents (Elt F) := (broadcastInDim S8x4096x10x1 ![0, 1, 2] bcast_S8x4096x10_S8x4096x10x1_0_1_2) v37
  let v39 : (⟨S4096x1x1, .f32⟩ : BufTy).Contents (Elt F) := (broadcastInDim S4096x1x1 ![0, 2] bcast_S4096x1_S4096x1x1_0_2) v30
  let cst_5 : (⟨S_, .f32⟩ : BufTy).Contents (Elt F) := (constant S_ .f32 0x00000000#32)
  let call3_v0 : (⟨S_, .f32⟩ : BufTy).Contents (Elt F) := id cst_5
  let call3_v1 : (⟨S4096x10x1, .f32⟩ : BufTy).Contents (Elt F) := (broadcastInDim S4096x10x1 ![0, 1, 2] bcast_S4096x1x1_S4096x10x1_0_1_2) v39
  let call3_v2 : (⟨S4096x10x1, .f32⟩ : BufTy).Contents (Elt F) := (broadcastInDim S4096x10x1 ![] bcast_S_S4096x10x1) call3_v0
  let call3_v3 : (⟨S8x4096x10x1, .f32⟩ : BufTy).Contents (Elt F) := (broadcastInDim S8x4096x10x1 ![1, 2, 3] bcast_S4096x10x1_S8x4096x10x1_1_2_3) call3_v2
  let call3_v4 : (⟨S8x4096x10x1, .f32⟩ : BufTy).Contents (Elt F) := (broadcastInDim S8x4096x10x1 ![1, 2, 3] bcast_S4096x10x1_S8x4096x10x1_1_2_3) call3_v1
  let v40 : (⟨S8x4096x10x1, .f32⟩ : BufTy).Contents (Elt F) := select v38 call3_v4 call3_v3
  let cst_6 : (⟨S_, .f32⟩ : BufTy).Contents (Elt F) := (constant S_ .f32 0x00000000#32)
  let v41 : (⟨S8x10x1, .f32⟩ : BufTy).Contents (Elt F) := ((fun x v => Host.reduceAdd x v reducesTo_S8x4096x10x1_S8x10x1_d1 h_S_)) v40 cst_6
  v41

/-- A one for every patch. -/
noncomputable def rOnes  : (⟨S4096x1, .f32⟩ : BufTy).Contents (Elt F) :=
  let cst_4 : (⟨S_, .f32⟩ : BufTy).Contents (Elt F) := (constant S_ .f32 0x3F800000#32)
  let v30 : (⟨S4096x1, .f32⟩ : BufTy).Contents (Elt F) := (broadcastInDim S4096x1 ![] bcast_S_S4096x1) cst_4
  v30

/-- The mean of every cluster. -/
noncomputable def rDiv (v29 : (⟨S8x10x256, .f32⟩ : BufTy).Contents (Elt F)) (v41 : (⟨S8x10x1, .f32⟩ : BufTy).Contents (Elt F)) : (⟨S8x10x256, .f32⟩ : BufTy).Contents (Elt F) :=
  let cst_7 : (⟨S_, .f32⟩ : BufTy).Contents (Elt F) := (constant S_ .f32 0x3F800000#32)
  let v42 : (⟨S8x10x1, .f32⟩ : BufTy).Contents (Elt F) := (broadcastInDim S8x10x1 ![] bcast_S_S8x10x1) cst_7
  let v43 : (⟨S8x10x1, .f32⟩ : BufTy).Contents (Elt F) := (maximumf) v41 v42
  let v44 : (⟨S8x10x256, .f32⟩ : BufTy).Contents (Elt F) := (broadcastInDim S8x10x256 ![0, 1, 2] bcast_S8x10x1_S8x10x256_0_1_2) v43
  let v45 : (⟨S8x10x256, .f32⟩ : BufTy).Contents (Elt F) := (Host.divf) v29 v44
  v45

/-- The attention logit of every patch. -/
noncomputable def rAtt (v5 : (⟨S8x4096x256, .f32⟩ : BufTy).Contents (Elt F)) (arg3 : (⟨S256x256, .f32⟩ : BufTy).Contents (Elt F)) (arg4 : (⟨S256, .f32⟩ : BufTy).Contents (Elt F)) (arg5 : (⟨S256x1, .f32⟩ : BufTy).Contents (Elt F)) (arg6 : (⟨S1, .f32⟩ : BufTy).Contents (Elt F)) : (⟨S8x4096, .f32⟩ : BufTy).Contents (Elt F) :=
  let v194 : (⟨S8x4096x256, .f32⟩ : BufTy).Contents (Elt F) := ((fun l r => Host.dotGeneral dot_S8x4096x256_S256x256_S8x4096x256_2_0_01_1_n_n none l r)) v5 arg3
  let v195 : (⟨S1x256, .f32⟩ : BufTy).Contents (Elt F) := (broadcastInDim S1x256 ![1] bcast_S256_S1x256_1) arg4
  let v196 : (⟨S1x1x256, .f32⟩ : BufTy).Contents (Elt F) := (broadcastInDim S1x1x256 ![1, 2] bcast_S1x256_S1x1x256_1_2) v195
  let v197 : (⟨S8x4096x256, .f32⟩ : BufTy).Contents (Elt F) := (broadcastInDim S8x4096x256 ![0, 1, 2] bcast_S1x1x256_S8x4096x256_0_1_2) v196
  let v198 : (⟨S8x4096x256, .f32⟩ : BufTy).Contents (Elt F) := (addf) v194 v197
  let v199 : (⟨S8x4096x256, .f32⟩ : BufTy).Contents (Elt F) := (Host.tanh) v198
  let v200 : (⟨S8x4096x1, .f32⟩ : BufTy).Contents (Elt F) := ((fun l r => Host.dotGeneral dot_S8x4096x256_S256x1_S8x4096x1_2_0_01_1_n_n none l r)) v199 arg5
  let v201 : (⟨S1x1, .f32⟩ : BufTy).Contents (Elt F) := (broadcastInDim S1x1 ![1] bcast_S1_S1x1_1) arg6
  let v202 : (⟨S1x1x1, .f32⟩ : BufTy).Contents (Elt F) := (broadcastInDim S1x1x1 ![1, 2] bcast_S1x1_S1x1x1_1_2) v201
  let v203 : (⟨S8x4096x1, .f32⟩ : BufTy).Contents (Elt F) := (broadcastInDim S8x4096x1 ![0, 1, 2] bcast_S1x1x1_S8x4096x1_0_1_2) v202
  let v204 : (⟨S8x4096x1, .f32⟩ : BufTy).Contents (Elt F) := (addf) v200 v203
  let v205 : (⟨S8x4096, .f32⟩ : BufTy).Contents (Elt F) := shapeCast S8x4096 v204 shapeCasts_S8x4096x1_S8x4096
  v205

/-- The largest logit of every cluster. -/
noncomputable def rMax (v212 : (⟨S8x4096x10, .i1⟩ : BufTy).Contents (Elt F)) (v205 : (⟨S8x4096, .f32⟩ : BufTy).Contents (Elt F)) : (⟨S8x10, .f32⟩ : BufTy).Contents (Elt F) :=
  let v213 : (⟨S8x4096x1, .f32⟩ : BufTy).Contents (Elt F) := (broadcastInDim S8x4096x1 ![0, 1] bcast_S8x4096_S8x4096x1_0_1) v205
  let cst_37 : (⟨S_, .f32⟩ : BufTy).Contents (Elt F) := (constant S_ .f32 0xFF800000#32)
  let call17_v0 : (⟨S_, .f32⟩ : BufTy).Contents (Elt F) := id cst_37
  let call17_v1 : (⟨S8x4096x10, .f32⟩ : BufTy).Contents (Elt F) := (broadcastInDim S8x4096x10 ![0, 1, 2] bcast_S8x4096x1_S8x4096x10_0_1_2) v213
  let call17_v2 : (⟨S4096x10, .f32⟩ : BufTy).Contents (Elt F) := (broadcastInDim S4096x10 ![] bcast_S_S4096x10) call17_v0
  let call17_v3 : (⟨S8x4096x10, .f32⟩ : BufTy).Contents (Elt F) := (broadcastInDim S8x4096x10 ![1, 2] bcast_S4096x10_S8x4096x10_1_2) call17_v2
  let v214 : (⟨S8x4096x10, .f32⟩ : BufTy).Contents (Elt F) := select v212 call17_v1 call17_v3
  let cst_38 : (⟨S_, .f32⟩ : BufTy).Contents (Elt F) := (constant S_ .f32 0xFF800000#32)
  let v215 : (⟨S8x10, .f32⟩ : BufTy).Contents (Elt F) := ((fun x v => Host.reduce FloatOps.maximumf x v reducesTo_S8x4096x10_S8x10_d1 h_S_)) v214 cst_38
  v215

/-- The entry of a per-cluster table at the cluster of every patch. -/
noncomputable def rPick (v215 : (⟨S8x10, .f32⟩ : BufTy).Contents (Elt F)) (v193 : (⟨S8x4096, .i32⟩ : BufTy).Contents (Elt F)) : (⟨S8x4096, .f32⟩ : BufTy).Contents (Elt F) :=
  let c_39 : (⟨S_, .i32⟩ : BufTy).Contents (Elt F) := (constantI S_ 32 0#32)
  let v216 : (⟨S8x4096, .i32⟩ : BufTy).Contents (Elt F) := (broadcastInDim S8x4096 ![] bcast_S_S8x4096) c_39
  let v217 : (⟨S8x4096, .i1⟩ : BufTy).Contents (Elt F) := (cmpi .slt) v193 v216
  let c_40 : (⟨S_, .i32⟩ : BufTy).Contents (Elt F) := (constantI S_ 32 10#32)
  let v218 : (⟨S8x4096, .i32⟩ : BufTy).Contents (Elt F) := (broadcastInDim S8x4096 ![] bcast_S_S8x4096) c_40
  let v219 : (⟨S8x4096, .i32⟩ : BufTy).Contents (Elt F) := (addi) v193 v218
  let v220 : (⟨S8x4096, .i32⟩ : BufTy).Contents (Elt F) := (select) v217 v219 v193
  let v221 : (⟨S8x4096x1, .i32⟩ : BufTy).Contents (Elt F) := (broadcastInDim S8x4096x1 ![0, 1] bcast_S8x4096_S8x4096x1_0_1) v220
  let v222 : (⟨S8x4096, .f32⟩ : BufTy).Contents (Elt F) := ((fun x i => Host.gather gather_S8x10_S8x4096x1_S8x4096_n_1_0_0_1_2_11 x i)) v215 v221
  v222

/-- The sum of the numerators of every cluster. -/
noncomputable def rMass (v224 : (⟨S8x4096, .f32⟩ : BufTy).Contents (Elt F)) (v232 : (⟨S8x4096x10, .i1⟩ : BufTy).Contents (Elt F)) : (⟨S8x10, .f32⟩ : BufTy).Contents (Elt F) :=
  let v225 : (⟨S8x4096x1, .f32⟩ : BufTy).Contents (Elt F) := (broadcastInDim S8x4096x1 ![0, 1] bcast_S8x4096_S8x4096x1_0_1) v224
  let v233 : (⟨S8x4096x10x1, .i1⟩ : BufTy).Contents (Elt F) := (broadcastInDim S8x4096x10x1 ![0, 1, 2] bcast_S8x4096x10_S8x4096x10x1_0_1_2) v232
  let v234 : (⟨S8x4096x1x1, .f32⟩ : BufTy).Contents (Elt F) := (broadcastInDim S8x4096x1x1 ![0, 1, 3] bcast_S8x4096x1_S8x4096x1x1_0_1_3) v225
  let cst_41 : (⟨S_, .f32⟩ : BufTy).Contents (Elt F) := (constant S_ .f32 0x00000000#32)
  let call18_v0 : (⟨S_, .f32⟩ : BufTy).Contents (Elt F) := id cst_41
  let call18_v1 : (⟨S8x4096x10x1, .f32⟩ : BufTy).Contents (Elt F) := (broadcastInDim S8x4096x10x1 ![0, 1, 2, 3] bcast_S8x4096x1x1_S8x4096x10x1_0_1_2_3) v234
  let call18_v2 : (⟨S4096x10x1, .f32⟩ : BufTy).Contents (Elt F) := (broadcastInDim S4096x10x1 ![] bcast_S_S4096x10x1) call18_v0
  let call18_v3 : (⟨S8x4096x10x1, .f32⟩ : BufTy).Contents (Elt F) := (broadcastInDim S8x4096x10x1 ![1, 2, 3] bcast_S4096x10x1_S8x4096x10x1_1_2_3) call18_v2
  let v235 : (⟨S8x4096x10x1, .f32⟩ : BufTy).Contents (Elt F) := select v233 call18_v1 call18_v3
  let cst_42 : (⟨S_, .f32⟩ : BufTy).Contents (Elt F) := (constant S_ .f32 0x00000000#32)
  let v236 : (⟨S8x10x1, .f32⟩ : BufTy).Contents (Elt F) := ((fun x v => Host.reduceAdd x v reducesTo_S8x4096x10x1_S8x10x1_d1 h_S_)) v235 cst_42
  let v237 : (⟨S8x10, .f32⟩ : BufTy).Contents (Elt F) := shapeCast S8x10 v236 shapeCasts_S8x10x1_S8x10
  v237

/-- The weight of every patch in its cluster. -/
noncomputable def rWgt (v224 : (⟨S8x4096, .f32⟩ : BufTy).Contents (Elt F)) (v244 : (⟨S8x4096, .f32⟩ : BufTy).Contents (Elt F)) : (⟨S8x4096, .f32⟩ : BufTy).Contents (Elt F) :=
  let cst_45 : (⟨S_, .f32⟩ : BufTy).Contents (Elt F) := (constant S_ .f32 0x2B8CBCCC#32)
  let v245 : (⟨S8x4096, .f32⟩ : BufTy).Contents (Elt F) := (broadcastInDim S8x4096 ![] bcast_S_S8x4096) cst_45
  let v246 : (⟨S8x4096, .f32⟩ : BufTy).Contents (Elt F) := (maximumf) v244 v245
  let v247 : (⟨S8x4096, .f32⟩ : BufTy).Contents (Elt F) := (Host.divf) v224 v246
  v247

/-- The weight of every patch, along its embedding. -/
noncomputable def rWide (v247 : (⟨S8x4096, .f32⟩ : BufTy).Contents (Elt F)) : (⟨S8x4096x256, .f32⟩ : BufTy).Contents (Elt F) :=
  let v248 : (⟨S8x4096x1, .f32⟩ : BufTy).Contents (Elt F) := (broadcastInDim S8x4096x1 ![0, 1] bcast_S8x4096_S8x4096x1_0_1) v247
  let v249 : (⟨S8x4096x256, .f32⟩ : BufTy).Contents (Elt F) := (broadcastInDim S8x4096x256 ![0, 1, 2] bcast_S8x4096x1_S8x4096x256_0_1_2) v248
  v249

/-- The weighted sum of the embeddings of every cluster. -/
noncomputable def rReg (v249 : (⟨S8x4096x256, .f32⟩ : BufTy).Contents (Elt F)) (v5 : (⟨S8x4096x256, .f32⟩ : BufTy).Contents (Elt F)) (v257 : (⟨S8x4096x10, .i1⟩ : BufTy).Contents (Elt F)) : (⟨S8x10x256, .f32⟩ : BufTy).Contents (Elt F) :=
  let v250 : (⟨S8x4096x256, .f32⟩ : BufTy).Contents (Elt F) := (mulf) v249 v5
  let v258 : (⟨S8x4096x10x1, .i1⟩ : BufTy).Contents (Elt F) := (broadcastInDim S8x4096x10x1 ![0, 1, 2] bcast_S8x4096x10_S8x4096x10x1_0_1_2) v257
  let v259 : (⟨S8x4096x1x256, .f32⟩ : BufTy).Contents (Elt F) := (broadcastInDim S8x4096x1x256 ![0, 1, 3] bcast_S8x4096x256_S8x4096x1x256_0_1_3) v250
  let cst_46 : (⟨S_, .f32⟩ : BufTy).Contents (Elt F) := (constant S_ .f32 0x00000000#32)
  let call19_v0 : (⟨S_, .f32⟩ : BufTy).Contents (Elt F) := id cst_46
  let call19_v1 : (⟨S8x4096x10x256, .i1⟩ : BufTy).Contents (Elt F) := (broadcastInDim S8x4096x10x256 ![0, 1, 2, 3] bcast_S8x4096x10x1_S8x4096x10x256_0_1_2_3) v258
  let call19_v2 : (⟨S8x4096x10x256, .f32⟩ : BufTy).Contents (Elt F) := (broadcastInDim S8x4096x10x256 ![0, 1, 2, 3] bcast_S8x4096x1x256_S8x4096x10x256_0_1_2_3) v259
  let call19_v3 : (⟨S4096x10x256, .f32⟩ : BufTy).Contents (Elt F) := (broadcastInDim S4096x10x256 ![] bcast_S_S4096x10x256) call19_v0
  let call19_v4 : (⟨S8x4096x10x256, .f32⟩ : BufTy).Contents (Elt F) := (broadcastInDim S8x4096x10x256 ![1, 2, 3] bcast_S4096x10x256_S8x4096x10x256_1_2_3) call19_v3
  let v260 : (⟨S8x4096x10x256, .f32⟩ : BufTy).Contents (Elt F) := select call19_v1 call19_v2 call19_v4
  let cst_47 : (⟨S_, .f32⟩ : BufTy).Contents (Elt F) := (constant S_ .f32 0x00000000#32)
  let v261 : (⟨S8x10x256, .f32⟩ : BufTy).Contents (Elt F) := ((fun x v => Host.reduceAdd x v reducesTo_S8x4096x10x256_S8x10x256_d1 h_S_)) v260 cst_47
  v261

/-- The features of every region. -/
noncomputable def rFeat (v261 : (⟨S8x10x256, .f32⟩ : BufTy).Contents (Elt F)) (cst_48 : (⟨S_, .f32⟩ : BufTy).Contents (Elt F)) (arg7 : (⟨S256, .f32⟩ : BufTy).Contents (Elt F)) (arg8 : (⟨S256, .f32⟩ : BufTy).Contents (Elt F)) (arg9 : (⟨S256x256, .f32⟩ : BufTy).Contents (Elt F)) (arg10 : (⟨S256, .f32⟩ : BufTy).Contents (Elt F)) : (⟨S8x10x256, .f32⟩ : BufTy).Contents (Elt F) :=
  let v262 : (⟨S_, .f32⟩ : BufTy).Contents (Elt F) := (Host.sqrt) cst_48
  let v263 : (⟨S_, .f32⟩ : BufTy).Contents (Elt F) := (id) v262
  let v264 : (⟨S8x10x256, .f32⟩ : BufTy).Contents (Elt F) := (broadcastInDim S8x10x256 ![] bcast_S_S8x10x256) v263
  let v265 : (⟨S8x10x256, .f32⟩ : BufTy).Contents (Elt F) := (Host.divf) v261 v264
  let v266 : (⟨S1x256, .f32⟩ : BufTy).Contents (Elt F) := (broadcastInDim S1x256 ![1] bcast_S256_S1x256_1) arg7
  let v267 : (⟨S1x1x256, .f32⟩ : BufTy).Contents (Elt F) := (broadcastInDim S1x1x256 ![1, 2] bcast_S1x256_S1x1x256_1_2) v266
  let v268 : (⟨S8x10x256, .f32⟩ : BufTy).Contents (Elt F) := (broadcastInDim S8x10x256 ![0, 1, 2] bcast_S1x1x256_S8x10x256_0_1_2) v267
  let v269 : (⟨S8x10x256, .f32⟩ : BufTy).Contents (Elt F) := (mulf) v265 v268
  let v270 : (⟨S1x256, .f32⟩ : BufTy).Contents (Elt F) := (broadcastInDim S1x256 ![1] bcast_S256_S1x256_1) arg8
  let v271 : (⟨S1x1x256, .f32⟩ : BufTy).Contents (Elt F) := (broadcastInDim S1x1x256 ![1, 2] bcast_S1x256_S1x1x256_1_2) v270
  let v272 : (⟨S8x10x256, .f32⟩ : BufTy).Contents (Elt F) := (broadcastInDim S8x10x256 ![0, 1, 2] bcast_S1x1x256_S8x10x256_0_1_2) v271
  let v273 : (⟨S8x10x256, .f32⟩ : BufTy).Contents (Elt F) := (addf) v269 v272
  let v274 : (⟨S8x10x256, .f32⟩ : BufTy).Contents (Elt F) := ((fun l r => Host.dotGeneral dot_S8x10x256_S256x256_S8x10x256_2_0_01_1_n_n none l r)) v273 arg9
  let v275 : (⟨S1x256, .f32⟩ : BufTy).Contents (Elt F) := (broadcastInDim S1x256 ![1] bcast_S256_S1x256_1) arg10
  let v276 : (⟨S1x1x256, .f32⟩ : BufTy).Contents (Elt F) := (broadcastInDim S1x1x256 ![1, 2] bcast_S1x256_S1x1x256_1_2) v275
  let v277 : (⟨S8x10x256, .f32⟩ : BufTy).Contents (Elt F) := (broadcastInDim S8x10x256 ![0, 1, 2] bcast_S1x1x256_S8x10x256_0_1_2) v276
  let v278 : (⟨S8x10x256, .f32⟩ : BufTy).Contents (Elt F) := (addf) v274 v277
  v278

/-- The attention logit of every region. -/
noncomputable def rLogit (v278 : (⟨S8x10x256, .f32⟩ : BufTy).Contents (Elt F)) (arg11 : (⟨S256x256, .f32⟩ : BufTy).Contents (Elt F)) (arg12 : (⟨S256, .f32⟩ : BufTy).Contents (Elt F)) (arg13 : (⟨S256x1, .f32⟩ : BufTy).Contents (Elt F)) (arg14 : (⟨S1, .f32⟩ : BufTy).Contents (Elt F)) : (⟨S8x10x1, .f32⟩ : BufTy).Contents (Elt F) :=
  let v279 : (⟨S8x10x256, .f32⟩ : BufTy).Contents (Elt F) := ((fun l r => Host.dotGeneral dot_S8x10x256_S256x256_S8x10x256_2_0_01_1_n_n none l r)) v278 arg11
  let v280 : (⟨S1x1x256, .f32⟩ : BufTy).Contents (Elt F) := (broadcastInDim S1x1x256 ![2] bcast_S256_S1x1x256_2) arg12
  let v281 : (⟨S8x10x256, .f32⟩ : BufTy).Contents (Elt F) := (broadcastInDim S8x10x256 ![0, 1, 2] bcast_S1x1x256_S8x10x256_0_1_2) v280
  let v282 : (⟨S8x10x256, .f32⟩ : BufTy).Contents (Elt F) := (addf) v279 v281
  let v283 : (⟨S8x10x256, .f32⟩ : BufTy).Contents (Elt F) := (Host.tanh) v282
  let v284 : (⟨S8x10x1, .f32⟩ : BufTy).Contents (Elt F) := ((fun l r => Host.dotGeneral dot_S8x10x256_S256x1_S8x10x1_2_0_01_1_n_n none l r)) v283 arg13
  let v285 : (⟨S1x1x1, .f32⟩ : BufTy).Contents (Elt F) := (broadcastInDim S1x1x1 ![2] bcast_S1_S1x1x1_2) arg14
  let v286 : (⟨S8x10x1, .f32⟩ : BufTy).Contents (Elt F) := (broadcastInDim S8x10x1 ![0, 1, 2] bcast_S1x1x1_S8x10x1_0_1_2) v285
  let v287 : (⟨S8x10x1, .f32⟩ : BufTy).Contents (Elt F) := (addf) v284 v286
  v287

/-- The share of every region. -/
noncomputable def rSoft (v287 : (⟨S8x10x1, .f32⟩ : BufTy).Contents (Elt F)) : (⟨S8x10x1, .f32⟩ : BufTy).Contents (Elt F) :=
  let cst_49 : (⟨S_, .f32⟩ : BufTy).Contents (Elt F) := (constant S_ .f32 0xFF800000#32)
  let v288 : (⟨S8x1, .f32⟩ : BufTy).Contents (Elt F) := ((fun x v => Host.reduce FloatOps.maximumf x v reducesTo_S8x10x1_S8x1_d1 h_S_)) v287 cst_49
  let cst_50 : (⟨S_, .f32⟩ : BufTy).Contents (Elt F) := (constant S_ .f32 0xFF800000#32)
  let v289 : (⟨S8x1, .f32⟩ : BufTy).Contents (Elt F) := (broadcastInDim S8x1 ![] bcast_S_S8x1) cst_50
  let v290 : (⟨S8x1, .f32⟩ : BufTy).Contents (Elt F) := (maximumf) v289 v288
  let v291 : (⟨S8x1x1, .f32⟩ : BufTy).Contents (Elt F) := (broadcastInDim S8x1x1 ![0, 2] bcast_S8x1_S8x1x1_0_2) v290
  let v292 : (⟨S8x10x1, .f32⟩ : BufTy).Contents (Elt F) := (broadcastInDim S8x10x1 ![0, 1, 2] bcast_S8x1x1_S8x10x1_0_1_2) v291
  let v293 : (⟨S8x10x1, .f32⟩ : BufTy).Contents (Elt F) := (subf) v287 v292
  let v294 : (⟨S8x10x1, .f32⟩ : BufTy).Contents (Elt F) := (Host.exp) v293
  let cst_51 : (⟨S_, .f32⟩ : BufTy).Contents (Elt F) := (constant S_ .f32 0x00000000#32)
  let v295 : (⟨S8x1, .f32⟩ : BufTy).Contents (Elt F) := ((fun x v => Host.reduceAdd x v reducesTo_S8x10x1_S8x1_d1 h_S_)) v294 cst_51
  let v296 : (⟨S8x1x1, .f32⟩ : BufTy).Contents (Elt F) := (broadcastInDim S8x1x1 ![0, 2] bcast_S8x1_S8x1x1_0_2) v295
  let v297 : (⟨S8x10x1, .f32⟩ : BufTy).Contents (Elt F) := (broadcastInDim S8x10x1 ![0, 1, 2] bcast_S8x1x1_S8x10x1_0_1_2) v296
  let v298 : (⟨S8x10x1, .f32⟩ : BufTy).Contents (Elt F) := (Host.divf) v294 v297
  v298

/-- The weighted sum of the regions. -/
noncomputable def rSlide (v298 : (⟨S8x10x1, .f32⟩ : BufTy).Contents (Elt F)) (v278 : (⟨S8x10x256, .f32⟩ : BufTy).Contents (Elt F)) : (⟨S8x256, .f32⟩ : BufTy).Contents (Elt F) :=
  let v299 : (⟨S8x10x256, .f32⟩ : BufTy).Contents (Elt F) := (broadcastInDim S8x10x256 ![0, 1, 2] bcast_S8x10x1_S8x10x256_0_1_2) v298
  let v300 : (⟨S8x10x256, .f32⟩ : BufTy).Contents (Elt F) := (mulf) v299 v278
  let cst_52 : (⟨S_, .f32⟩ : BufTy).Contents (Elt F) := (constant S_ .f32 0x00000000#32)
  let v301 : (⟨S8x256, .f32⟩ : BufTy).Contents (Elt F) := ((fun x v => Host.reduceAdd x v reducesTo_S8x10x256_S8x256_d1 h_S_)) v300 cst_52
  v301

/-- The class scores. -/
noncomputable def rOut (v301 : (⟨S8x256, .f32⟩ : BufTy).Contents (Elt F)) (arg15 : (⟨S256, .f32⟩ : BufTy).Contents (Elt F)) (arg16 : (⟨S256, .f32⟩ : BufTy).Contents (Elt F)) (arg17 : (⟨S256x2, .f32⟩ : BufTy).Contents (Elt F)) (arg18 : (⟨S2, .f32⟩ : BufTy).Contents (Elt F)) : (⟨S8x2, .f32⟩ : BufTy).Contents (Elt F) :=
  let cst_53 : (⟨S_, .f32⟩ : BufTy).Contents (Elt F) := (constant S_ .f32 0x3F800054#32)
  let v302 : (⟨S_, .f32⟩ : BufTy).Contents (Elt F) := (Host.sqrt) cst_53
  let v303 : (⟨S_, .f32⟩ : BufTy).Contents (Elt F) := (id) v302
  let v304 : (⟨S8x256, .f32⟩ : BufTy).Contents (Elt F) := (broadcastInDim S8x256 ![] bcast_S_S8x256) v303
  let v305 : (⟨S8x256, .f32⟩ : BufTy).Contents (Elt F) := (Host.divf) v301 v304
  let v306 : (⟨S1x256, .f32⟩ : BufTy).Contents (Elt F) := (broadcastInDim S1x256 ![1] bcast_S256_S1x256_1) arg15
  let v307 : (⟨S8x256, .f32⟩ : BufTy).Contents (Elt F) := (broadcastInDim S8x256 ![0, 1] bcast_S1x256_S8x256_0_1) v306
  let v308 : (⟨S8x256, .f32⟩ : BufTy).Contents (Elt F) := (mulf) v305 v307
  let v309 : (⟨S1x256, .f32⟩ : BufTy).Contents (Elt F) := (broadcastInDim S1x256 ![1] bcast_S256_S1x256_1) arg16
  let v310 : (⟨S8x256, .f32⟩ : BufTy).Contents (Elt F) := (broadcastInDim S8x256 ![0, 1] bcast_S1x256_S8x256_0_1) v309
  let v311 : (⟨S8x256, .f32⟩ : BufTy).Contents (Elt F) := (addf) v308 v310
  let v312 : (⟨S8x2, .f32⟩ : BufTy).Contents (Elt F) := ((fun l r => Host.dotGeneral dot_S8x256_S256x2_S8x2_1_0_0_1_n_n none l r)) v311 arg17
  let v313 : (⟨S1x2, .f32⟩ : BufTy).Contents (Elt F) := (broadcastInDim S1x2 ![1] bcast_S2_S1x2_1) arg18
  let v314 : (⟨S8x2, .f32⟩ : BufTy).Contents (Elt F) := (broadcastInDim S8x2 ![0, 1] bcast_S1x2_S8x2_0_1) v313
  let v315 : (⟨S8x2, .f32⟩ : BufTy).Contents (Elt F) := (addf) v312 v314
  v315

/-- The centroids after a round from the labels of the round. -/
noncomputable def rNext (e : (⟨S8x4096x256, .f32⟩ : BufTy).Contents (Elt F)) (l : (⟨S8x4096, .i32⟩ : BufTy).Contents (Elt F)) :
    (⟨S8x10x256, .f32⟩ : BufTy).Contents (Elt F) :=
  rDiv (rSum (rMem (F := F) l) e) (rCnt (rMem (F := F) l) rOnes)

/-- One round of the clustering: the centroids after it from those before it. -/
noncomputable def rRound (e : (⟨S8x4096x256, .f32⟩ : BufTy).Contents (Elt F)) (c : (⟨S8x10x256, .f32⟩ : BufTy).Contents (Elt F)) :
    (⟨S8x10x256, .f32⟩ : BufTy).Contents (Elt F) :=
  rNext e (rLab (rDist e c))

/-- The numerator of every patch's weight. -/
noncomputable def rNum (a : (⟨S8x4096, .f32⟩ : BufTy).Contents (Elt F)) (l : (⟨S8x4096, .i32⟩ : BufTy).Contents (Elt F)) :
    (⟨S8x4096, .f32⟩ : BufTy).Contents (Elt F) :=
  Host.exp (subf a (rPick (rMax (rMem (F := F) l) a) l))

/-- What stretch 0 leaves in `v5`. -/
theorem seg0_v5 (V : Valuation τ sig (Elt F)) :
    StableHlo.after seg0 V (Proc.devRef .tc main_v5) = rEmb (V (Proc.devRef .tc main_arg0)) (V (Proc.devRef .tc main_arg1)) (V (Proc.devRef .tc main_arg2)) := by
  simp only [seg0, after_two]
  after_reads_simp
  rfl

/-- What stretch 0 leaves in `v10`. -/
theorem seg0_v10 (V : Valuation τ sig (Elt F)) :
    StableHlo.after seg0 V (Proc.devRef .tc main_v10) = rCent0 (rEmb (V (Proc.devRef .tc main_arg0)) (V (Proc.devRef .tc main_arg1)) (V (Proc.devRef .tc main_arg2))) := by
  simp only [seg0, after_two]
  after_reads_simp
  rfl

/-- What stretch 1 leaves in `v18`. -/
theorem seg1_v18 (V : Valuation τ sig (Elt F)) :
    StableHlo.after seg1 V (Proc.devRef .tc main_v18) = rLab (rDist (V (Proc.devRef .tc main_v5)) (V (Proc.devRef .tc main_v10))) := by
  simp only [seg1, after_two]
  after_reads_simp
  rfl

/-- What stretch 2 leaves in `v45`. -/
theorem seg2_v45 (V : Valuation τ sig (Elt F)) :
    StableHlo.after seg2 V (Proc.devRef .tc main_v45) = rNext (V (Proc.devRef .tc main_v5)) (V (Proc.devRef .tc main_v18)) := by
  simp only [seg2, after_two]
  after_reads_simp
  rfl

/-- What stretch 3 leaves in `v53`. -/
theorem seg3_v53 (V : Valuation τ sig (Elt F)) :
    StableHlo.after seg3 V (Proc.devRef .tc main_v53) = rLab (rDist (V (Proc.devRef .tc main_v5)) (V (Proc.devRef .tc main_v45))) := by
  simp only [seg3, after_two]
  after_reads_simp
  rfl

/-- What stretch 4 leaves in `v80`. -/
theorem seg4_v80 (V : Valuation τ sig (Elt F)) :
    StableHlo.after seg4 V (Proc.devRef .tc main_v80) = rNext (V (Proc.devRef .tc main_v5)) (V (Proc.devRef .tc main_v53)) := by
  simp only [seg4, after_two]
  after_reads_simp
  rfl

/-- What stretch 5 leaves in `v88`. -/
theorem seg5_v88 (V : Valuation τ sig (Elt F)) :
    StableHlo.after seg5 V (Proc.devRef .tc main_v88) = rLab (rDist (V (Proc.devRef .tc main_v5)) (V (Proc.devRef .tc main_v80))) := by
  simp only [seg5, after_two]
  after_reads_simp
  rfl

/-- What stretch 6 leaves in `v115`. -/
theorem seg6_v115 (V : Valuation τ sig (Elt F)) :
    StableHlo.after seg6 V (Proc.devRef .tc main_v115) = rNext (V (Proc.devRef .tc main_v5)) (V (Proc.devRef .tc main_v88)) := by
  simp only [seg6, after_two]
  after_reads_simp
  rfl

/-- What stretch 7 leaves in `v123`. -/
theorem seg7_v123 (V : Valuation τ sig (Elt F)) :
    StableHlo.after seg7 V (Proc.devRef .tc main_v123) = rLab (rDist (V (Proc.devRef .tc main_v5)) (V (Proc.devRef .tc main_v115))) := by
  simp only [seg7, after_two]
  after_reads_simp
  rfl

/-- What stretch 8 leaves in `v150`. -/
theorem seg8_v150 (V : Valuation τ sig (Elt F)) :
    StableHlo.after seg8 V (Proc.devRef .tc main_v150) = rNext (V (Proc.devRef .tc main_v5)) (V (Proc.devRef .tc main_v123)) := by
  simp only [seg8, after_two]
  after_reads_simp
  rfl

/-- What stretch 9 leaves in `v158`. -/
theorem seg9_v158 (V : Valuation τ sig (Elt F)) :
    StableHlo.after seg9 V (Proc.devRef .tc main_v158) = rLab (rDist (V (Proc.devRef .tc main_v5)) (V (Proc.devRef .tc main_v150))) := by
  simp only [seg9, after_two]
  after_reads_simp
  rfl

/-- What stretch 10 leaves in `v185`. -/
theorem seg10_v185 (V : Valuation τ sig (Elt F)) :
    StableHlo.after seg10 V (Proc.devRef .tc main_v185) = rNext (V (Proc.devRef .tc main_v5)) (V (Proc.devRef .tc main_v158)) := by
  simp only [seg10, after_two]
  after_reads_simp
  rfl

/-- What stretch 11 leaves in `v193`. -/
theorem seg11_v193 (V : Valuation τ sig (Elt F)) :
    StableHlo.after seg11 V (Proc.devRef .tc main_v193) = rLab (rDist (V (Proc.devRef .tc main_v5)) (V (Proc.devRef .tc main_v185))) := by
  simp only [seg11, after_two]
  after_reads_simp
  rfl

/-- What stretch 12 leaves in `v205`. -/
theorem seg12_v205 (V : Valuation τ sig (Elt F)) :
    StableHlo.after seg12 V (Proc.devRef .tc main_v205) = rAtt (V (Proc.devRef .tc main_v5)) (V (Proc.devRef .tc main_arg3)) (V (Proc.devRef .tc main_arg4)) (V (Proc.devRef .tc main_arg5)) (V (Proc.devRef .tc main_arg6)) := by
  simp only [seg12, after_two]
  after_reads_simp
  rfl

/-- What stretch 13 leaves in `v224`. -/
theorem seg13_v224 (V : Valuation τ sig (Elt F)) :
    StableHlo.after seg13 V (Proc.devRef .tc main_v224) = rNum (V (Proc.devRef .tc main_v205)) (V (Proc.devRef .tc main_v193)) := by
  simp only [seg13, after_two]
  after_reads_simp
  rfl

/-- What stretch 14 leaves in `v249`. -/
theorem seg14_v249 (V : Valuation τ sig (Elt F)) :
    StableHlo.after seg14 V (Proc.devRef .tc main_v249) = rWide (rWgt (V (Proc.devRef .tc main_v224)) (rPick (rMass (V (Proc.devRef .tc main_v224)) (rMem (F := F) (V (Proc.devRef .tc main_v193)))) (V (Proc.devRef .tc main_v193)))) := by
  simp only [seg14, after_two]
  after_reads_simp
  rfl

/-- What stretch 15 leaves in `v261`. -/
theorem seg15_v261 (V : Valuation τ sig (Elt F)) :
    StableHlo.after seg15 V (Proc.devRef .tc main_v261) = rReg (V (Proc.devRef .tc main_v249)) (V (Proc.devRef .tc main_v5)) (rMem (F := F) (V (Proc.devRef .tc main_v193))) := by
  simp only [seg15, after_two]
  after_reads_simp
  rfl

/-- What stretch 15 leaves in `cst_48`. -/
theorem seg15_cst_48 (V : Valuation τ sig (Elt F)) :
    StableHlo.after seg15 V (Proc.devRef .tc main_cst_48) = constant S_ .f32 0x3F800054#32 := by
  simp only [seg15, after_two]
  after_reads_simp

/-- The features of every region from the centroid sums and the constant under the root. -/
noncomputable def rHead (r : (⟨S8x10x256, .f32⟩ : BufTy).Contents (Elt F)) (k : (⟨S_, .f32⟩ : BufTy).Contents (Elt F))
    (a7 a8 : (⟨S256, .f32⟩ : BufTy).Contents (Elt F)) (a9 : (⟨S256x256, .f32⟩ : BufTy).Contents (Elt F)) (a10 : (⟨S256, .f32⟩ : BufTy).Contents (Elt F))
    (a11 : (⟨S256x256, .f32⟩ : BufTy).Contents (Elt F)) (a12 : (⟨S256, .f32⟩ : BufTy).Contents (Elt F)) (a13 : (⟨S256x1, .f32⟩ : BufTy).Contents (Elt F))
    (a14 : (⟨S1, .f32⟩ : BufTy).Contents (Elt F)) (a15 a16 : (⟨S256, .f32⟩ : BufTy).Contents (Elt F))
    (a17 : (⟨S256x2, .f32⟩ : BufTy).Contents (Elt F)) (a18 : (⟨S2, .f32⟩ : BufTy).Contents (Elt F)) : (⟨S8x2, .f32⟩ : BufTy).Contents (Elt F) :=
  rOut (rSlide (rSoft (rLogit (rFeat r k a7 a8 a9 a10) a11 a12 a13 a14)) (rFeat r k a7 a8 a9 a10)) a15 a16 a17 a18

/-- What stretch 16 leaves in `v315`. -/
theorem seg16_v315 (V : Valuation τ sig (Elt F)) :
    StableHlo.after seg16 V (Proc.devRef .tc main_v315) = rHead (V (Proc.devRef .tc main_v261)) (V (Proc.devRef .tc main_cst_48)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  simp only [seg16, after_two]
  after_reads_simp
  rfl

end Cert.ReferenceIdeal.Own

end
-- ==== Proof.First.lean ====
module

public import Idealize.ShloMosaic.Lib.Pointwise
public import Idealize.ShloMosaic.Lib.IdealHost
public import Idealize.ShloMosaic.PureOps.Ideal.Laws

@[expose] public section

noncomputable section

namespace Cert.Own

open Idealize.ShloMosaic

/-! ## The first place of the least value -/

/-- `k` is the first place where `d` is least. -/
def IsFirst (d : Fin 10 → EReal) (k : Fin 10) : Prop := (∀ j, d k ≤ d j) ∧ ∀ j, j < k → d k < d j

/-- There is at most one first place. -/
theorem IsFirst.unique {d : Fin 10 → EReal} {k l : Fin 10} (hk : IsFirst d k) (hl : IsFirst d l) : k = l := by
  rcases lt_trichotomy k l with h | h | h
  · exact absurd (hk.1 l) (not_le.mpr (hl.2 k h))
  · exact h
  · exact absurd (hl.1 k) (not_le.mpr (hk.2 l h))

/-- There is one. -/
theorem IsFirst.ex (d : Fin 10 → EReal) : ∃ k, IsFirst d k := by
  classical
  obtain ⟨m, -, hm⟩ := Finset.exists_min_image Finset.univ d ⟨0, Finset.mem_univ _⟩
  have hne : (Finset.univ.filter fun k => d k = d m).Nonempty := ⟨m, by simp⟩
  refine ⟨(Finset.univ.filter fun k => d k = d m).min' hne, ?_, ?_⟩
  · have h := Finset.min'_mem _ hne
    rw [Finset.mem_filter] at h
    intro j; rw [h.2]; exact hm j (Finset.mem_univ _)
  · intro j hj
    have h := Finset.min'_mem _ hne
    rw [Finset.mem_filter] at h
    rw [h.2]
    refine lt_of_le_of_ne (hm j (Finset.mem_univ _)) fun he => ?_
    have := Finset.min'_le (Finset.univ.filter fun k => d k = d m) j (by simp [he])
    exact absurd hj (not_lt.mpr this)

/-- Adding one real number everywhere moves no first place. -/
theorem IsFirst.of_shift {d d' : Fin 10 → ℝ} (x : ℝ) (h : ∀ j, d' j = x + d j) {k : Fin 10}
    (hk : IsFirst (fun j => (d j : EReal)) k) : IsFirst (fun j => (d' j : EReal)) k := by
  refine ⟨fun j => ?_, fun j hj => ?_⟩
  · have := EReal.coe_le_coe_iff.mp (hk.1 j)
    show ((d' k : ℝ) : EReal) ≤ ((d' j : ℝ) : EReal)
    rw [EReal.coe_le_coe_iff, h, h]; linarith
  · have := EReal.coe_lt_coe_iff.mp (hk.2 j hj)
    show ((d' k : ℝ) : EReal) < ((d' j : ℝ) : EReal)
    rw [EReal.coe_lt_coe_iff, h, h]; linarith

/-! ## The least of words -/

/-- The number of a place, read signed. -/
theorem toInt_place (k : Fin 10) : (BitVec.ofNat 32 k.val).toInt = (k.val : ℤ) := by
  revert k; decide

/-- Two places with one word are one. -/
theorem place_inj {k l : Fin 10} (h : BitVec.ofNat 32 k.val = BitVec.ofNat 32 l.val) : k = l := by
  have := congrArg BitVec.toInt h
  rw [toInt_place, toInt_place] at this
  exact Fin.ext (by exact_mod_cast this)

/-- The signed minimum is below exactly what both are below. -/
theorem le_minsi (c x y : BitVec 32) : c.toInt ≤ (IntOp.minsi x y).toInt ↔ c.toInt ≤ x.toInt ∧ c.toInt ≤ y.toInt := by
  have e : (IntOp.minsi x y).toInt = min x.toInt y.toInt := by
    unfold IntOp.minsi
    split <;> rename_i h <;> simp only [BitVec.sle, BitVec.slt, decide_eq_true_eq] at h <;> omega
  rw [e, le_min_iff]

/-- Among the places marked, the signed minimum of their numbers is the first one's. -/
theorem fold_minsi (v : Fin 10 → BitVec 32) (k : Fin 10) (hk : v k = BitVec.ofNat 32 k.val)
    (hv : ∀ j, (k.val : ℤ) ≤ (v j).toInt) : Finset.univ.fold IntOp.minsi 2147483647#32 v = BitVec.ofNat 32 k.val := by
  have hop := fun c => Finset.fold_op_rel_iff_and (op := IntOp.minsi) (f := v) (b := 2147483647#32) (s := Finset.univ)
    (r := fun a b : BitVec 32 => a.toInt ≤ b.toInt) (hr := fun {x y z} => le_minsi x y z) (c := c)
  apply BitVec.eq_of_toInt_eq
  apply le_antisymm
  · rw [← hk]
    exact ((hop _).mp le_rfl).2 k (Finset.mem_univ _)
  · refine (hop _).mpr ⟨?_, fun j _ => ?_⟩
    · rw [toInt_place]
      have := k.isLt
      have e : (2147483647#32).toInt = 2147483647 := by decide
      rw [e]; omega
    · rw [toInt_place]; exact hv j

/-! ## The reference's fold over pairs -/

/-- The order the fold takes the least in. -/
def Below (a b : EReal × BitVec 32) : Prop := a.1 < b.1 ∨ a.1 = b.1 ∧ a.2.toInt ≤ b.2.toInt

theorem Below.refl (a : EReal × BitVec 32) : Below a a := Or.inr ⟨rfl, le_rfl⟩

theorem Below.trans {a b c : EReal × BitVec 32} (h : Below a b) (h' : Below b c) : Below a c := by
  rcases h with h | ⟨h1, h2⟩ <;> rcases h' with h' | ⟨h1', h2'⟩
  · exact Or.inl (h.trans h')
  · exact Or.inl (h1' ▸ h)
  · exact Or.inl (h1 ▸ h')
  · exact Or.inr ⟨h1.trans h1', h2.trans h2'⟩

/-- A fold that keeps, of two pairs, one below both ends in a pair below all. -/
theorem foldl_below (f : EReal × BitVec 32 → EReal × BitVec 32 → EReal × BitVec 32)
    (hf : ∀ a b, (f a b = a ∨ f a b = b) ∧ Below (f a b) a ∧ Below (f a b) b) (L : List (EReal × BitVec 32)) :
    ∀ i, (L.foldl f i = i ∨ L.foldl f i ∈ L) ∧ Below (L.foldl f i) i ∧ ∀ x ∈ L, Below (L.foldl f i) x := by
  induction L with
  | nil => intro i; exact ⟨Or.inl rfl, Below.refl _, fun x hx => absurd hx (List.not_mem_nil)⟩
  | cons b L ih =>
    intro i
    obtain ⟨h1, h2, h3⟩ := ih (f i b)
    obtain ⟨g1, g2, g3⟩ := hf i b
    rw [List.foldl_cons]
    refine ⟨?_, h2.trans g2, ?_⟩
    · rcases h1 with h1 | h1
      · rcases g1 with g1 | g1
        · exact Or.inl (h1.trans g1)
        · exact Or.inr (by rw [h1, g1]; exact List.mem_cons_self)
      · exact Or.inr (List.mem_cons_of_mem _ h1)
    · intro x hx
      rcases List.mem_cons.mp hx with rfl | hx
      · exact h2.trans g3
      · exact h3 x hx

/-- So a fold over the pairs of a value and its place, from infinity, ends at the first place of the least value. -/
theorem foldl_first (f : EReal × BitVec 32 → EReal × BitVec 32 → EReal × BitVec 32)
    (hf : ∀ a b, (f a b = a ∨ f a b = b) ∧ Below (f a b) a ∧ Below (f a b) b) (L : List (EReal × BitVec 32))
    (d : Fin 10 → EReal) (hd : ∀ j, d j < ⊤) (hL : ∀ x, x ∈ L ↔ ∃ j : Fin 10, x = (d j, BitVec.ofNat 32 j.val)) (w : BitVec 32) :
    ∃ k, IsFirst d k ∧ (L.foldl f (⊤, w)).2 = BitVec.ofNat 32 k.val := by
  obtain ⟨h1, -, h3⟩ := foldl_below f hf L (⊤, w)
  have hall : ∀ j : Fin 10, Below (L.foldl f (⊤, w)) (d j, BitVec.ofNat 32 j.val) := fun j => h3 _ ((hL _).mpr ⟨j, rfl⟩)
  rcases h1 with h1 | h1
  · exfalso
    have := hall 0
    rw [h1] at this
    rcases this with h | ⟨h, -⟩
    · exact absurd (h.trans (hd 0)) (lt_irrefl _)
    · exact absurd ((show (⊤ : EReal) = d 0 from h) ▸ hd 0) (lt_irrefl _)
  · obtain ⟨k, hk⟩ := (hL _).mp h1
    rw [hk] at hall
    refine ⟨k, ⟨fun j => ?_, fun j hj => ?_⟩, by rw [hk]⟩
    · rcases hall j with h | ⟨h, -⟩
      · exact le_of_lt h
      · exact le_of_eq h
    · rcases hall j with h | ⟨-, h⟩
      · exact h
      · exfalso
        have h' : (BitVec.ofNat 32 k.val).toInt ≤ (BitVec.ofNat 32 j.val).toInt := h
        rw [toInt_place, toInt_place] at h'
        have : j.val < k.val := hj
        omega

end Cert.Own

end
-- ==== Proof.RefEval.lean ====
module

public import proofs.«01_k».proof.Proof.RefVal
public import proofs.«01_k».proof.Proof.First

@[expose] public section

set_option maxRecDepth 16384

noncomputable section

namespace Cert.ReferenceIdeal.Own

open Idealize.ShloMosaic Idealize.ShloMosaic.Tactic
open Cert.Own

/-! ## Constants -/

/-- The pattern of minus infinity. -/
theorem ofBits_bot : Ideal.ofBits .f32 4286578688#32 = ⊥ := by simp [Ideal.ofBits, Ideal.ieee]

/-- The pattern of plus infinity. -/
theorem ofBits_top : Ideal.ofBits .f32 2139095040#32 = ⊤ := by simp [Ideal.ofBits, Ideal.ieee]

/-- Minus infinity, as the operations' constant. -/
theorem bot_at : FloatOps.ofBits (F := Ideal) .f32 4286578688#32 = (⊥ : EReal) := ofBits_bot

/-- Zero, as the operations' constant. -/
theorem zero_at : FloatOps.ofBits (F := Ideal) .f32 0#32 = (0 : EReal) := Ideal.ofBits_zero_f32

/-- A choice by the equality of two places' words is one by the equality of the places. -/
theorem select_place {α : Type} (i k : Fin 10) (x y : α) :
    Scalar.select (IntOp.cmpi .eq (BitVec.ofNat 32 i.val) (BitVec.ofNat 32 k.val)) x y = if i = k then x else y := by
  by_cases h : i = k
  · subst h; simp [Scalar.select, IntOp.cmpi]
  · have h' : ¬BitVec.ofNat 32 i.val = BitVec.ofNat 32 k.val := fun e => h (place_inj e)
    simp only [Scalar.select, IntOp.cmpi, beq_eq_false_iff_ne.2 h', BitVec.ofBool_false, if_neg h]
    rfl

/-! ## The reference's values at an index -/

/-- An embedding. -/
theorem rEmb_apply (a0 : Vec Ideal S8x4096x1024 .f32) (a1 : Vec Ideal S1024x256 .f32) (a2 : Vec Ideal S256 .f32)
    (b : Fin 8) (p : Fin 4096) (d : Fin 256) :
    rEmb (F := Ideal) a0 a1 a2 (ix3 b p d) = max (∑ x : Fin 1024, a0 (ix3 b p x) * a1 (ix2 x d) + a2 (ix1 d)) 0 := by
  pointwise [rEmb]

/-- A squared distance. -/
theorem rDist_apply (e : Vec Ideal S8x4096x256 .f32) (c : Vec Ideal S8x10x256 .f32) (b : Fin 8) (p : Fin 4096) (k : Fin 10) :
    rDist (F := Ideal) e c (ix3 b p k)
      = ∑ x : Fin 256, (e (ix3 b p x) - c (ix3 b k x)) * (e (ix3 b p x) - c (ix3 b k x)) := by
  pointwise [rDist]

/-- The row a first centroid is taken from. -/
def seedRow (k : Fin 10) : Fin 4096 := ⟨455 * k.val, by omega⟩

/-- The row the first gather starts at. -/
theorem seed_start (b : Fin 8) (k : Fin 10) (d : Fin 256) (i : IVec S10x1 32) :
    (gather_S8x4096x256_S10x1_S8x10x256_02_1_n_n_1_1_81256.operandIdx (ix3 b k d) i 1).val = min (i (ix2 k 0)).toInt.toNat 4095 := by
  have hs : gather_S8x4096x256_S10x1_S8x10x256_02_1_n_n_1_1_81256.siIdx (ix3 b k d) ⟨0, by decide⟩ = ix2 k 0 := by
    funext a
    match a with
    | ⟨0, _⟩ => rfl
    | ⟨1, _⟩ => rfl
  rw [← hs]
  rfl

/-- A first centroid. -/
theorem rCent0_apply (e : Vec Ideal S8x4096x256 .f32) (b : Fin 8) (k : Fin 10) (d : Fin 256) :
    rCent0 (F := Ideal) e (ix3 b k d) = e (ix3 b (seedRow k) d) := by
  unfold rCent0
  simp only [Host.gather]
  refine congrArg e ?_
  funext a
  match a with
  | ⟨0, _⟩ => exact Fin.ext (Nat.zero_add _)
  | ⟨1, _⟩ =>
    refine Fin.ext ((seed_start b k d _).trans ?_)
    have h : ∀ k : Fin 10, min (lit0 k).toInt.toNat 4095 = (455 * k.val : ℕ) := by decide
    refine Eq.trans ?_ (h k)
    have h' : ∀ k : Fin 10, lit0 (S10.rowMajor (ix1 k)) = lit0 k := by decide
    rw [← h']
    rfl
  | ⟨2, _⟩ => exact Fin.ext (Nat.zero_add _)

/-- The reducer keeps the smaller value, and of two equal ones the smaller place. -/
theorem reducer_first (u1 v1 : EReal) (u2 v2 : BitVec 32) :
    (reducer_argmin_f32_i32 (F := Ideal) (u1, u2) (v1, v2) = (u1, u2) ∨ reducer_argmin_f32_i32 (F := Ideal) (u1, u2) (v1, v2) = (v1, v2))
      ∧ Below (reducer_argmin_f32_i32 (F := Ideal) (u1, u2) (v1, v2)) (u1, u2)
      ∧ Below (reducer_argmin_f32_i32 (F := Ideal) (u1, u2) (v1, v2)) (v1, v2) := by
  have e : reducer_argmin_f32_i32 (F := Ideal) (u1, u2) (v1, v2)
      = if u1 < v1 then (u1, u2) else if u1 = v1 ∧ u2.toInt < v2.toInt then (u1, u2) else (v1, v2) := by
    rcases lt_trichotomy u1 v1 with h | h | h
    · simp [reducer_argmin_f32_i32, Scalar.select, IntOp.cmpi, IntOp.ori, IntOp.andi, Ideal.cmpf_def, Ideal.cmp, h, h.ne]
    · subst h
      by_cases h2 : u2.toInt < v2.toInt
      · simp [reducer_argmin_f32_i32, Scalar.select, IntOp.cmpi, IntOp.ori, IntOp.andi, Ideal.cmpf_def, Ideal.cmp, h2, BitVec.slt]
      · simp [reducer_argmin_f32_i32, Scalar.select, IntOp.cmpi, IntOp.ori, IntOp.andi, Ideal.cmpf_def, Ideal.cmp, h2, BitVec.slt]
    · simp [reducer_argmin_f32_i32, Scalar.select, IntOp.cmpi, IntOp.ori, IntOp.andi, Ideal.cmpf_def, Ideal.cmp, h.not_gt, h.ne']
  rw [e]
  rcases lt_trichotomy u1 v1 with h | h | h
  · rw [if_pos h]
    exact ⟨.inl rfl, .inr ⟨rfl, le_rfl⟩, .inl h⟩
  · subst h
    rw [if_neg (lt_irrefl _)]
    by_cases h2 : u2.toInt < v2.toInt
    · rw [if_pos ⟨rfl, h2⟩]
      exact ⟨.inl rfl, .inr ⟨rfl, le_rfl⟩, .inr ⟨rfl, h2.le⟩⟩
    · rw [if_neg (fun h => h2 h.2)]
      exact ⟨.inr rfl, .inr ⟨rfl, not_lt.1 h2⟩, .inr ⟨rfl, le_rfl⟩⟩
  · rw [if_neg h.not_gt, if_neg (fun h' => h.ne' h'.1)]
    exact ⟨.inr rfl, .inl h, .inr ⟨rfl, le_rfl⟩⟩

/-- A label is the first nearest centroid. -/
theorem rLab_apply (x : Vec Ideal S8x4096x10 .f32) (b : Fin 8) (p : Fin 4096) (hd : ∀ k : Fin 10, x (ix3 b p k) < ⊤) :
    ∃ k : Fin 10, IsFirst (fun k => x (ix3 b p k)) k ∧ rLab (F := Ideal) x (ix2 b p) = BitVec.ofNat 32 k.val := by
  have key := fun w => foldl_first (reducer_argmin_f32_i32 (F := Ideal)) ?_ (Host.argReduceFiber x (iotaInDim S8x4096x10 32 2)
    Facts₀.reducesTo_S8x4096x10_S8x4096_d2 (ix2 b p)) (fun k => x (ix3 b p k)) hd ?_ w
  · obtain ⟨k, h1, h2⟩ := key 0#32
    refine ⟨k, h1, ?_⟩
    rw [← h2]
    unfold rLab
    simp only [Ideal.argReduce_eq_reduce2, Host.reduce2_eq_foldl_fiber]
    rw [constant_apply, show FloatOps.ofBits (F := Ideal) .f32 0x7F800000#32 = (⊤ : EReal) from ofBits_top]
    rfl
  · intro u v
    obtain ⟨u1, u2⟩ := u
    obtain ⟨v1, v2⟩ := v
    exact reducer_first u1 v1 u2 v2
  · intro y
    unfold Host.argReduceFiber
    simp only [List.mem_map, List.mem_filter, List.mem_finRange, true_and, decide_eq_true_eq]
    constructor
    · rintro ⟨n, hn, rfl⟩
      generalize S8x4096x10.rowMajor.symm n = i at hn
      have h0 : i 0 = b := Fin.ext ((Shape.ReducesTo.drop_apply_val Facts₀.reducesTo_S8x4096x10_S8x4096_d2 i 0).symm.trans
        (congrArg (fun q : S8x4096.Idx => (q 0).val) hn))
      have h1 : i 1 = p := Fin.ext ((Shape.ReducesTo.drop_apply_val Facts₀.reducesTo_S8x4096x10_S8x4096_d2 i 1).symm.trans
        (congrArg (fun q : S8x4096.Idx => (q 1).val) hn))
      have hi : i = ix3 b p (i 2) := by
        funext a
        match a with
        | ⟨0, _⟩ => exact h0
        | ⟨1, _⟩ => exact h1
        | ⟨2, _⟩ => rfl
      exact ⟨i 2, Prod.ext (congrArg x hi) rfl⟩
    · rintro ⟨j, rfl⟩
      refine ⟨S8x4096x10.rowMajor (ix3 b p j), ?_, ?_⟩
      · rw [Equiv.symm_apply_apply]
        funext a
        match a with
        | ⟨0, _⟩ => exact Fin.ext (Shape.ReducesTo.drop_apply_val Facts₀.reducesTo_S8x4096x10_S8x4096_d2 (ix3 b p j) 0)
        | ⟨1, _⟩ => exact Fin.ext (Shape.ReducesTo.drop_apply_val Facts₀.reducesTo_S8x4096x10_S8x4096_d2 (ix3 b p j) 1)
      · rw [Equiv.symm_apply_apply]
        rfl

/-- Membership in a cluster. -/
theorem rMem_apply (l : IVec S8x4096 32) (b : Fin 8) (p : Fin 4096) (k : Fin 10) :
    rMem (F := Ideal) l (ix3 b p k) = IntOp.cmpi .eq (l (ix2 b p)) (BitVec.ofNat 32 k.val) := by
  pointwise [rMem]

/-- The centroids after a round, from the places of the labels. -/
theorem rNext_apply (e : Vec Ideal S8x4096x256 .f32) (l : IVec S8x4096 32) (b : Fin 8) (L : Fin 4096 → Fin 10)
    (hl : ∀ p, l (ix2 b p) = BitVec.ofNat 32 (L p).val) (k : Fin 10) (d : Fin 256) :
    rNext (F := Ideal) e l (ix3 b k d)
      = Ideal.div (∑ p : Fin 4096, if L p = k then e (ix3 b p d) else 0) (max (∑ p : Fin 4096, if L p = k then (1 : EReal) else 0) 1) := by
  pointwise [rNext, rDiv, rSum, rCnt, rOnes]
  simp only [rMem_apply, hl, select_place, id_eq, constant_apply, zero_at]

/-- An attention logit. -/
theorem rAtt_apply (e : Vec Ideal S8x4096x256 .f32) (a3 : Vec Ideal S256x256 .f32) (a4 : Vec Ideal S256 .f32)
    (a5 : Vec Ideal S256x1 .f32) (a6 : Vec Ideal S1 .f32) (b : Fin 8) (p : Fin 4096) :
    rAtt (F := Ideal) e a3 a4 a5 a6 (ix2 b p)
      = ∑ x : Fin 256, Ideal.tanh (∑ y : Fin 256, e (ix3 b p y) * a3 (ix2 y x) + a4 (ix1 x)) * a5 (ix2 x 0) + a6 (ix1 0) := by
  pointwise [rAtt]

/-- The largest logit of a cluster. -/
theorem rMax_apply (l : IVec S8x4096 32) (a : Vec Ideal S8x4096 .f32) (b : Fin 8) (L : Fin 4096 → Fin 10)
    (hl : ∀ p, l (ix2 b p) = BitVec.ofNat 32 (L p).val) (k : Fin 10) :
    rMax (F := Ideal) (rMem (F := Ideal) l) a (ix2 b k)
      = Finset.univ.fold max (⊥ : EReal) fun p : Fin 4096 => if L p = k then a (ix2 b p) else ⊥ := by
  pointwise [rMax]
  simp only [rMem_apply, hl, select_place, id_eq, constant_apply, bot_at, ofBits_bot]

/-- The column the second gather starts at. -/
theorem pick_start (b : Fin 8) (p : Fin 4096) (i : IVec S8x4096x1 32) :
    (gather_S8x10_S8x4096x1_S8x4096_n_1_0_0_1_2_11.operandIdx (ix2 b p) i 1).val = min (i (ix3 b p 0)).toInt.toNat 9 := by
  have hs : gather_S8x10_S8x4096x1_S8x4096_n_1_0_0_1_2_11.siIdx (ix2 b p) ⟨0, by decide⟩ = ix3 b p 0 := by
    funext a
    match a with
    | ⟨0, _⟩ => rfl
    | ⟨1, _⟩ => rfl
    | ⟨2, _⟩ => rfl
  rw [← hs]
  rfl

/-- The entry of a table at the cluster of a patch. -/
theorem rPick_apply (t : Vec Ideal S8x10 .f32) (l : IVec S8x4096 32) (b : Fin 8) (p : Fin 4096) (k : Fin 10)
    (hl : l (ix2 b p) = BitVec.ofNat 32 k.val) : rPick (F := Ideal) t l (ix2 b p) = t (ix2 b k) := by
  unfold rPick
  simp only [Host.gather]
  refine congrArg t ?_
  funext a
  match a with
  | ⟨0, _⟩ => exact Fin.ext ((Nat.add_zero _).trans (Nat.zero_add _))
  | ⟨1, _⟩ =>
    have h : ∀ k : Fin 10, min (Scalar.select (IntOp.cmpi .slt (BitVec.ofNat 32 k.val) 0#32)
        (IntOp.addi (BitVec.ofNat 32 k.val) 10#32) (BitVec.ofNat 32 k.val)).toInt.toNat 9 = k.val := by decide
    refine Fin.ext ((pick_start b p _).trans (Eq.trans ?_ (h k)))
    rw [← hl]
    refine congrArg (fun w : BitVec 32 => min w.toInt.toNat 9) ?_
    pointwise

/-- The sum of a cluster's numerators. -/
theorem rMass_apply (n : Vec Ideal S8x4096 .f32) (l : IVec S8x4096 32) (b : Fin 8) (L : Fin 4096 → Fin 10)
    (hl : ∀ p, l (ix2 b p) = BitVec.ofNat 32 (L p).val) (k : Fin 10) :
    rMass (F := Ideal) n (rMem (F := Ideal) l) (ix2 b k) = ∑ p : Fin 4096, if L p = k then n (ix2 b p) else 0 := by
  pointwise [rMass]
  simp only [rMem_apply, hl, select_place, id_eq, constant_apply, zero_at]

/-- The numerator of a patch's weight. -/
theorem rNum_apply (a : Vec Ideal S8x4096 .f32) (l : IVec S8x4096 32) (b : Fin 8) (L : Fin 4096 → Fin 10)
    (hl : ∀ p, l (ix2 b p) = BitVec.ofNat 32 (L p).val) (p : Fin 4096) :
    rNum (F := Ideal) a l (ix2 b p) = Ideal.exp (a (ix2 b p)
      - Finset.univ.fold max (⊥ : EReal) fun q : Fin 4096 => if L q = L p then a (ix2 b q) else ⊥) := by
  pointwise [rNum]
  rw [rPick_apply _ l b p (L p) (hl p), rMax_apply l a b L hl]

/-- The weight of a patch. -/
theorem rWgt_apply (n q : Vec Ideal S8x4096 .f32) (b : Fin 8) (p : Fin 4096) :
    rWgt (F := Ideal) n q (ix2 b p) = Ideal.div (n (ix2 b p)) (max (q (ix2 b p)) (Ideal.ofBits .f32 0x2B8CBCCC#32)) := by
  pointwise [rWgt]

/-- The weighted sum of a cluster's embeddings. -/
theorem rReg_apply (w : Vec Ideal S8x4096 .f32) (e : Vec Ideal S8x4096x256 .f32) (l : IVec S8x4096 32) (b : Fin 8) (L : Fin 4096 → Fin 10)
    (hl : ∀ p, l (ix2 b p) = BitVec.ofNat 32 (L p).val) (k : Fin 10) (d : Fin 256) :
    rReg (F := Ideal) (rWide w) e (rMem (F := Ideal) l) (ix3 b k d)
      = ∑ p : Fin 4096, if L p = k then w (ix2 b p) * e (ix3 b p d) else 0 := by
  pointwise [rReg, rWide]
  simp only [rMem_apply, hl, select_place, id_eq, constant_apply, zero_at]

/-- A region's feature. -/
theorem rFeat_apply (r : Vec Ideal S8x10x256 .f32) (k : Vec Ideal S_ .f32) (a7 a8 : Vec Ideal S256 .f32) (a9 : Vec Ideal S256x256 .f32)
    (a10 : Vec Ideal S256 .f32) (b : Fin 8) (o : Fin 10) (d : Fin 256) :
    rFeat (F := Ideal) r k a7 a8 a9 a10 (ix3 b o d)
      = ∑ x : Fin 256, (Ideal.div (r (ix3 b o x)) (Ideal.sqrt (k ix0)) * a7 (ix1 x) + a8 (ix1 x)) * a9 (ix2 x d) + a10 (ix1 d) := by
  pointwise [rFeat]
  rfl

/-- A region's logit. -/
theorem rLogit_apply (r : Vec Ideal S8x10x256 .f32) (a11 : Vec Ideal S256x256 .f32) (a12 : Vec Ideal S256 .f32) (a13 : Vec Ideal S256x1 .f32)
    (a14 : Vec Ideal S1 .f32) (b : Fin 8) (o : Fin 10) (i : Fin 1) :
    rLogit (F := Ideal) r a11 a12 a13 a14 (ix3 b o i)
      = ∑ x : Fin 256, Ideal.tanh (∑ y : Fin 256, r (ix3 b o y) * a11 (ix2 y x) + a12 (ix1 x)) * a13 (ix2 x i) + a14 (ix1 0) := by
  pointwise [rLogit]

/-- A region's share. -/
theorem rSoft_apply (s : Vec Ideal S8x10x1 .f32) (b : Fin 8) (o : Fin 10) (i : Fin 1) :
    rSoft (F := Ideal) s (ix3 b o i)
      = Ideal.div (Ideal.exp (s (ix3 b o i) - Finset.univ.fold max (⊥ : EReal) fun x : Fin 10 => s (ix3 b x 0)))
          (∑ x : Fin 10, Ideal.exp (s (ix3 b x 0) - Finset.univ.fold max (⊥ : EReal) fun x : Fin 10 => s (ix3 b x 0))) := by
  pointwise [rSoft]
  simp only [ofBits_bot, bot_sup_eq]

/-- The slide's vector. -/
theorem rSlide_apply (s : Vec Ideal S8x10x1 .f32) (r : Vec Ideal S8x10x256 .f32) (b : Fin 8) (d : Fin 256) :
    rSlide (F := Ideal) s r (ix2 b d) = ∑ x : Fin 10, s (ix3 b x 0) * r (ix3 b x d) := by
  pointwise [rSlide]

/-- A class score. -/
theorem rOut_apply (s : Vec Ideal S8x256 .f32) (a15 a16 : Vec Ideal S256 .f32) (a17 : Vec Ideal S256x2 .f32) (a18 : Vec Ideal S2 .f32)
    (b : Fin 8) (d : Fin 2) :
    rOut (F := Ideal) s a15 a16 a17 a18 (ix2 b d)
      = ∑ x : Fin 256, (Ideal.div (s (ix2 b x)) (Ideal.sqrt (Ideal.ofBits .f32 0x3F800054#32)) * a15 (ix1 x) + a16 (ix1 x)) * a17 (ix2 x d)
          + a18 (ix1 d) := by
  pointwise [rOut]
  rfl

end Cert.ReferenceIdeal.Own

end
-- ==== Proof.KerEval.lean ====
module

public import proofs.«01_k».proof.Proof.Bag
public import proofs.«01_k».proof.Proof.First
public import Idealize.ShloMosaic.Lib.Pointwise

@[expose] public section

set_option maxRecDepth 16384

noncomputable section

namespace Cert.KernelIdeal.Own

open Cert.KernelIdeal.Gen
open Idealize.ShloMosaic Idealize.ShloMosaic.Tactic
open Cert.Own

/-! ## Constants -/

/-- The pattern of minus infinity. -/
theorem ofBits_bot : Ideal.ofBits .f32 4286578688#32 = ⊥ := by simp [Ideal.ofBits, Ideal.ieee]

/-- The pattern of plus infinity. -/
theorem ofBits_top : Ideal.ofBits .f32 2139095040#32 = ⊤ := by simp [Ideal.ofBits, Ideal.ieee]

/-- The pattern of minus two. -/
theorem ofBits_neg_two : Ideal.ofBits .f32 3221225472#32 = ((-2 : ℝ) : EReal) := by
  simp [Ideal.ofBits, Ideal.ieee]
  rw [← EReal.coe_mul]
  norm_num

/-- The mask is minus infinity. -/
theorem named_mask (w : BitVec 32) : Named.named (F := Ideal) κ "mask" (φ := .f32) w = (⊥ : EReal) := rfl

/-- The batch norm's factor. -/
theorem named_bn (w : BitVec 32) :
    Named.named (F := Ideal) κ "bn" (φ := .f32) w = (((Real.sqrt (2097173 / 2097152))⁻¹ : ℝ) : EReal) := rfl

/-! ## The kernel's values at an index -/

/-- An embedding. -/
theorem pay270_apply (x : Vec Ideal S1x1024x1024 .f32) (w : Vec Ideal S1024x256 .f32) (b : Vec Ideal S1x256 .f32) (r : Fin 1024)
    (d : Fin 256) : k0_pay270 (F := Ideal) x w b (ix2 r d) = max (∑ y : Fin 1024, x (ix3 0 r y) * w (ix2 y d) + b (ix2 0 d)) 0 := by
  pointwise [k0_pay270, k0_pay268, k0_pay266]

/-- An embedding before the rounding. -/
theorem pay266_apply (x : Vec Ideal S1x1024x1024 .f32) (w : Vec Ideal S1024x256 .f32) (b : Vec Ideal S1x256 .f32) (r : Fin 1024)
    (d : Fin 256) : k0_pay266 (F := Ideal) x w b (ix2 r d) = max (∑ y : Fin 1024, x (ix3 0 r y) * w (ix2 y d) + b (ix2 0 d)) 0 := by
  pointwise [k0_pay266]

/-- What the rounding drops. -/
theorem low_apply (x : Vec Ideal S1x1024x1024 .f32) (w : Vec Ideal S1024x256 .f32) (b : Vec Ideal S1x256 .f32) (r : Fin 1024)
    (d : Fin 256) : k0_pay1 (F := Ideal) (k0_pay269 (F := Ideal) x w b) (ix2 r d)
      = k0_pay266 (F := Ideal) x w b (ix2 r d) - k0_pay266 (F := Ideal) x w b (ix2 r d) := by
  pointwise [k0_pay1, k0_pay269, k0_pay268]

/-- An attention logit. -/
theorem logit_apply (x : Vec Ideal S1x1024x1024 .f32) (w : Vec Ideal S1024x256 .f32) (b : Vec Ideal S1x256 .f32)
    (p3 : Vec Ideal S256x256 .f32) (p4 : Vec Ideal S1x256 .f32) (p5 : Vec Ideal S256x1 .f32) (p6 : Vec Ideal S1x1 .f32) (r : Fin 1024) :
    k0_pay2 (F := Ideal) (k0_pay267 (F := Ideal) x w b p3 p4 p5 p6) (ix2 0 r)
      = ∑ y : Fin 256, Ideal.tanh (∑ z : Fin 256, k0_pay266 (F := Ideal) x w b (ix2 r z) * p3 (ix2 z y) + p4 (ix2 0 y)) * p5 (ix2 y 0)
        + p6 (ix2 0 0) := by
  pointwise [k0_pay2, k0_pay267]
  simp only [mul_comm]

/-- Where row `p` of bag `b` lies among the bags laid end to end. -/
def rowOf (b : Fin 8) (p : Fin 4096) : Fin 32768 := ⟨4096 * b.val + p.val, by omega⟩

/-- An entry of a bag's rows. -/
theorem kRows_apply (g : Vec Ideal S32768x256 .bf16) (b : Fin 8) (p : Fin 4096) (d : Fin 256) :
    kRows (F := Ideal) g b (ix2 p d) = g (ix2 (rowOf b p) d) := by
  pointwise [kRows]
  rfl

/-- An entry of a bag's logits. -/
theorem kLogits_apply (g : Vec Ideal S1x32768 .f32) (b : Fin 8) (p : Fin 4096) :
    kLogits (F := Ideal) g b (ix2 0 p) = g (ix2 0 (rowOf b p)) := by
  pointwise [kLogits]
  rfl

/-- The row a first centroid is taken from. -/
def seedRow (k : Fin 10) : Fin 4096 := ⟨455 * k.val, by omega⟩

/-- A first centroid, both parts added. -/
theorem kSeed_apply (g h : Vec Ideal S32768x256 .bf16) (b : Fin 8) (k : Fin 10) (d : Fin 256) :
    kSeed (F := Ideal) g h b k (ix2 0 d) = kRows (F := Ideal) g b (ix2 (seedRow k) d) + kRows (F := Ideal) h b (ix2 (seedRow k) d) := by
  rw [kRows_apply, kRows_apply]
  pointwise [kSeed, kRow]
  rfl

/-- The first centroids. -/
theorem kCent0_apply (g h : Vec Ideal S32768x256 .bf16) (b : Fin 8) (k : Fin 10) (d : Fin 256) :
    kCent0 (F := Ideal) g h b (ix2 k d) = kSeed (F := Ideal) g h b k (ix2 0 d) := by
  pointwise [kCent0]
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

/-- What the kernel compares in place of a distance. -/
def kDist (hi lo : Vec Ideal S4096x256 .bf16) (c : FVec Ideal S10x256 .f32) (p : Fin 4096) (k : Fin 10) : EReal :=
  ∑ x : Fin 256, c (ix2 k x) * c (ix2 k x) + ∑ x : Fin 256, ((-2 : ℝ) : EReal) * c (ix2 k x) * hi (ix2 p x)
    + ∑ x : Fin 256, ((-2 : ℝ) : EReal) * c (ix2 k x) * lo (ix2 p x)
    + ∑ x : Fin 256, (((-2 : ℝ) : EReal) * c (ix2 k x) - ((-2 : ℝ) : EReal) * c (ix2 k x)) * hi (ix2 p x)

/-- The membership table from the compared values. -/
theorem kAssign_apply (hi lo : Vec Ideal S4096x256 .bf16) (c : FVec Ideal S10x256 .f32) (k : Fin 10) (p : Fin 4096) :
    kAssign (F := Ideal) hi lo c (ix2 k p) = FloatOps.sitofp (F := Ideal) .f32 (BitVec.setWidth 32
      (IntOp.cmpi .eq (BitVec.ofNat 32 k.val) (Finset.univ.fold IntOp.minsi 2147483647#32 fun x : Fin 10 =>
        if kDist hi lo c p x = Finset.univ.fold min (⊤ : EReal) (fun x => kDist hi lo c p x) then BitVec.ofNat 32 x.val else 10#32))) := by
  pointwise [kAssign, k0_pay78, kIota]
  simp only [ofBits_neg_two, ofBits_top, kDist]
  refine congrArg (fun v : Fin 10 → BitVec 32 => FloatOps.sitofp (F := Ideal) .f32 (BitVec.setWidth 32
    (IntOp.cmpi .eq (BitVec.ofNat 32 k.val) (Finset.univ.fold IntOp.minsi 2147483647#32 v)))) (funext fun x => ?_)
  exact ite_congr rfl (fun _ => rfl) fun _ => rfl

/-- The mean of a cluster. -/
theorem kMean_apply (hi lo : Vec Ideal S4096x256 .bf16) (o : FVec Ideal S10x4096 .f32) (k : Fin 10) (d : Fin 256) :
    k0_pay79 (F := Ideal) hi lo o (ix2 k d)
      = Ideal.div (∑ p : Fin 4096, o (ix2 k p) * hi (ix2 p d) + ∑ p : Fin 4096, o (ix2 k p) * lo (ix2 p d))
        (max (∑ p : Fin 4096, o (ix2 k p)) (((Real.sqrt (2097173 / 2097152))⁻¹ : ℝ) : EReal)) := by
  pointwise [k0_pay79]
  simp only [named_bn]

/-- The masked logit of a patch in a cluster's row. -/
def kPick (o : FVec Ideal S10x4096 .f32) (a : Vec Ideal S1x4096 .f32) (k : Fin 10) (p : Fin 4096) : EReal :=
  if 0 < o (ix2 k p) then a (ix2 0 p) else ⊥

/-- The numerator of a patch's weight in a cluster's row. -/
def kNum (o : FVec Ideal S10x4096 .f32) (a : Vec Ideal S1x4096 .f32) (k : Fin 10) (p : Fin 4096) : EReal :=
  o (ix2 k p) * Ideal.exp (kPick o a k p - Finset.univ.fold max (⊥ : EReal) fun q => kPick o a k q)

/-- The weight of a patch in a cluster's row. -/
def kWgt (o : FVec Ideal S10x4096 .f32) (a : Vec Ideal S1x4096 .f32) (k : Fin 10) (p : Fin 4096) : EReal :=
  Ideal.div (kNum o a k p) (max (∑ q : Fin 4096, kNum o a k q) (Ideal.ofBits .f32 0x2B8CBCCC#32))

/-- A region's vector from the weights. -/
theorem kRegion_apply (hi lo : Vec Ideal S4096x256 .bf16) (o : FVec Ideal S10x4096 .f32) (a : Vec Ideal S1x4096 .f32)
    (p7 p8 : Vec Ideal S1x256 .f32) (k : Fin 10) (d : Fin 256) :
    kRegion (F := Ideal) hi lo o a p7 p8 (ix2 k d)
      = (∑ p : Fin 4096, kWgt o a k p * hi (ix2 p d) + ∑ p : Fin 4096, kWgt o a k p * lo (ix2 p d)
          + ∑ p : Fin 4096, (kWgt o a k p - kWgt o a k p) * hi (ix2 p d)) * (((Real.sqrt (2097173 / 2097152))⁻¹ : ℝ) : EReal)
        * p7 (ix2 0 d) + p8 (ix2 0 d) := by
  pointwise [kRegion, k0_pay231]
  simp only [named_mask, named_bn, ofBits_bot, kWgt, kNum, kPick]

/-- A region's feature. -/
def kFeat (r : FVec Ideal S10x256 .f32) (p9 : Vec Ideal S256x256 .f32) (p10 : Vec Ideal S1x256 .f32) (k : Fin 10) (d : Fin 256) : EReal :=
  ∑ x : Fin 256, r (ix2 k x) * p9 (ix2 x d) + p10 (ix2 0 d)

/-- A region's logit. -/
def kScore (f : Fin 10 → Fin 256 → EReal) (p11 : Vec Ideal S256x256 .f32) (p12 : Vec Ideal S1x256 .f32)
    (p13 : Vec Ideal S256x1 .f32) (p14 : Vec Ideal S1x1 .f32) (k : Fin 10) : EReal :=
  ∑ x : Fin 256, Ideal.tanh (∑ y : Fin 256, f k y * p11 (ix2 y x) + p12 (ix2 0 x)) * p13 (ix2 x 0) + p14 (ix2 0 0)

/-- A region's share. -/
def kShare (s : Fin 10 → EReal) (k : Fin 10) : EReal :=
  Ideal.div (Ideal.exp (s k - Finset.univ.fold max (⊥ : EReal) s))
    (∑ j : Fin 10, Ideal.exp (s j - Finset.univ.fold max (⊥ : EReal) s))

/-- A fold over pairs whose second part is the only one there is. -/
theorem fold_pair (s : Fin 10 → EReal) : (Finset.univ.fold max (⊥ : EReal) fun x : Fin 10 × Fin 1 => s x.1) = Finset.univ.fold max ⊥ s := by
  apply le_antisymm
  · refine (Finset.fold_max_le _).2 ⟨bot_le, fun x _ => ?_⟩
    exact (Finset.le_fold_max _).2 (.inr ⟨x.1, Finset.mem_univ _, le_rfl⟩)
  · refine (Finset.fold_max_le _).2 ⟨bot_le, fun x _ => ?_⟩
    exact (Finset.le_fold_max _).2 (.inr ⟨(x, 0), Finset.mem_univ _, le_rfl⟩)

/-- The scaled slide vector. -/
theorem pay232_apply (r : FVec Ideal S10x256 .f32) (p9 : Vec Ideal S256x256 .f32) (p10 : Vec Ideal S1x256 .f32)
    (p11 : Vec Ideal S256x256 .f32) (p12 : Vec Ideal S1x256 .f32) (p13 : Vec Ideal S256x1 .f32) (p14 : Vec Ideal S1x1 .f32)
    (p15 : Vec Ideal S1x256 .f32) (d : Fin 256) :
    k0_pay232 (F := Ideal) r p9 p10 p11 p12 p13 p14 p15 (ix2 0 d)
      = (∑ k : Fin 10, kShare (kScore (kFeat r p9 p10) p11 p12 p13 p14) k * kFeat r p9 p10 k d)
        * (((Real.sqrt (2097173 / 2097152))⁻¹ : ℝ) : EReal) * p15 (ix2 0 d) := by
  pointwise [k0_pay232]
  simp only [named_bn, ofBits_bot, Finset.sum_const, Finset.univ_unique, Finset.card_singleton, one_smul, kShare, ← fold_pair,
    kScore, kFeat]

/-- A class score. -/
theorem pay233_apply (r p16 : Vec Ideal S1x256 .f32) (p17 : Vec Ideal S256x128 .f32) (p18 : Vec Ideal S1x128 .f32) (d : Fin 128) :
    k0_pay233 (F := Ideal) r p16 p17 p18 (ix3 0 0 d)
      = ∑ x : Fin 256, (r (ix2 0 x) + p16 (ix2 0 x)) * p17 (ix2 x d) + p18 (ix2 0 d) := by
  pointwise [k0_pay233]

end Cert.KernelIdeal.Own

end
-- ==== Proof.Rounds.lean ====
module

public import proofs.«01_k».proof.Proof.RefEval
public import proofs.«01_k».proof.Proof.KerEval

@[expose] public section

set_option maxRecDepth 16384

noncomputable section

namespace Cert.Own

open Idealize.ShloMosaic
open Cert.KernelIdeal (S4096x256 S10x256 S10x4096 S32768x256)
open Cert.ReferenceIdeal (S8x4096x256 S8x10x256 S8x4096)
open Cert.KernelIdeal.Own (kDist kAssign kAssign_apply kMean_apply kRound kRows kCent0 kCent0_apply kSeed_apply kCent5)
open Cert.ReferenceIdeal.Own (rDist rDist_apply rLab rLab_apply rNext rNext_apply rRound rCent0 rCent0_apply)

/-! ## Sums and quotients of reals -/

/-- A sum of reals is real. -/
theorem coe_sum {ι : Type} [Fintype ι] (f : ι → ℝ) : (∑ i, (f i : EReal)) = ((∑ i, f i : ℝ) : EReal) := by
  classical
  refine Finset.induction_on (Finset.univ : Finset ι) (by simp) fun i s hi h => ?_
  rw [Finset.sum_insert hi, Finset.sum_insert hi, h, EReal.coe_add]

/-- The larger of two reals. -/
theorem coe_max (x y : ℝ) : ((max x y : ℝ) : EReal) = max (x : EReal) (y : EReal) := EReal.coe_strictMono.monotone.map_max

/-- A quotient of reals by a real that is not zero. -/
theorem div_real (a : ℝ) {y : ℝ} (hy : y ≠ 0) : Ideal.div (a : EReal) (y : EReal) = ((a / y : ℝ) : EReal) := by
  unfold Ideal.div
  rw [if_neg (by exact_mod_cast hy), ← EReal.coe_inv, ← EReal.coe_mul, div_eq_mul_inv]

/-- The batch norm's factor. -/
def bn : ℝ := (Real.sqrt (2097173 / 2097152))⁻¹

/-- The factor's root is more than one. -/
theorem one_le_root : 1 ≤ Real.sqrt (2097173 / 2097152) := by
  rw [Real.one_le_sqrt]
  norm_num

/-- The factor is positive. -/
theorem bn_pos : 0 < bn := inv_pos.2 (lt_of_lt_of_le one_pos one_le_root)

/-- The factor is at most one. -/
theorem bn_le_one : bn ≤ 1 := inv_le_one_of_one_le₀ one_le_root

/-! ## Labels -/

/-- The least of ten values is the one at their first least place. -/
theorem fold_min_first {d : Fin 10 → EReal} {k : Fin 10} (hk : IsFirst d k) : Finset.univ.fold min (⊤ : EReal) d = d k := by
  apply le_antisymm
  · exact (Finset.fold_min_le _).2 (.inr ⟨k, Finset.mem_univ _, le_rfl⟩)
  · exact (Finset.le_fold_min _).2 ⟨le_top, fun j _ => hk.1 j⟩

/-- A truth value's word, as a number. -/
theorem number_of_place (i k : Fin 10) :
    FloatOps.sitofp (F := Ideal) .f32 (BitVec.setWidth 32 (IntOp.cmpi .eq (BitVec.ofNat 32 k.val) (BitVec.ofNat 32 i.val)))
      = if i = k then (1 : EReal) else 0 := by
  by_cases h : i = k
  · subst h
    rw [if_pos rfl]
    have : IntOp.cmpi .eq (BitVec.ofNat 32 i.val) (BitVec.ofNat 32 i.val) = 1#1 := by simp [IntOp.cmpi]
    rw [this]
    show (((1 : ℤ) : ℝ) : EReal) = 1
    norm_num
  · have h' : ¬BitVec.ofNat 32 k.val = BitVec.ofNat 32 i.val := fun e => h (place_inj e).symm
    have : IntOp.cmpi .eq (BitVec.ofNat 32 k.val) (BitVec.ofNat 32 i.val) = 0#1 := by
      simp only [IntOp.cmpi, beq_eq_false_iff_ne.2 h', BitVec.ofBool_false]
      rfl
    rw [if_neg h, this]
    show (((0 : ℤ) : ℝ) : EReal) = 0
    norm_num

/-- The membership table marks the first least of the compared values. -/
theorem kAssign_first {hi lo : Vec Ideal S4096x256 .bf16} {c : FVec Ideal S10x256 .f32} {p : Fin 4096} {L : Fin 10}
    (hL : IsFirst (fun k => kDist hi lo c p k) L) (k : Fin 10) :
    kAssign (F := Ideal) hi lo c (ix2 k p) = if L = k then (1 : EReal) else 0 := by
  rw [kAssign_apply, fold_min_first hL, fold_minsi _ L (if_pos rfl) fun j => ?_, number_of_place]
  split
  · rename_i h
    rw [toInt_place]
    by_contra hj
    have hlt := hL.2 j (by rw [Fin.lt_def]; omega)
    exact absurd h (ne_of_gt hlt)
  · have := L.isLt
    rw [show (10#32).toInt = 10 from by decide]
    omega

/-! ## One bag on both sides -/

/-- One bag: its embeddings are the reals `e` on both sides, and the rounding drops nothing. -/
structure Bag (e : Fin 4096 → Fin 256 → ℝ) (hi lo : Vec Ideal S4096x256 .bf16) (E : Vec Ideal S8x4096x256 .f32) (b : Fin 8) : Prop where
  hi : ∀ p d, hi (ix2 p d) = (e p d : EReal)
  lo : ∀ p d, lo (ix2 p d) = (0 : EReal)
  ref : ∀ p d, E (ix3 b p d) = (e p d : EReal)

/-- The bag's centroids are the same reals on both sides. -/
def Same (c : FVec Ideal S10x256 .f32) (r : Vec Ideal S8x10x256 .f32) (b : Fin 8) : Prop :=
  ∃ C : Fin 10 → Fin 256 → ℝ, (∀ k d, c (ix2 k d) = (C k d : EReal)) ∧ ∀ k d, r (ix3 b k d) = (C k d : EReal)

/-- The bag's labels are the places `L` on both sides. -/
structure Labels (L : Fin 4096 → Fin 10) (o : FVec Ideal S10x4096 .f32) (l : IVec S8x4096 32) (b : Fin 8) : Prop where
  ker : ∀ k p, o (ix2 k p) = if L p = k then (1 : EReal) else 0
  ref : ∀ p, l (ix2 b p) = BitVec.ofNat 32 (L p).val

variable {e : Fin 4096 → Fin 256 → ℝ} {hi lo : Vec Ideal S4096x256 .bf16} {E : Vec Ideal S8x4096x256 .f32} {b : Fin 8}

/-- What the kernel compares, for real centroids. -/
theorem kDist_real (h : Bag e hi lo E b) {c : FVec Ideal S10x256 .f32} {C : Fin 10 → Fin 256 → ℝ}
    (hc : ∀ k d, c (ix2 k d) = (C k d : EReal)) (p : Fin 4096) (k : Fin 10) :
    kDist hi lo c p k = ((∑ x, C k x * C k x + ∑ x, (-2) * C k x * e p x : ℝ) : EReal) := by
  simp only [kDist, h.hi, h.lo, hc, mul_zero, Finset.sum_const_zero, add_zero, ← EReal.coe_mul, ← EReal.coe_sub, sub_self,
    EReal.coe_zero, zero_mul, coe_sum, ← EReal.coe_add]

/-- A squared distance, for real centroids. -/
theorem rDist_real (h : Bag e hi lo E b) {r : Vec Ideal S8x10x256 .f32} {C : Fin 10 → Fin 256 → ℝ}
    (hr : ∀ k d, r (ix3 b k d) = (C k d : EReal)) (p : Fin 4096) (k : Fin 10) :
    rDist (F := Ideal) E r (ix3 b p k) = ((∑ x, (e p x - C k x) * (e p x - C k x) : ℝ) : EReal) := by
  simp only [rDist_apply, h.ref, hr, ← EReal.coe_sub, ← EReal.coe_mul, coe_sum]

/-- Both sides label the bag's patches alike. -/
theorem labels_ex (h : Bag e hi lo E b) {c : FVec Ideal S10x256 .f32} {r : Vec Ideal S8x10x256 .f32} (hs : Same c r b) :
    ∃ L, Labels L (kAssign (F := Ideal) hi lo c) (rLab (F := Ideal) (rDist (F := Ideal) E r)) b := by
  obtain ⟨C, hc, hr⟩ := hs
  have hl := fun p => rLab_apply (rDist (F := Ideal) E r) b p (fun k => by rw [rDist_real h hr]; exact EReal.coe_lt_top _)
  choose L h1 h2 using hl
  refine ⟨L, fun k p => kAssign_first ?_ k, h2⟩
  have h3 := h1 p
  simp only [rDist_real h hr] at h3
  simp only [kDist_real h hc]
  refine IsFirst.of_shift (-∑ x, e p x * e p x) (fun j => ?_) h3
  rw [← Finset.sum_neg_distrib, ← Finset.sum_add_distrib, ← Finset.sum_add_distrib]
  exact Finset.sum_congr rfl fun x _ => by ring

/-- A sum over a cluster through the membership table. -/
theorem sum_mark (L : Fin 4096 → Fin 10) (k : Fin 10) (f : Fin 4096 → EReal) :
    (∑ p, (if L p = k then (1 : EReal) else 0) * f p) = ∑ p, if L p = k then f p else 0 :=
  Finset.sum_congr rfl fun p _ => by split <;> simp

/-- A sum of reals over a cluster is real. -/
theorem sum_cluster (L : Fin 4096 → Fin 10) (k : Fin 10) (f : Fin 4096 → ℝ) :
    (∑ p, if L p = k then (f p : EReal) else 0) = ((∑ p, if L p = k then f p else 0 : ℝ) : EReal) := by
  rw [← coe_sum]
  exact Finset.sum_congr rfl fun p _ => by split <;> rfl

/-- A cluster has no patch or at least one. -/
theorem count_cases (L : Fin 4096 → Fin 10) (k : Fin 10) : (∀ p, L p ≠ k) ∨ (1 : ℝ) ≤ ∑ p, if L p = k then (1 : ℝ) else 0 := by
  by_cases hk : ∀ p, L p ≠ k
  · exact .inl hk
  · obtain ⟨p, hp⟩ : ∃ p, L p = k := by
      by_contra hn
      exact hk fun p hp => hn ⟨p, hp⟩
    refine .inr ?_
    have h0 : ∀ q ∈ (Finset.univ : Finset (Fin 4096)), (0 : ℝ) ≤ if L q = k then (1 : ℝ) else 0 := fun q _ => by split <;> norm_num
    have h1 := Finset.single_le_sum h0 (Finset.mem_univ p)
    rwa [if_pos hp] at h1

/-- Both sides take the same means of the clusters. -/
theorem same_mean (h : Bag e hi lo E b) {L : Fin 4096 → Fin 10} {o : FVec Ideal S10x4096 .f32} {l : IVec S8x4096 32}
    (hl : Labels L o l b) : Same (Cert.KernelIdeal.Gen.k0_pay79 (F := Ideal) hi lo o) (rNext (F := Ideal) E l) b := by
  have one : ∀ k, (∑ p, if L p = k then (1 : EReal) else 0) = ((∑ p, if L p = k then (1 : ℝ) else 0 : ℝ) : EReal) :=
    fun k => sum_cluster L k fun _ => 1
  refine ⟨fun k d => (∑ p, if L p = k then e p d else 0) / max (∑ p, if L p = k then (1 : ℝ) else 0) 1, fun k d => ?_, fun k d => ?_⟩
  · rw [kMean_apply]
    simp only [hl.ker, h.hi, h.lo, mul_zero, Finset.sum_const_zero, add_zero, sum_mark, sum_cluster, one]
    rw [show (Real.sqrt (2097173 / 2097152))⁻¹ = bn from rfl, ← coe_max]
    rcases count_cases L k with h0 | h1
    · have hz : (∑ p, if L p = k then e p d else 0) = 0 := Finset.sum_eq_zero fun p _ => if_neg (h0 p)
      have hp : max (∑ p, if L p = k then (1 : ℝ) else 0) bn ≠ 0 := (lt_of_lt_of_le bn_pos (le_max_right _ _)).ne'
      rw [div_real _ hp, hz, zero_div, zero_div]
    · rw [max_eq_left (bn_le_one.trans h1), max_eq_left h1, div_real _ (lt_of_lt_of_le one_pos h1).ne']
  · rw [rNext_apply E l b L hl.ref]
    simp only [h.ref, sum_cluster, one]
    rw [← EReal.coe_one, ← coe_max, div_real _ (lt_of_lt_of_le one_pos (le_max_right _ _)).ne']

/-- Both sides do the same in one round. -/
theorem same_round (h : Bag e hi lo E b) {c : FVec Ideal S10x256 .f32} {r : Vec Ideal S8x10x256 .f32} (hs : Same c r b) :
    Same (kRound (F := Ideal) hi lo c) (rRound (F := Ideal) E r) b := by
  obtain ⟨L, hL⟩ := labels_ex h hs
  exact same_mean h hL

/-- Both sides start from the same centroids. -/
theorem same_cent0 {g l : Vec Ideal S32768x256 .bf16} (h : Bag e (kRows (F := Ideal) g b) (kRows (F := Ideal) l b) E b) :
    Same (kCent0 (F := Ideal) g l b) (rCent0 (F := Ideal) E) b := by
  refine ⟨fun k d => e (Cert.ReferenceIdeal.Own.seedRow k) d, fun k d => ?_, fun k d => ?_⟩
  · rw [kCent0_apply, kSeed_apply, h.hi, h.lo, add_zero]
    rfl
  · rw [rCent0_apply, h.ref]

/-- The reference's final centroids: five rounds from the first ones. -/
def rCent5 (E : Vec Ideal S8x4096x256 .f32) : Vec Ideal S8x10x256 .f32 :=
  rRound (F := Ideal) E (rRound (F := Ideal) E (rRound (F := Ideal) E (rRound (F := Ideal) E (rRound (F := Ideal) E (rCent0 (F := Ideal) E)))))

/-- Both sides end with the same centroids. -/
theorem same_cent5 {g l : Vec Ideal S32768x256 .bf16} (h : Bag e (kRows (F := Ideal) g b) (kRows (F := Ideal) l b) E b) :
    Same (kCent5 (F := Ideal) g l b) (rCent5 E) b :=
  same_round h (same_round h (same_round h (same_round h (same_round h (same_cent0 h)))))

end Cert.Own

end
-- ==== Proof.Meet.lean ====
module

public import proofs.«01_k».proof.Proof.Rounds

@[expose] public section

set_option maxRecDepth 16384

noncomputable section

namespace Cert.Own

open Idealize.ShloMosaic
open Cert.KernelIdeal (S4096x256 S10x256 S10x4096 S32768x256 S1x4096 S1x32768 S1x256 S256x128 S1x128 S1x1)
open Cert.ReferenceIdeal (S8x4096x256 S8x10x256 S8x4096 S8x10x1 S256x256 S256 S256x1 S1 S256x2 S2 S_)
open Cert.KernelIdeal.Own Cert.ReferenceIdeal.Own

/-! ## The regions -/

/-- The exponential of a value less one it does not exceed is a real between zero and one. -/
theorem exp_sub_real {x y : EReal} (h : x ≤ y) : ∃ r : ℝ, Ideal.exp (x - y) = (r : EReal) := by
  induction x using EReal.rec with
  | bot => exact ⟨0, by rw [EReal.bot_sub]; rfl⟩
  | top =>
    obtain rfl : y = ⊤ := top_le_iff.1 h
    exact ⟨0, rfl⟩
  | coe a =>
    induction y using EReal.rec with
    | bot => exact absurd h (not_le.2 (EReal.bot_lt_coe a))
    | top => exact ⟨0, by rw [EReal.sub_top]; rfl⟩
    | coe c => exact ⟨Real.exp (a - c), by rw [← EReal.coe_sub]; rfl⟩

/-- A real by a positive divisor is real. -/
theorem div_pos_real (a : ℝ) {y : EReal} (hy : 0 < y) : ∃ r : ℝ, Ideal.div (a : EReal) y = (r : EReal) := by
  unfold Ideal.div
  rw [if_neg hy.ne']
  induction y using EReal.rec with
  | bot => exact absurd hy (not_lt.2 bot_le)
  | top => exact ⟨0, by rw [EReal.inv_top, mul_zero]; rfl⟩
  | coe c => exact ⟨a * c⁻¹, by rw [← EReal.coe_inv, ← EReal.coe_mul]⟩

/-- The floor under a cluster's mass is positive. -/
theorem floor_pos : (0 : EReal) < Ideal.ofBits .f32 0x2B8CBCCC#32 := by
  simp [Ideal.ofBits, Ideal.ieee]
  rw [← EReal.coe_mul]
  exact_mod_cast (by norm_num : (0 : ℝ) < 9223372 * (2 ^ 63)⁻¹)

/-- The square of the root. -/
theorem ofBits_root : Ideal.ofBits .f32 0x3F800054#32 = ((2097173 / 2097152 : ℝ) : EReal) := by
  simp [Ideal.ofBits, Ideal.ieee]
  rw [← EReal.coe_mul]
  norm_num

/-- Division by the root is the factor. -/
theorem div_root (x : EReal) : Ideal.div x (Ideal.sqrt (Ideal.ofBits .f32 0x3F800054#32)) = x * (bn : EReal) := by
  have h : Ideal.sqrt (Ideal.ofBits .f32 0x3F800054#32) = ((Real.sqrt (2097173 / 2097152) : ℝ) : EReal) := by
    rw [ofBits_root]
    exact if_neg (by norm_num)
  have h0 : Real.sqrt (2097173 / 2097152) ≠ 0 := (lt_of_lt_of_le one_pos one_le_root).ne'
  unfold Ideal.div
  rw [h, if_neg (by exact_mod_cast h0), ← EReal.coe_inv]
  rfl

variable {e : Fin 4096 → Fin 256 → ℝ} {hi lo : Vec Ideal S4096x256 .bf16} {E : Vec Ideal S8x4096x256 .f32} {b : Fin 8}

/-- The reference's weighted sums of a bag's clusters, from the logits and the labels. -/
def rRegs (E : Vec Ideal S8x4096x256 .f32) (A : Vec Ideal S8x4096 .f32) (l : IVec S8x4096 32) : Vec Ideal S8x10x256 .f32 :=
  rReg (F := Ideal) (rWide (rWgt (F := Ideal) (rNum (F := Ideal) A l)
    (rPick (F := Ideal) (rMass (F := Ideal) (rNum (F := Ideal) A l) (rMem (F := Ideal) l)) l))) E (rMem (F := Ideal) l)

/-- A region's vector on both sides. -/
theorem region_eq (h : Bag e hi lo E b) {L : Fin 4096 → Fin 10} {o : FVec Ideal S10x4096 .f32} {l : IVec S8x4096 32}
    (hl : Labels L o l b) {a : Vec Ideal S1x4096 .f32} {A : Vec Ideal S8x4096 .f32} (ha : ∀ p, a (ix2 0 p) = A (ix2 b p))
    {p7 p8 : Vec Ideal S1x256 .f32} {a7 a8 : Vec Ideal S256 .f32} (h7 : ∀ d, p7 (ix2 0 d) = a7 (ix1 d)) (h8 : ∀ d, p8 (ix2 0 d) = a8 (ix1 d))
    (k : Fin 10) (d : Fin 256) :
    kRegion (F := Ideal) hi lo o a p7 p8 (ix2 k d)
      = Ideal.div (rRegs E A l (ix3 b k d)) (Ideal.sqrt (Ideal.ofBits .f32 0x3F800054#32)) * a7 (ix1 d) + a8 (ix1 d) := by
  have hpick : ∀ k p, kPick o a k p = if L p = k then A (ix2 b p) else ⊥ := by
    intro k p
    unfold kPick
    rw [hl.ker, ha]
    by_cases hk : L p = k
    · rw [if_pos hk, if_pos hk, if_pos zero_lt_one]
    · rw [if_neg hk, if_neg hk, if_neg (lt_irrefl _)]
  have hnum : ∀ k p, kNum o a k p = if L p = k then rNum (F := Ideal) A l (ix2 b p) else 0 := by
    intro k p
    unfold kNum
    rw [hl.ker]
    by_cases hk : L p = k
    · subst hk
      rw [if_pos rfl, if_pos rfl, one_mul, rNum_apply A l b L hl.ref]
      simp only [hpick, if_true]
    · rw [if_neg hk, if_neg hk, zero_mul]
  have hreal : ∀ p, ∃ r : ℝ, rNum (F := Ideal) A l (ix2 b p) = (r : EReal) := by
    intro p
    rw [rNum_apply A l b L hl.ref]
    exact exp_sub_real ((Finset.le_fold_max _).2 (.inr ⟨p, Finset.mem_univ _, by rw [if_pos rfl]⟩))
  have hD : ∀ k, 0 < max (∑ q, kNum o a k q) (Ideal.ofBits .f32 0x2B8CBCCC#32) := fun k => lt_of_lt_of_le floor_pos (le_max_right _ _)
  have hw : ∀ p, rWgt (F := Ideal) (rNum (F := Ideal) A l)
      (rPick (F := Ideal) (rMass (F := Ideal) (rNum (F := Ideal) A l) (rMem (F := Ideal) l)) l) (ix2 b p)
      = Ideal.div (rNum (F := Ideal) A l (ix2 b p)) (max (∑ q, kNum o a (L p) q) (Ideal.ofBits .f32 0x2B8CBCCC#32)) := by
    intro p
    rw [rWgt_apply, rPick_apply _ l b p (L p) (hl.ref p), rMass_apply _ l b L hl.ref]
    simp only [hnum]
  have hex : ∀ p, ∃ r : ℝ, Ideal.div (rNum (F := Ideal) A l (ix2 b p)) (max (∑ q, kNum o a (L p) q) (Ideal.ofBits .f32 0x2B8CBCCC#32))
      = (r : EReal) := by
    intro p
    obtain ⟨r, hr⟩ := hreal p
    rw [hr]
    exact div_pos_real r (hD _)
  choose w hwr using hex
  have hkw : ∀ k p, kWgt o a k p = ((if L p = k then w p else 0 : ℝ) : EReal) := by
    intro k p
    by_cases hk : L p = k
    · subst hk
      rw [if_pos rfl, ← hwr p]
      unfold kWgt
      rw [hnum, if_pos rfl]
    · rw [if_neg hk]
      unfold kWgt
      rw [hnum, if_neg hk]
      unfold Ideal.div
      rw [if_neg (hD k).ne', zero_mul, EReal.coe_zero]
  rw [kRegion_apply, div_root]
  unfold rRegs
  rw [rReg_apply _ E l b L hl.ref]
  simp only [hw, hwr, hkw, h.hi, h.lo, h.ref, mul_zero, Finset.sum_const_zero, add_zero, ← EReal.coe_sub, sub_self, EReal.coe_zero,
    zero_mul, h7, h8]
  rw [show (Real.sqrt (2097173 / 2097152))⁻¹ = bn from rfl]
  refine congrArg (fun s : EReal => s * (bn : EReal) * a7 (ix1 d) + a8 (ix1 d)) ?_
  exact Finset.sum_congr rfl fun p _ => by split <;> simp

/-! ## What follows the regions -/

/-- A bag's class scores on both sides, from equal regions. -/
theorem head_eq {r : FVec Ideal S10x256 .f32} {R : Vec Ideal S8x10x256 .f32}
    {p9 : Vec Ideal S256x256 .f32} {p10 : Vec Ideal S1x256 .f32} {p11 : Vec Ideal S256x256 .f32} {p12 : Vec Ideal S1x256 .f32}
    {p13 : Vec Ideal S256x1 .f32} {p14 : Vec Ideal S1x1 .f32} {p15 p16 : Vec Ideal S1x256 .f32} {p17 : Vec Ideal S256x128 .f32}
    {p18 : Vec Ideal S1x128 .f32}
    {a7 a8 : Vec Ideal S256 .f32} {a10 a12 : Vec Ideal S256 .f32} {a14 : Vec Ideal S1 .f32} {a15 a16 : Vec Ideal S256 .f32}
    {a17 : Vec Ideal S256x2 .f32} {a18 : Vec Ideal S2 .f32}
    (hr : ∀ k d, r (ix2 k d) = Ideal.div (R (ix3 b k d)) (Ideal.sqrt (Ideal.ofBits .f32 0x3F800054#32)) * a7 (ix1 d) + a8 (ix1 d))
    (h10 : ∀ d, p10 (ix2 0 d) = a10 (ix1 d)) (h12 : ∀ d, p12 (ix2 0 d) = a12 (ix1 d)) (h14 : p14 (ix2 0 0) = a14 (ix1 0))
    (h15 : ∀ d, p15 (ix2 0 d) = a15 (ix1 d)) (h16 : ∀ d, p16 (ix2 0 d) = a16 (ix1 d)) (j : Fin 2)
    (h17 : ∀ x, p17 (ix2 x ⟨j.val, by omega⟩) = a17 (ix2 x j)) (h18 : p18 (ix2 0 ⟨j.val, by omega⟩) = a18 (ix1 j)) :
    kHead (F := Ideal) r p9 p10 p11 p12 p13 p14 p15 p16 p17 p18 (ix3 0 0 ⟨j.val, by omega⟩)
      = rHead (F := Ideal) R (constant (F := Ideal) S_ .f32 0x3F800054#32) a7 a8 p9 a10 p11 a12 p13 a14 a15 a16 a17 a18 (ix2 b j) := by
  have hf : ∀ k d, kFeat r p9 p10 k d
      = rFeat (F := Ideal) R (constant (F := Ideal) S_ .f32 0x3F800054#32) a7 a8 p9 a10 (ix3 b k d) := by
    intro k d
    rw [rFeat_apply]
    unfold kFeat
    simp only [hr, h10]
    rfl
  have hs : ∀ k, kScore (kFeat r p9 p10) p11 p12 p13 p14 k
      = rLogit (F := Ideal) (rFeat (F := Ideal) R (constant (F := Ideal) S_ .f32 0x3F800054#32) a7 a8 p9 a10) p11 a12 p13 a14 (ix3 b k 0) := by
    intro k
    rw [rLogit_apply]
    unfold kScore
    simp only [hf, h12, h14]
  have hsm : ∀ k, kShare (kScore (kFeat r p9 p10) p11 p12 p13 p14) k
      = rSoft (F := Ideal) (rLogit (F := Ideal) (rFeat (F := Ideal) R (constant (F := Ideal) S_ .f32 0x3F800054#32) a7 a8 p9 a10) p11 a12 p13 a14)
        (ix3 b k 0) := by
    intro k
    rw [rSoft_apply]
    unfold kShare
    rw [show kScore (kFeat r p9 p10) p11 p12 p13 p14 = fun k => rLogit (F := Ideal)
      (rFeat (F := Ideal) R (constant (F := Ideal) S_ .f32 0x3F800054#32) a7 a8 p9 a10) p11 a12 p13 a14 (ix3 b k 0) from funext hs]
  unfold kHead rHead
  rw [pay233_apply, rOut_apply, h18]
  simp only [pay232_apply, rSlide_apply, div_root, hsm, hf, h15, h16, h17]
  rfl

/-- A bag's class scores on both sides. -/
theorem bag_eq {g l : Vec Ideal S32768x256 .bf16} (h : Bag e (kRows (F := Ideal) g b) (kRows (F := Ideal) l b) E b)
    {a : Vec Ideal S1x32768 .f32} {A : Vec Ideal S8x4096 .f32} (ha : ∀ p, kLogits (F := Ideal) a b (ix2 0 p) = A (ix2 b p))
    {p7 p8 : Vec Ideal S1x256 .f32}
    {p9 : Vec Ideal S256x256 .f32} {p10 : Vec Ideal S1x256 .f32} {p11 : Vec Ideal S256x256 .f32} {p12 : Vec Ideal S1x256 .f32}
    {p13 : Vec Ideal S256x1 .f32} {p14 : Vec Ideal S1x1 .f32} {p15 p16 : Vec Ideal S1x256 .f32} {p17 : Vec Ideal S256x128 .f32}
    {p18 : Vec Ideal S1x128 .f32}
    {a7 a8 : Vec Ideal S256 .f32} {a10 a12 : Vec Ideal S256 .f32} {a14 : Vec Ideal S1 .f32} {a15 a16 : Vec Ideal S256 .f32}
    {a17 : Vec Ideal S256x2 .f32} {a18 : Vec Ideal S2 .f32}
    (h7 : ∀ d, p7 (ix2 0 d) = a7 (ix1 d)) (h8 : ∀ d, p8 (ix2 0 d) = a8 (ix1 d))
    (h10 : ∀ d, p10 (ix2 0 d) = a10 (ix1 d)) (h12 : ∀ d, p12 (ix2 0 d) = a12 (ix1 d)) (h14 : p14 (ix2 0 0) = a14 (ix1 0))
    (h15 : ∀ d, p15 (ix2 0 d) = a15 (ix1 d)) (h16 : ∀ d, p16 (ix2 0 d) = a16 (ix1 d)) (j : Fin 2)
    (h17 : ∀ x, p17 (ix2 x ⟨j.val, by omega⟩) = a17 (ix2 x j)) (h18 : p18 (ix2 0 ⟨j.val, by omega⟩) = a18 (ix1 j)) :
    kBag (F := Ideal) g l a b p7 p8 p9 p10 p11 p12 p13 p14 p15 p16 p17 p18 (ix3 0 0 ⟨j.val, by omega⟩)
      = rHead (F := Ideal) (rRegs E A (rLab (F := Ideal) (rDist (F := Ideal) E (rCent5 E))))
          (constant (F := Ideal) S_ .f32 0x3F800054#32) a7 a8 p9 a10 p11 a12 p13 a14 a15 a16 a17 a18 (ix2 b j) := by
  obtain ⟨L, hL⟩ := labels_ex h (same_cent5 h)
  unfold kBag
  exact head_eq (region_eq h hL ha h7 h8) h10 h12 h14 h15 h16 j h17 h18

end Cert.Own

end
-- ==== Proof.Embeds.lean ====
module

public import proofs.«01_k».proof.Proof.Params
public import proofs.«01_k».proof.Proof.Meet

@[expose] public section

set_option maxRecDepth 16384

noncomputable section

namespace Cert.KernelIdeal.Own

open Cert.KernelIdeal.Gen
open Idealize.ShloMosaic Idealize.ShloMosaic.TcCoe Idealize.ShloMosaic.Tactic
open Cert.ReferenceIdeal.Own (rEmb rAtt rEmb_apply rAtt_apply)
open Cert.Own (Bag coe_sum coe_max)

variable (m : (ℓ : Loc nD τ sig) → Buf (Elt Ideal) ℓ)

/-! ## The scratches against the reference's embeddings and logits -/

/-- The reference's embeddings of the launch's bags. -/
def embs (c : Dev nD) : Vec Ideal Cert.ReferenceIdeal.S8x4096x256 .f32 :=
  rEmb (F := Ideal) (m ((c.tc : Thread nD τ).loc main_arg0)) (m ((c.tc : Thread nD τ).loc main_arg1)) (m ((c.tc : Thread nD τ).loc main_arg2))

/-- The reference's attention logits of the launch's bags. -/
def atts (c : Dev nD) : Vec Ideal Cert.ReferenceIdeal.S8x4096 .f32 :=
  rAtt (F := Ideal) (embs m c) (m ((c.tc : Thread nD τ).loc main_arg3)) (m ((c.tc : Thread nD τ).loc main_arg4))
    (m ((c.tc : Thread nD τ).loc main_arg5)) (m ((c.tc : Thread nD τ).loc main_arg6))

/-- An embedding computed by the point that holds its row. -/
theorem emb_pt (c : Dev nD) (b : Fin 8) (p : Fin 4096) (d : Fin 256) :
    k0_pay266 (F := Ideal) (iblk m c 0 (ptOf (rowOf b p))) (iblk m c 1 (ptOf (rowOf b p))) (iblk m c 2 (ptOf (rowOf b p)))
      (ix2 (inBlk (rowOf b p)) d) = embs m c (ix3 b p d) := by
  unfold embs
  rw [pay266_apply, rEmb_apply, iblk_1, iblk_2, V_v7, V_main_arg1]
  refine congrArg (fun s : EReal => max (s + _) 0) (Finset.sum_congr rfl fun x _ => ?_)
  rw [iblk_0 m c (ptOf (rowOf b p)) (inBlk (rowOf b p)) x b p
    (by show b.val = (4096 * b.val + p.val) / 1024 / 4; omega)
    (by show p.val = 1024 * ((4096 * b.val + p.val) / 1024 % 4) + (4096 * b.val + p.val) % 1024; omega), V_main_arg0]

/-- A rounded embedding of the scratch. -/
theorem rows_hi (c : Dev nD) (b : Fin 8) (p : Fin 4096) (d : Fin 256) :
    kRows (F := Ideal) (allH m c) b (ix2 p d) = embs m c (ix3 b p d) := by
  rw [kRows_apply]
  show tileH m c (ptOf (rowOf b p)) (ix2 (inBlk (rowOf b p)) d) = _
  unfold tileH
  rw [pay270_apply, ← pay266_apply, emb_pt]

/-- What the rounding drops of it. -/
theorem rows_lo (c : Dev nD) (b : Fin 8) (p : Fin 4096) (d : Fin 256) :
    kRows (F := Ideal) (allL m c) b (ix2 p d) = embs m c (ix3 b p d) - embs m c (ix3 b p d) := by
  rw [kRows_apply]
  show tileL m c (ptOf (rowOf b p)) (ix2 (inBlk (rowOf b p)) d) = _
  unfold tileL
  rw [low_apply, emb_pt]

/-- An attention logit of the scratch. -/
theorem logits_all (c : Dev nD) (b : Fin 8) (p : Fin 4096) :
    kLogits (F := Ideal) (allG m c) b (ix2 0 p) = atts m c (ix2 b p) := by
  rw [kLogits_apply]
  show tileG m c (ptOf (rowOf b p)) (ix2 0 (inBlk (rowOf b p))) = _
  unfold tileG atts
  rw [logit_apply, rAtt_apply]
  refine congrArg₂ (· + ·) (Finset.sum_congr rfl fun y _ => congrArg₂ (· * ·) (congrArg Ideal.tanh (congrArg₂ (· + ·)
    (Finset.sum_congr rfl fun z _ => congrArg₂ (· * ·) (emb_pt m c b p z) ?_) ?_)) ?_) ?_
  · rw [iblk_3, V_main_arg3]
  · rw [iblk_4, V_v8]
  · rw [iblk_5, V_main_arg5]
  · rw [iblk_6, V_v9]

/-! ## Finite arguments -/

/-- A maximum of a sum of products of reals is real. -/
theorem emb_real (c : Dev nD) (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal)) (b : Fin 8) (p : Fin 4096) (d : Fin 256) :
    ∃ r : ℝ, embs m c (ix3 b p d) = (r : EReal) := by
  choose f0 h0 using h0
  choose f1 h1 using h1
  choose f2 h2 using h2
  refine ⟨max (∑ x : Fin 1024, f0 (ix3 b p x) * f1 (ix2 x d) + f2 (ix1 d)) 0, ?_⟩
  unfold embs
  rw [rEmb_apply, coe_max, EReal.coe_add, ← coe_sum, h2]
  refine congrArg₂ max (congrArg (· + _) (Finset.sum_congr rfl fun x _ => ?_)) EReal.coe_zero.symm
  rw [h0, h1, EReal.coe_mul]

/-- The scratches hold a bag's embeddings. -/
theorem bag_of (c : Dev nD) (e : Fin 8 → Fin 4096 → Fin 256 → ℝ) (he : ∀ b p d, embs m c (ix3 b p d) = (e b p d : EReal)) (b : Fin 8) :
    Bag (e b) (kRows (F := Ideal) (allH m c) b) (kRows (F := Ideal) (allL m c) b) (embs m c) b where
  hi p d := by rw [rows_hi, he]
  lo p d := by rw [rows_lo, he, ← EReal.coe_sub, sub_self, EReal.coe_zero]
  ref p d := he b p d

end Cert.KernelIdeal.Own

end
-- ==== Proof.Finite.lean ====
module

public import proofs.«01_k».proof.Proof.RefEval
public import proofs.«01_k».proof.Pre_finite

@[expose] public section

noncomputable section

namespace Cert.Own

open Idealize.ShloMosaic

/-- The precondition's side conditions. -/
theorem finiteFacts : Cert.Pre_finite.Facts where
  bcast_S_S8x4096x1024 := by decide
  bcast_S_S1024x256 := by decide
  bcast_S_S256 := by decide

/-- An array whose absolute values are all below infinity is an array of reals. -/
theorem real_of_lt {s : Shape} (a : FVec Ideal s .f32) (t : FVec Ideal s .f32) (ht : ∀ i, t i = (⊤ : EReal))
    (h : cmpf .olt (Host.absf a) t = fun _ => 1#1) (i : s.Idx) : ∃ r : ℝ, a i = (r : EReal) := by
  have h' : BitVec.ofBool (decide (max (a i) (-(a i)) < t i)) = 1#1 := congrFun h i
  rw [ht] at h'
  have hlt : max (a i) (-(a i)) < (⊤ : EReal) := by
    by_contra hn
    rw [decide_eq_false hn] at h'
    exact absurd h' (by decide)
  generalize a i = x at hlt ⊢
  induction x using EReal.rec with
  | bot => exact absurd hlt (by simp)
  | top => exact absurd hlt (by simp)
  | coe r => exact ⟨r, rfl⟩

end Cert.Own

end
-- ==== Proof.Equal.lean ====
module

public import proofs.«01_k».proof.Proof.Final
public import proofs.«01_k».proof.Proof.Embeds
public import proofs.«01_k».proof.Proof.Finite

@[expose] public section

set_option maxRecDepth 16384

noncomputable section

namespace Cert.KernelIdeal.Own

open Cert.KernelIdeal.Gen
open Idealize.ShloMosaic Idealize.ShloMosaic.TcCoe
open Cert.ReferenceIdeal.Own (rHead rLab rDist)
open Cert.Own (rRegs rCent5 bag_eq)

variable (m : (ℓ : Loc nD τ sig) → Buf (Elt Ideal) ℓ)

/-- The reference's result on the launch's arguments. -/
def scores (c : Dev nD) : Vec Ideal S8x2 .f32 :=
  rHead (F := Ideal) (rRegs (embs m c) (atts m c) (rLab (F := Ideal) (rDist (F := Ideal) (embs m c) (rCent5 (embs m c)))))
    (constant (F := Ideal) Cert.ReferenceIdeal.S_ .f32 0x3F800054#32) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- The kernel's result is the reference's where the bags and the encoder's weights and bias are finite. -/
theorem out_eq (c : Dev nD) (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal)) :
    (fun y : S8x2.Idx => outv m c (ix3 (y 0) 0 ⟨(y 1).val, by have : (y 1).val < 2 := (y 1).isLt; omega⟩)) = scores m c := by
  choose e he using fun b p d => emb_real m c h0 h1 h2 b p d
  funext y
  obtain ⟨b, j, rfl⟩ : ∃ b j, y = ix2 b j := ⟨y 0, y 1, by funext a; match a with | ⟨0, _⟩ => rfl | ⟨1, _⟩ => rfl⟩
  show kBag (F := Ideal) (allH m c) (allL m c) (allG m c) b (iblk m c 7 lastPt) (iblk m c 8 lastPt) (iblk m c 9 lastPt) (iblk m c 10 lastPt) (iblk m c 11 lastPt) (iblk m c 12 lastPt) (iblk m c 13 lastPt) (iblk m c 14 lastPt) (iblk m c 15 lastPt) (iblk m c 16 lastPt) (iblk m c 17 lastPt) (iblk m c 18 lastPt)
    (ix3 0 0 ⟨j.val, by omega⟩) = _
  rw [iblk_9, iblk_11, iblk_13, V_main_arg9, V_main_arg11, V_main_arg13]
  exact bag_eq (bag_of m c e he b) (logits_all m c b)
    (fun d => (congrFun (iblk_7 m c lastPt) _).trans (V_v10 m c d)) (fun d => (congrFun (iblk_8 m c lastPt) _).trans (V_v11 m c d))
    (fun d => (congrFun (iblk_10 m c lastPt) _).trans (V_v12 m c d)) (fun d => (congrFun (iblk_12 m c lastPt) _).trans (V_v13 m c d))
    ((congrFun (iblk_14 m c lastPt) _).trans (V_v14 m c 0))
    (fun d => (congrFun (iblk_15 m c lastPt) _).trans (V_v15 m c d)) (fun d => (congrFun (iblk_16 m c lastPt) _).trans (V_v16 m c d)) j
    (fun x => (congrFun (iblk_17 m c lastPt) _).trans (V_v2 m c x j)) ((congrFun (iblk_18 m c lastPt) _).trans (V_v6 m c j))

end Cert.KernelIdeal.Own

end
-- ==== Proof.RefResult.lean ====
module

public import proofs.«01_k».proof.Proof.Meet

@[expose] public section

set_option maxRecDepth 16384

noncomputable section

namespace Cert.ReferenceIdeal.Own

open Idealize.ShloMosaic Idealize.SL.Sem
open Cert.Own (rRegs rCent5)

/-- What the reference leaves in its result, from its arguments. -/
theorem result (m : (ℓ : Loc nD τ sig) → Buf (Elt Ideal) ℓ) (d : Dev nD) :
    StableHlo.after (allOps (F := Ideal)) (StableHlo.launchContents m d) (Proc.devRef .tc main_v315)
      = rHead (F := Ideal) (rRegs (rEmb (F := Ideal) (m ((d.tc : Thread nD τ).loc main_arg0)) (m ((d.tc : Thread nD τ).loc main_arg1)) (m ((d.tc : Thread nD τ).loc main_arg2)))
            (rAtt (F := Ideal) (rEmb (F := Ideal) (m ((d.tc : Thread nD τ).loc main_arg0)) (m ((d.tc : Thread nD τ).loc main_arg1)) (m ((d.tc : Thread nD τ).loc main_arg2))) (m ((d.tc : Thread nD τ).loc main_arg3)) (m ((d.tc : Thread nD τ).loc main_arg4)) (m ((d.tc : Thread nD τ).loc main_arg5)) (m ((d.tc : Thread nD τ).loc main_arg6)))
            (rLab (F := Ideal) (rDist (F := Ideal) (rEmb (F := Ideal) (m ((d.tc : Thread nD τ).loc main_arg0)) (m ((d.tc : Thread nD τ).loc main_arg1)) (m ((d.tc : Thread nD τ).loc main_arg2))) (rCent5 (rEmb (F := Ideal) (m ((d.tc : Thread nD τ).loc main_arg0)) (m ((d.tc : Thread nD τ).loc main_arg1)) (m ((d.tc : Thread nD τ).loc main_arg2)))))))
          (constant (F := Ideal) S_ .f32 0x3F800054#32) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  unfold allOps
  rw [after_two seg0 _, after_two seg1 _, after_two seg2 _, after_two seg3 _, after_two seg4 _, after_two seg5 _, after_two seg6 _, after_two seg7 _, after_two seg8 _, after_two seg9 _, after_two seg10 _, after_two seg11 _, after_two seg12 _, after_two seg13 _, after_two seg14 _, after_two seg15 _]
  have ha : ∀ b : Ref sig .tc, StableHlo.launchContents m d (Proc.devRef .tc b) = m ((d.tc : Thread nD τ).loc b) := fun _ => rfl
  generalize StableHlo.launchContents m d = V0 at ha ⊢
  have k0 : ∀ (b : Ref sig .tc), b.idx.val < 19 → StableHlo.after seg0 V0 (Proc.devRef .tc b) = V0 (Proc.devRef .tc b) :=
    fun b hb => seg0_from.keeps b hb V0
  have e_v5 := seg0_v5 V0
  have e_v10 := seg0_v10 V0
  generalize StableHlo.after seg0 V0 = V1 at k0 e_v5 e_v10 ⊢
  have k1 : ∀ (b : Ref sig .tc), b.idx.val < 35 → StableHlo.after seg1 V1 (Proc.devRef .tc b) = V1 (Proc.devRef .tc b) :=
    fun b hb => seg1_from.keeps b hb V1
  have e_v18 := seg1_v18 V1
  generalize StableHlo.after seg1 V1 = V2 at k1 e_v18 ⊢
  have k2 : ∀ (b : Ref sig .tc), b.idx.val < 48 → StableHlo.after seg2 V2 (Proc.devRef .tc b) = V2 (Proc.devRef .tc b) :=
    fun b hb => seg2_from.keeps b hb V2
  have e_v45 := seg2_v45 V2
  generalize StableHlo.after seg2 V2 = V3 at k2 e_v45 ⊢
  have k3 : ∀ (b : Ref sig .tc), b.idx.val < 91 → StableHlo.after seg3 V3 (Proc.devRef .tc b) = V3 (Proc.devRef .tc b) :=
    fun b hb => seg3_from.keeps b hb V3
  have e_v53 := seg3_v53 V3
  generalize StableHlo.after seg3 V3 = V4 at k3 e_v53 ⊢
  have k4 : ∀ (b : Ref sig .tc), b.idx.val < 104 → StableHlo.after seg4 V4 (Proc.devRef .tc b) = V4 (Proc.devRef .tc b) :=
    fun b hb => seg4_from.keeps b hb V4
  have e_v80 := seg4_v80 V4
  generalize StableHlo.after seg4 V4 = V5 at k4 e_v80 ⊢
  have k5 : ∀ (b : Ref sig .tc), b.idx.val < 147 → StableHlo.after seg5 V5 (Proc.devRef .tc b) = V5 (Proc.devRef .tc b) :=
    fun b hb => seg5_from.keeps b hb V5
  have e_v88 := seg5_v88 V5
  generalize StableHlo.after seg5 V5 = V6 at k5 e_v88 ⊢
  have k6 : ∀ (b : Ref sig .tc), b.idx.val < 160 → StableHlo.after seg6 V6 (Proc.devRef .tc b) = V6 (Proc.devRef .tc b) :=
    fun b hb => seg6_from.keeps b hb V6
  have e_v115 := seg6_v115 V6
  generalize StableHlo.after seg6 V6 = V7 at k6 e_v115 ⊢
  have k7 : ∀ (b : Ref sig .tc), b.idx.val < 203 → StableHlo.after seg7 V7 (Proc.devRef .tc b) = V7 (Proc.devRef .tc b) :=
    fun b hb => seg7_from.keeps b hb V7
  have e_v123 := seg7_v123 V7
  generalize StableHlo.after seg7 V7 = V8 at k7 e_v123 ⊢
  have k8 : ∀ (b : Ref sig .tc), b.idx.val < 216 → StableHlo.after seg8 V8 (Proc.devRef .tc b) = V8 (Proc.devRef .tc b) :=
    fun b hb => seg8_from.keeps b hb V8
  have e_v150 := seg8_v150 V8
  generalize StableHlo.after seg8 V8 = V9 at k8 e_v150 ⊢
  have k9 : ∀ (b : Ref sig .tc), b.idx.val < 259 → StableHlo.after seg9 V9 (Proc.devRef .tc b) = V9 (Proc.devRef .tc b) :=
    fun b hb => seg9_from.keeps b hb V9
  have e_v158 := seg9_v158 V9
  generalize StableHlo.after seg9 V9 = V10 at k9 e_v158 ⊢
  have k10 : ∀ (b : Ref sig .tc), b.idx.val < 272 → StableHlo.after seg10 V10 (Proc.devRef .tc b) = V10 (Proc.devRef .tc b) :=
    fun b hb => seg10_from.keeps b hb V10
  have e_v185 := seg10_v185 V10
  generalize StableHlo.after seg10 V10 = V11 at k10 e_v185 ⊢
  have k11 : ∀ (b : Ref sig .tc), b.idx.val < 315 → StableHlo.after seg11 V11 (Proc.devRef .tc b) = V11 (Proc.devRef .tc b) :=
    fun b hb => seg11_from.keeps b hb V11
  have e_v193 := seg11_v193 V11
  generalize StableHlo.after seg11 V11 = V12 at k11 e_v193 ⊢
  have k12 : ∀ (b : Ref sig .tc), b.idx.val < 328 → StableHlo.after seg12 V12 (Proc.devRef .tc b) = V12 (Proc.devRef .tc b) :=
    fun b hb => seg12_from.keeps b hb V12
  have e_v205 := seg12_v205 V12
  generalize StableHlo.after seg12 V12 = V13 at k12 e_v205 ⊢
  have k13 : ∀ (b : Ref sig .tc), b.idx.val < 340 → StableHlo.after seg13 V13 (Proc.devRef .tc b) = V13 (Proc.devRef .tc b) :=
    fun b hb => seg13_from.keeps b hb V13
  have e_v224 := seg13_v224 V13
  generalize StableHlo.after seg13 V13 = V14 at k13 e_v224 ⊢
  have k14 : ∀ (b : Ref sig .tc), b.idx.val < 367 → StableHlo.after seg14 V14 (Proc.devRef .tc b) = V14 (Proc.devRef .tc b) :=
    fun b hb => seg14_from.keeps b hb V14
  have e_v249 := seg14_v249 V14
  generalize StableHlo.after seg14 V14 = V15 at k14 e_v249 ⊢
  have k15 : ∀ (b : Ref sig .tc), b.idx.val < 401 → StableHlo.after seg15 V15 (Proc.devRef .tc b) = V15 (Proc.devRef .tc b) :=
    fun b hb => seg15_from.keeps b hb V15
  have e_v261 := seg15_v261 V15
  have e_cst_48 := seg15_cst_48 V15
  generalize StableHlo.after seg15 V15 = V16 at k15 e_v261 e_cst_48 ⊢
  have k16 : ∀ (b : Ref sig .tc), b.idx.val < 421 → StableHlo.after seg16 V16 (Proc.devRef .tc b) = V16 (Proc.devRef .tc b) :=
    fun b hb => seg16_from.keeps b hb V16
  have e_v315 := seg16_v315 V16
  generalize StableHlo.after seg16 V16 = V17 at k16 e_v315 ⊢
  rw [e_v315]
  rw [k15 main_arg7 (by decide), k14 main_arg7 (by decide), k13 main_arg7 (by decide), k12 main_arg7 (by decide), k11 main_arg7 (by decide), k10 main_arg7 (by decide), k9 main_arg7 (by decide), k8 main_arg7 (by decide), k7 main_arg7 (by decide), k6 main_arg7 (by decide), k5 main_arg7 (by decide), k4 main_arg7 (by decide), k3 main_arg7 (by decide), k2 main_arg7 (by decide), k1 main_arg7 (by decide), k0 main_arg7 (by decide), k15 main_arg8 (by decide), k14 main_arg8 (by decide), k13 main_arg8 (by decide), k12 main_arg8 (by decide), k11 main_arg8 (by decide), k10 main_arg8 (by decide), k9 main_arg8 (by decide), k8 main_arg8 (by decide), k7 main_arg8 (by decide), k6 main_arg8 (by decide), k5 main_arg8 (by decide), k4 main_arg8 (by decide), k3 main_arg8 (by decide), k2 main_arg8 (by decide), k1 main_arg8 (by decide), k0 main_arg8 (by decide), k15 main_arg9 (by decide), k14 main_arg9 (by decide), k13 main_arg9 (by decide), k12 main_arg9 (by decide), k11 main_arg9 (by decide), k10 main_arg9 (by decide), k9 main_arg9 (by decide), k8 main_arg9 (by decide), k7 main_arg9 (by decide), k6 main_arg9 (by decide), k5 main_arg9 (by decide), k4 main_arg9 (by decide), k3 main_arg9 (by decide), k2 main_arg9 (by decide), k1 main_arg9 (by decide), k0 main_arg9 (by decide), k15 main_arg10 (by decide), k14 main_arg10 (by decide), k13 main_arg10 (by decide), k12 main_arg10 (by decide), k11 main_arg10 (by decide), k10 main_arg10 (by decide), k9 main_arg10 (by decide), k8 main_arg10 (by decide), k7 main_arg10 (by decide), k6 main_arg10 (by decide), k5 main_arg10 (by decide), k4 main_arg10 (by decide), k3 main_arg10 (by decide), k2 main_arg10 (by decide), k1 main_arg10 (by decide), k0 main_arg10 (by decide), k15 main_arg11 (by decide), k14 main_arg11 (by decide), k13 main_arg11 (by decide), k12 main_arg11 (by decide), k11 main_arg11 (by decide), k10 main_arg11 (by decide), k9 main_arg11 (by decide), k8 main_arg11 (by decide), k7 main_arg11 (by decide), k6 main_arg11 (by decide), k5 main_arg11 (by decide), k4 main_arg11 (by decide), k3 main_arg11 (by decide), k2 main_arg11 (by decide), k1 main_arg11 (by decide), k0 main_arg11 (by decide), k15 main_arg12 (by decide), k14 main_arg12 (by decide), k13 main_arg12 (by decide), k12 main_arg12 (by decide), k11 main_arg12 (by decide), k10 main_arg12 (by decide), k9 main_arg12 (by decide), k8 main_arg12 (by decide), k7 main_arg12 (by decide), k6 main_arg12 (by decide), k5 main_arg12 (by decide), k4 main_arg12 (by decide), k3 main_arg12 (by decide), k2 main_arg12 (by decide), k1 main_arg12 (by decide), k0 main_arg12 (by decide), k15 main_arg13 (by decide), k14 main_arg13 (by decide), k13 main_arg13 (by decide), k12 main_arg13 (by decide), k11 main_arg13 (by decide), k10 main_arg13 (by decide), k9 main_arg13 (by decide), k8 main_arg13 (by decide), k7 main_arg13 (by decide), k6 main_arg13 (by decide), k5 main_arg13 (by decide), k4 main_arg13 (by decide), k3 main_arg13 (by decide), k2 main_arg13 (by decide), k1 main_arg13 (by decide), k0 main_arg13 (by decide), k15 main_arg14 (by decide), k14 main_arg14 (by decide), k13 main_arg14 (by decide), k12 main_arg14 (by decide), k11 main_arg14 (by decide), k10 main_arg14 (by decide), k9 main_arg14 (by decide), k8 main_arg14 (by decide), k7 main_arg14 (by decide), k6 main_arg14 (by decide), k5 main_arg14 (by decide), k4 main_arg14 (by decide), k3 main_arg14 (by decide), k2 main_arg14 (by decide), k1 main_arg14 (by decide), k0 main_arg14 (by decide), k15 main_arg15 (by decide), k14 main_arg15 (by decide), k13 main_arg15 (by decide), k12 main_arg15 (by decide), k11 main_arg15 (by decide), k10 main_arg15 (by decide), k9 main_arg15 (by decide), k8 main_arg15 (by decide), k7 main_arg15 (by decide), k6 main_arg15 (by decide), k5 main_arg15 (by decide), k4 main_arg15 (by decide), k3 main_arg15 (by decide), k2 main_arg15 (by decide), k1 main_arg15 (by decide), k0 main_arg15 (by decide), k15 main_arg16 (by decide), k14 main_arg16 (by decide), k13 main_arg16 (by decide), k12 main_arg16 (by decide), k11 main_arg16 (by decide), k10 main_arg16 (by decide), k9 main_arg16 (by decide), k8 main_arg16 (by decide), k7 main_arg16 (by decide), k6 main_arg16 (by decide), k5 main_arg16 (by decide), k4 main_arg16 (by decide), k3 main_arg16 (by decide), k2 main_arg16 (by decide), k1 main_arg16 (by decide), k0 main_arg16 (by decide), k15 main_arg17 (by decide), k14 main_arg17 (by decide), k13 main_arg17 (by decide), k12 main_arg17 (by decide), k11 main_arg17 (by decide), k10 main_arg17 (by decide), k9 main_arg17 (by decide), k8 main_arg17 (by decide), k7 main_arg17 (by decide), k6 main_arg17 (by decide), k5 main_arg17 (by decide), k4 main_arg17 (by decide), k3 main_arg17 (by decide), k2 main_arg17 (by decide), k1 main_arg17 (by decide), k0 main_arg17 (by decide), k15 main_arg18 (by decide), k14 main_arg18 (by decide), k13 main_arg18 (by decide), k12 main_arg18 (by decide), k11 main_arg18 (by decide), k10 main_arg18 (by decide), k9 main_arg18 (by decide), k8 main_arg18 (by decide), k7 main_arg18 (by decide), k6 main_arg18 (by decide), k5 main_arg18 (by decide), k4 main_arg18 (by decide), k3 main_arg18 (by decide), k2 main_arg18 (by decide), k1 main_arg18 (by decide), k0 main_arg18 (by decide)]
  rw [e_v261, e_cst_48]
  rw [k14 main_v5 (by decide), k13 main_v5 (by decide), k12 main_v5 (by decide), k11 main_v5 (by decide), k10 main_v5 (by decide), k9 main_v5 (by decide), k8 main_v5 (by decide), k7 main_v5 (by decide), k6 main_v5 (by decide), k5 main_v5 (by decide), k4 main_v5 (by decide), k3 main_v5 (by decide), k2 main_v5 (by decide), k1 main_v5 (by decide), k14 main_v193 (by decide), k13 main_v193 (by decide), k12 main_v193 (by decide)]
  rw [e_v249]
  rw [k13 main_v193 (by decide), k12 main_v193 (by decide)]
  rw [e_v224]
  rw [k12 main_v193 (by decide)]
  rw [e_v205]
  rw [k11 main_v5 (by decide), k10 main_v5 (by decide), k9 main_v5 (by decide), k8 main_v5 (by decide), k7 main_v5 (by decide), k6 main_v5 (by decide), k5 main_v5 (by decide), k4 main_v5 (by decide), k3 main_v5 (by decide), k2 main_v5 (by decide), k1 main_v5 (by decide), k11 main_arg3 (by decide), k10 main_arg3 (by decide), k9 main_arg3 (by decide), k8 main_arg3 (by decide), k7 main_arg3 (by decide), k6 main_arg3 (by decide), k5 main_arg3 (by decide), k4 main_arg3 (by decide), k3 main_arg3 (by decide), k2 main_arg3 (by decide), k1 main_arg3 (by decide), k0 main_arg3 (by decide), k11 main_arg4 (by decide), k10 main_arg4 (by decide), k9 main_arg4 (by decide), k8 main_arg4 (by decide), k7 main_arg4 (by decide), k6 main_arg4 (by decide), k5 main_arg4 (by decide), k4 main_arg4 (by decide), k3 main_arg4 (by decide), k2 main_arg4 (by decide), k1 main_arg4 (by decide), k0 main_arg4 (by decide), k11 main_arg5 (by decide), k10 main_arg5 (by decide), k9 main_arg5 (by decide), k8 main_arg5 (by decide), k7 main_arg5 (by decide), k6 main_arg5 (by decide), k5 main_arg5 (by decide), k4 main_arg5 (by decide), k3 main_arg5 (by decide), k2 main_arg5 (by decide), k1 main_arg5 (by decide), k0 main_arg5 (by decide), k11 main_arg6 (by decide), k10 main_arg6 (by decide), k9 main_arg6 (by decide), k8 main_arg6 (by decide), k7 main_arg6 (by decide), k6 main_arg6 (by decide), k5 main_arg6 (by decide), k4 main_arg6 (by decide), k3 main_arg6 (by decide), k2 main_arg6 (by decide), k1 main_arg6 (by decide), k0 main_arg6 (by decide)]
  rw [e_v193]
  rw [k10 main_v5 (by decide), k9 main_v5 (by decide), k8 main_v5 (by decide), k7 main_v5 (by decide), k6 main_v5 (by decide), k5 main_v5 (by decide), k4 main_v5 (by decide), k3 main_v5 (by decide), k2 main_v5 (by decide), k1 main_v5 (by decide)]
  rw [e_v185]
  rw [k9 main_v5 (by decide), k8 main_v5 (by decide), k7 main_v5 (by decide), k6 main_v5 (by decide), k5 main_v5 (by decide), k4 main_v5 (by decide), k3 main_v5 (by decide), k2 main_v5 (by decide), k1 main_v5 (by decide)]
  rw [e_v158]
  rw [k8 main_v5 (by decide), k7 main_v5 (by decide), k6 main_v5 (by decide), k5 main_v5 (by decide), k4 main_v5 (by decide), k3 main_v5 (by decide), k2 main_v5 (by decide), k1 main_v5 (by decide)]
  rw [e_v150]
  rw [k7 main_v5 (by decide), k6 main_v5 (by decide), k5 main_v5 (by decide), k4 main_v5 (by decide), k3 main_v5 (by decide), k2 main_v5 (by decide), k1 main_v5 (by decide)]
  rw [e_v123]
  rw [k6 main_v5 (by decide), k5 main_v5 (by decide), k4 main_v5 (by decide), k3 main_v5 (by decide), k2 main_v5 (by decide), k1 main_v5 (by decide)]
  rw [e_v115]
  rw [k5 main_v5 (by decide), k4 main_v5 (by decide), k3 main_v5 (by decide), k2 main_v5 (by decide), k1 main_v5 (by decide)]
  rw [e_v88]
  rw [k4 main_v5 (by decide), k3 main_v5 (by decide), k2 main_v5 (by decide), k1 main_v5 (by decide)]
  rw [e_v80]
  rw [k3 main_v5 (by decide), k2 main_v5 (by decide), k1 main_v5 (by decide)]
  rw [e_v53]
  rw [k2 main_v5 (by decide), k1 main_v5 (by decide)]
  rw [e_v45]
  rw [k1 main_v5 (by decide)]
  rw [e_v18]
  rw [e_v10, e_v5]
  simp only [ha]
  rfl

end Cert.ReferenceIdeal.Own

end
-- ==== Proof.lean ====
/- The certificate's claim, assembled from the modules under Proof/. -/
module

public import proofs.«01_k».proof.Defs
public import proofs.«01_k».proof.Proof.KFrame
public import proofs.«01_k».proof.Proof.Equal
public import proofs.«01_k».proof.Proof.RefResult

@[expose] public section

set_option maxRecDepth 16384

noncomputable section

namespace Cert.Proof

open Idealize.ShloMosaic Idealize.ShloMosaic.TcCoe Idealize.SL.Sem

/-- The exact-arithmetic kernel runs and leaves its arguments as they were. -/
theorem frameKernelIdeal : Cert.quiescent_KernelIdeal (hKernelIdeal := Cert.KernelIdeal.Gen.facts) := fun m g _ =>
  (θ_run Cert.KernelIdeal.defs _ _).mono (fun _ h => ⟨h.1, h.2.2⟩) (Cert.KernelIdeal.Own.outcome (F := Ideal) m g)

/-- The reference runs and leaves its arguments as they were. -/
theorem frameReferenceIdeal : Cert.quiescent_ReferenceIdeal (hReferenceIdeal := Cert.ReferenceIdeal.Own.facts) := fun m g _ =>
  (θ_run Cert.ReferenceIdeal.defs _ _).mono (fun _ h => ⟨fun c => ⟨
    (h.1 c Cert.ReferenceIdeal.main_arg0).trans (Cert.ReferenceIdeal.Own.kept m c Cert.ReferenceIdeal.main_arg0 (by decide)),
    (h.1 c Cert.ReferenceIdeal.main_arg1).trans (Cert.ReferenceIdeal.Own.kept m c Cert.ReferenceIdeal.main_arg1 (by decide)),
    (h.1 c Cert.ReferenceIdeal.main_arg2).trans (Cert.ReferenceIdeal.Own.kept m c Cert.ReferenceIdeal.main_arg2 (by decide)),
    (h.1 c Cert.ReferenceIdeal.main_arg3).trans (Cert.ReferenceIdeal.Own.kept m c Cert.ReferenceIdeal.main_arg3 (by decide)),
    (h.1 c Cert.ReferenceIdeal.main_arg4).trans (Cert.ReferenceIdeal.Own.kept m c Cert.ReferenceIdeal.main_arg4 (by decide)),
    (h.1 c Cert.ReferenceIdeal.main_arg5).trans (Cert.ReferenceIdeal.Own.kept m c Cert.ReferenceIdeal.main_arg5 (by decide)),
    (h.1 c Cert.ReferenceIdeal.main_arg6).trans (Cert.ReferenceIdeal.Own.kept m c Cert.ReferenceIdeal.main_arg6 (by decide)),
    (h.1 c Cert.ReferenceIdeal.main_arg7).trans (Cert.ReferenceIdeal.Own.kept m c Cert.ReferenceIdeal.main_arg7 (by decide)),
    (h.1 c Cert.ReferenceIdeal.main_arg8).trans (Cert.ReferenceIdeal.Own.kept m c Cert.ReferenceIdeal.main_arg8 (by decide)),
    (h.1 c Cert.ReferenceIdeal.main_arg9).trans (Cert.ReferenceIdeal.Own.kept m c Cert.ReferenceIdeal.main_arg9 (by decide)),
    (h.1 c Cert.ReferenceIdeal.main_arg10).trans (Cert.ReferenceIdeal.Own.kept m c Cert.ReferenceIdeal.main_arg10 (by decide)),
    (h.1 c Cert.ReferenceIdeal.main_arg11).trans (Cert.ReferenceIdeal.Own.kept m c Cert.ReferenceIdeal.main_arg11 (by decide)),
    (h.1 c Cert.ReferenceIdeal.main_arg12).trans (Cert.ReferenceIdeal.Own.kept m c Cert.ReferenceIdeal.main_arg12 (by decide)),
    (h.1 c Cert.ReferenceIdeal.main_arg13).trans (Cert.ReferenceIdeal.Own.kept m c Cert.ReferenceIdeal.main_arg13 (by decide)),
    (h.1 c Cert.ReferenceIdeal.main_arg14).trans (Cert.ReferenceIdeal.Own.kept m c Cert.ReferenceIdeal.main_arg14 (by decide)),
    (h.1 c Cert.ReferenceIdeal.main_arg15).trans (Cert.ReferenceIdeal.Own.kept m c Cert.ReferenceIdeal.main_arg15 (by decide)),
    (h.1 c Cert.ReferenceIdeal.main_arg16).trans (Cert.ReferenceIdeal.Own.kept m c Cert.ReferenceIdeal.main_arg16 (by decide)),
    (h.1 c Cert.ReferenceIdeal.main_arg17).trans (Cert.ReferenceIdeal.Own.kept m c Cert.ReferenceIdeal.main_arg17 (by decide)),
    (h.1 c Cert.ReferenceIdeal.main_arg18).trans (Cert.ReferenceIdeal.Own.kept m c Cert.ReferenceIdeal.main_arg18 (by decide))⟩, h.2⟩)
  (Cert.ReferenceIdeal.Own.run (F := Ideal) m g)

/-- From arguments finite where the claim asks and equal on both sides, the two programs' results are equal. -/
theorem equal : Cert.algebraic_KernelIdeal_ReferenceIdeal_pre_finite (hKernelIdeal := Cert.KernelIdeal.Gen.facts)
    (hReferenceIdeal := Cert.ReferenceIdeal.Own.facts) (hPre_finite := Cert.Own.finiteFacts) := by
  intro m g m' g' pre agree
  refine ⟨fun c => Cert.KernelIdeal.Own.scores m c, ?_, ?_⟩
  · refine (θ_run Cert.KernelIdeal.defs _ _).mono (fun _ h c => ⟨(h.2.1 c).trans ?_, h.1 c⟩) (Cert.KernelIdeal.Own.outcome (F := Ideal) m g)
    obtain ⟨p0, p1, p2⟩ := pre c
    exact Cert.KernelIdeal.Own.out_eq m c (Cert.Own.real_of_lt _ _ (fun _ => Cert.ReferenceIdeal.Own.ofBits_top) p0)
      (Cert.Own.real_of_lt _ _ (fun _ => Cert.ReferenceIdeal.Own.ofBits_top) p1)
      (Cert.Own.real_of_lt _ _ (fun _ => Cert.ReferenceIdeal.Own.ofBits_top) p2)
  · refine (θ_run Cert.ReferenceIdeal.defs _ _).mono (fun _ h c => ⟨(h.1 c Cert.ReferenceIdeal.main_v315).trans
      ((Cert.ReferenceIdeal.Own.result m' c).trans ?_),
    (h.1 c Cert.ReferenceIdeal.main_arg0).trans (Cert.ReferenceIdeal.Own.kept m' c Cert.ReferenceIdeal.main_arg0 (by decide)),
    (h.1 c Cert.ReferenceIdeal.main_arg1).trans (Cert.ReferenceIdeal.Own.kept m' c Cert.ReferenceIdeal.main_arg1 (by decide)),
    (h.1 c Cert.ReferenceIdeal.main_arg2).trans (Cert.ReferenceIdeal.Own.kept m' c Cert.ReferenceIdeal.main_arg2 (by decide)),
    (h.1 c Cert.ReferenceIdeal.main_arg3).trans (Cert.ReferenceIdeal.Own.kept m' c Cert.ReferenceIdeal.main_arg3 (by decide)),
    (h.1 c Cert.ReferenceIdeal.main_arg4).trans (Cert.ReferenceIdeal.Own.kept m' c Cert.ReferenceIdeal.main_arg4 (by decide)),
    (h.1 c Cert.ReferenceIdeal.main_arg5).trans (Cert.ReferenceIdeal.Own.kept m' c Cert.ReferenceIdeal.main_arg5 (by decide)),
    (h.1 c Cert.ReferenceIdeal.main_arg6).trans (Cert.ReferenceIdeal.Own.kept m' c Cert.ReferenceIdeal.main_arg6 (by decide)),
    (h.1 c Cert.ReferenceIdeal.main_arg7).trans (Cert.ReferenceIdeal.Own.kept m' c Cert.ReferenceIdeal.main_arg7 (by decide)),
    (h.1 c Cert.ReferenceIdeal.main_arg8).trans (Cert.ReferenceIdeal.Own.kept m' c Cert.ReferenceIdeal.main_arg8 (by decide)),
    (h.1 c Cert.ReferenceIdeal.main_arg9).trans (Cert.ReferenceIdeal.Own.kept m' c Cert.ReferenceIdeal.main_arg9 (by decide)),
    (h.1 c Cert.ReferenceIdeal.main_arg10).trans (Cert.ReferenceIdeal.Own.kept m' c Cert.ReferenceIdeal.main_arg10 (by decide)),
    (h.1 c Cert.ReferenceIdeal.main_arg11).trans (Cert.ReferenceIdeal.Own.kept m' c Cert.ReferenceIdeal.main_arg11 (by decide)),
    (h.1 c Cert.ReferenceIdeal.main_arg12).trans (Cert.ReferenceIdeal.Own.kept m' c Cert.ReferenceIdeal.main_arg12 (by decide)),
    (h.1 c Cert.ReferenceIdeal.main_arg13).trans (Cert.ReferenceIdeal.Own.kept m' c Cert.ReferenceIdeal.main_arg13 (by decide)),
    (h.1 c Cert.ReferenceIdeal.main_arg14).trans (Cert.ReferenceIdeal.Own.kept m' c Cert.ReferenceIdeal.main_arg14 (by decide)),
    (h.1 c Cert.ReferenceIdeal.main_arg15).trans (Cert.ReferenceIdeal.Own.kept m' c Cert.ReferenceIdeal.main_arg15 (by decide)),
    (h.1 c Cert.ReferenceIdeal.main_arg16).trans (Cert.ReferenceIdeal.Own.kept m' c Cert.ReferenceIdeal.main_arg16 (by decide)),
    (h.1 c Cert.ReferenceIdeal.main_arg17).trans (Cert.ReferenceIdeal.Own.kept m' c Cert.ReferenceIdeal.main_arg17 (by decide)),
    (h.1 c Cert.ReferenceIdeal.main_arg18).trans (Cert.ReferenceIdeal.Own.kept m' c Cert.ReferenceIdeal.main_arg18 (by decide))⟩)
      (Cert.ReferenceIdeal.Own.run (F := Ideal) m' g')
    obtain ⟨e0, e1, e2, e3, e4, e5, e6, e7, e8, e9, e10, e11, e12, e13, e14, e15, e16, e17, e18⟩ := agree c
    rw [e0, e1, e2, e3, e4, e5, e6, e7, e8, e9, e10, e11, e12, e13, e14, e15, e16, e17, e18]
    rfl

/-- Everything the certificate claims. -/
theorem claim : Cert.Claim :=
  ⟨Cert.Kernel.Gen.facts, Cert.KernelIdeal.Gen.facts, Cert.ReferenceIdeal.Own.facts, Cert.Own.finiteFacts,
    fun m g _ => Cert.Kernel.Own.frame (F := Bits) m g,
    frameKernelIdeal, fun m g _ => frameKernelIdeal m g trivial,
    frameReferenceIdeal, fun m g _ => frameReferenceIdeal m g trivial,
    ⟨IdealRules.named_const.statement Cert.KernelIdeal.κ "bn" .f32 0x3F800000#32 _ rfl,
      IdealRules.named_const.statement Cert.KernelIdeal.κ "mask" .f32 0xF149F2CA#32 _ rfl,
      IdealRules.named_const.statement Cert.KernelIdeal.κ "bn" .f32 0x3F7FFFAC#32 _ rfl⟩,
    equal⟩

end Cert.Proof

end
